-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_Band_BandIdeal : Prop :=
  IdealRules.named_const.Statement Cert.BandIdeal.κ "mask" .f32 0xF149F2CA#32 ⊥

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v41)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v41) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v106) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v89_0)) (v1 : (c : Dev Cert.ProjIdeal.nD) → Buf (Elt Ideal) ((c.tc : Thread Cert.ProjIdeal.nD Cert.ProjIdeal.τ).loc Cert.ProjIdeal.main_v89_1)) (v2 : (c : Dev Cert.ProjIdeal.nD) → Buf (Elt Ideal) ((c.tc : Thread Cert.ProjIdeal.nD Cert.ProjIdeal.τ).loc Cert.ProjIdeal.main_v89_2)) (v3 : (c : Dev Cert.ProjIdeal.nD) → Buf (Elt Ideal) ((c.tc : Thread Cert.ProjIdeal.nD Cert.ProjIdeal.τ).loc Cert.ProjIdeal.main_v89_3)) (v4 : (c : Dev Cert.ProjIdeal.nD) → Buf (Elt Ideal) ((c.tc : Thread Cert.ProjIdeal.nD Cert.ProjIdeal.τ).loc Cert.ProjIdeal.main_v89_4)) (v5 : (c : Dev Cert.ProjIdeal.nD) → Buf (Elt Ideal) ((c.tc : Thread Cert.ProjIdeal.nD Cert.ProjIdeal.τ).loc Cert.ProjIdeal.main_v89_5)) (v6 : (c : Dev Cert.ProjIdeal.nD) → Buf (Elt Ideal) ((c.tc : Thread Cert.ProjIdeal.nD Cert.ProjIdeal.τ).loc Cert.ProjIdeal.main_v89_6)) (v7 : (c : Dev Cert.ProjIdeal.nD) → Buf (Elt Ideal) ((c.tc : Thread Cert.ProjIdeal.nD Cert.ProjIdeal.τ).loc Cert.ProjIdeal.main_v89_7)) (v8 : (c : Dev Cert.ProjIdeal.nD) → Buf (Elt Ideal) ((c.tc : Thread Cert.ProjIdeal.nD Cert.ProjIdeal.τ).loc Cert.ProjIdeal.main_v89_8)) (v9 : (c : Dev Cert.ProjIdeal.nD) → Buf (Elt Ideal) ((c.tc : Thread Cert.ProjIdeal.nD Cert.ProjIdeal.τ).loc Cert.ProjIdeal.main_v89_9)) (v10 : (c : Dev Cert.ProjIdeal.nD) → Buf (Elt Ideal) ((c.tc : Thread Cert.ProjIdeal.nD Cert.ProjIdeal.τ).loc Cert.ProjIdeal.main_v89_10)) (v11 : (c : Dev Cert.ProjIdeal.nD) → Buf (Elt Ideal) ((c.tc : Thread Cert.ProjIdeal.nD Cert.ProjIdeal.τ).loc Cert.ProjIdeal.main_v89_11)) (v12 : (c : Dev Cert.ProjIdeal.nD) → Buf (Elt Ideal) ((c.tc : Thread Cert.ProjIdeal.nD Cert.ProjIdeal.τ).loc Cert.ProjIdeal.main_v89_12)) (v13 : (c : Dev Cert.ProjIdeal.nD) → Buf (Elt Ideal) ((c.tc : Thread Cert.ProjIdeal.nD Cert.ProjIdeal.τ).loc Cert.ProjIdeal.main_v89_13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v89_0) = v0 c
          ∧ r.2.mem ((c.tc : Thread Cert.ProjIdeal.nD Cert.ProjIdeal.τ).loc Cert.ProjIdeal.main_v89_1) = v1 c
          ∧ r.2.mem ((c.tc : Thread Cert.ProjIdeal.nD Cert.ProjIdeal.τ).loc Cert.ProjIdeal.main_v89_2) = v2 c
          ∧ r.2.mem ((c.tc : Thread Cert.ProjIdeal.nD Cert.ProjIdeal.τ).loc Cert.ProjIdeal.main_v89_3) = v3 c
          ∧ r.2.mem ((c.tc : Thread Cert.ProjIdeal.nD Cert.ProjIdeal.τ).loc Cert.ProjIdeal.main_v89_4) = v4 c
          ∧ r.2.mem ((c.tc : Thread Cert.ProjIdeal.nD Cert.ProjIdeal.τ).loc Cert.ProjIdeal.main_v89_5) = v5 c
          ∧ r.2.mem ((c.tc : Thread Cert.ProjIdeal.nD Cert.ProjIdeal.τ).loc Cert.ProjIdeal.main_v89_6) = v6 c
          ∧ r.2.mem ((c.tc : Thread Cert.ProjIdeal.nD Cert.ProjIdeal.τ).loc Cert.ProjIdeal.main_v89_7) = v7 c
          ∧ r.2.mem ((c.tc : Thread Cert.ProjIdeal.nD Cert.ProjIdeal.τ).loc Cert.ProjIdeal.main_v89_8) = v8 c
          ∧ r.2.mem ((c.tc : Thread Cert.ProjIdeal.nD Cert.ProjIdeal.τ).loc Cert.ProjIdeal.main_v89_9) = v9 c
          ∧ r.2.mem ((c.tc : Thread Cert.ProjIdeal.nD Cert.ProjIdeal.τ).loc Cert.ProjIdeal.main_v89_10) = v10 c
          ∧ r.2.mem ((c.tc : Thread Cert.ProjIdeal.nD Cert.ProjIdeal.τ).loc Cert.ProjIdeal.main_v89_11) = v11 c
          ∧ r.2.mem ((c.tc : Thread Cert.ProjIdeal.nD Cert.ProjIdeal.τ).loc Cert.ProjIdeal.main_v89_12) = v12 c
          ∧ r.2.mem ((c.tc : Thread Cert.ProjIdeal.nD Cert.ProjIdeal.τ).loc Cert.ProjIdeal.main_v89_13) = v13 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v241) = v0 c
          ∧ r.2.mem ((c.tc : Thread Cert.ProjRefIdeal.nD Cert.ProjRefIdeal.τ).loc Cert.ProjRefIdeal.main_v242) = v1 c
          ∧ r.2.mem ((c.tc : Thread Cert.ProjRefIdeal.nD Cert.ProjRefIdeal.τ).loc Cert.ProjRefIdeal.main_v244) = v2 c
          ∧ r.2.mem ((c.tc : Thread Cert.ProjRefIdeal.nD Cert.ProjRefIdeal.τ).loc Cert.ProjRefIdeal.main_v245) = v3 c
          ∧ r.2.mem ((c.tc : Thread Cert.ProjRefIdeal.nD Cert.ProjRefIdeal.τ).loc Cert.ProjRefIdeal.main_v246) = v4 c
          ∧ r.2.mem ((c.tc : Thread Cert.ProjRefIdeal.nD Cert.ProjRefIdeal.τ).loc Cert.ProjRefIdeal.main_v249) = v5 c
          ∧ r.2.mem ((c.tc : Thread Cert.ProjRefIdeal.nD Cert.ProjRefIdeal.τ).loc Cert.ProjRefIdeal.main_v250) = v6 c
          ∧ r.2.mem ((c.tc : Thread Cert.ProjRefIdeal.nD Cert.ProjRefIdeal.τ).loc Cert.ProjRefIdeal.main_v251) = v7 c
          ∧ r.2.mem ((c.tc : Thread Cert.ProjRefIdeal.nD Cert.ProjRefIdeal.τ).loc Cert.ProjRefIdeal.main_v252) = v8 c
          ∧ r.2.mem ((c.tc : Thread Cert.ProjRefIdeal.nD Cert.ProjRefIdeal.τ).loc Cert.ProjRefIdeal.main_v256) = v9 c
          ∧ r.2.mem ((c.tc : Thread Cert.ProjRefIdeal.nD Cert.ProjRefIdeal.τ).loc Cert.ProjRefIdeal.main_v257) = v10 c
          ∧ r.2.mem ((c.tc : Thread Cert.ProjRefIdeal.nD Cert.ProjRefIdeal.τ).loc Cert.ProjRefIdeal.main_v259) = v11 c
          ∧ r.2.mem ((c.tc : Thread Cert.ProjRefIdeal.nD Cert.ProjRefIdeal.τ).loc Cert.ProjRefIdeal.main_v260) = v12 c
          ∧ r.2.mem ((c.tc : Thread Cert.ProjRefIdeal.nD Cert.ProjRefIdeal.τ).loc Cert.ProjRefIdeal.main_v262) = v13 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_v54) = v1 c
          ∧ r.2.mem ((c.tc : Thread Cert.MergeRefIdeal.nD Cert.MergeRefIdeal.τ).loc Cert.MergeRefIdeal.main_v55) = v2 c
          ∧ r.2.mem ((c.tc : Thread Cert.MergeRefIdeal.nD Cert.MergeRefIdeal.τ).loc Cert.MergeRefIdeal.main_v56) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hBand : Cert.Band.Facts) (hBandIdeal : Cert.BandIdeal.Facts) (hBandRefIdeal : Cert.BandRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_finite : Cert.Pre_finite.Facts),
    quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Band_BandIdeal
    ∧ algebraic_BandIdeal_BandRefIdeal_pre_finite (hBandIdeal := hBandIdeal) (hBandRefIdeal := hBandRefIdeal) (hPre_finite := hPre_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Pre_finite.lean ====
abbrev S16x2048x8x64 : Shape := ⟨4, ![16, 2048, 8, 64]⟩
abbrev S8x257 : Shape := ⟨2, ![8, 257]⟩
abbrev S_ : Shape := ⟨0, ![]⟩

class Facts : Prop where
  bcast_S_S16x2048x8x64 : S_.BroadcastsInDim S16x2048x8x64 (![] : Fin 0 → Fin S16x2048x8x64.rank)
  bcast_S_S8x257 : S_.BroadcastsInDim S8x257 (![] : Fin 0 → Fin S8x257.rank)

variable [Facts]

def fn {F : FTy → Type} [FloatOps F] (main_arg0 : FVec F S16x2048x8x64 .f32) (main_arg1 : FVec F S16x2048x8x64 .f32) (main_arg2 : FVec F S16x2048x8x64 .f32) (main_arg3 : FVec F S8x257 .f32) : IVec S16x2048x8x64 1 × IVec S16x2048x8x64 1 × IVec S8x257 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : FVec F S8x257 .f32 := Host.absf main_arg3
  let main_cst_1 : FVec F S_ .f32 := constant S_ .f32 0x7F800000#32
  let main_v7 : FVec F S8x257 .f32 := broadcastInDim S8x257 ![] bcast_S_S8x257 main_cst_1
  let main_v8 : IVec S8x257 1 := cmpf .olt main_v6 main_v7
  (main_v2, main_v5, main_v8)
-- ==== Band.lean ====
abbrev S16x2048x8x64 : Shape := ⟨4, ![16, 2048, 8, 64]⟩
abbrev S8x257 : Shape := ⟨2, ![8, 257]⟩
abbrev S767 : Shape := ⟨1, ![767]⟩
abbrev S16x2048x512 : Shape := ⟨3, ![16, 2048, 512]⟩
abbrev S_ : Shape := ⟨0, ![]⟩
abbrev S16x2560x512 : Shape := ⟨3, ![16, 2560, 512]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S767x1 : Shape := ⟨2, ![767, 1]⟩
abbrev S8x767 : Shape := ⟨2, ![8, 767]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S1x128x640 : Shape := ⟨3, ![1, 128, 640]⟩
abbrev S1x256x512 : Shape := ⟨3, ![1, 256, 512]⟩
abbrev S1x128x512 : Shape := ⟨3, ![1, 128, 512]⟩
abbrev S128x512 : Shape := ⟨2, ![128, 512]⟩
abbrev S768x512 : Shape := ⟨2, ![768, 512]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S640x128 : Shape := ⟨2, ![640, 128]⟩
abbrev S256x640 : Shape := ⟨2, ![256, 640]⟩
abbrev S256 : Shape := ⟨1, ![256]⟩
abbrev S256x1 : Shape := ⟨2, ![256, 1]⟩

abbrev nBuf : Space → Nat
  | .hbm => 129
  | .vmem => 29
  | .smem => 0
  | _ => 0

abbrev hbmTy0_0 (i : Nat) : BufTy := match i % 128 with
  | 0 => ⟨S16x2048x8x64, .f32⟩
  | 1 => ⟨S16x2048x8x64, .f32⟩
  | 2 => ⟨S16x2048x8x64, .f32⟩
  | 3 => ⟨S8x257, .f32⟩
  | 4 => ⟨S767, .i32⟩
  | 5 => ⟨S767, .i1⟩
  | 6 => ⟨S16x2048x512, .f32⟩
  | 7 => ⟨S_, .f32⟩
  | 8 => ⟨S16x2048x512, .f32⟩
  | 9 => ⟨S16x2048x512, .f32⟩
  | 10 => ⟨S16x2048x512, .bf16⟩
  | 11 => ⟨S16x2048x512, .f32⟩
  | 12 => ⟨S16x2048x512, .bf16⟩
  | 13 => ⟨S16x2048x512, .f32⟩
  | 14 => ⟨S16x2048x512, .bf16⟩
  | 15 => ⟨S_, .i32⟩
  | 16 => ⟨S_, .bf16⟩
  | 17 => ⟨S16x2560x512, .bf16⟩
  | 18 => ⟨S_, .i32⟩
  | 19 => ⟨S_, .bf16⟩
  | 20 => ⟨S16x2560x512, .bf16⟩
  | 21 => ⟨S128, .i32⟩
  | 22 => ⟨S128x1, .i32⟩
  | 23 => ⟨S640, .i32⟩
  | 24 => ⟨S1x640, .i32⟩
  | 25 => ⟨S_, .i32⟩
  | 26 => ⟨S_, .i32⟩
  | 27 => ⟨S1x640, .i32⟩
  | 28 => ⟨S1x640, .i32⟩
  | 29 => ⟨S1x640, .i32⟩
  | 30 => ⟨S_, .i32⟩
  | 31 => ⟨S1x640, .i32⟩
  | 32 => ⟨S1x640, .i1⟩
  | 33 => ⟨S1x640, .i32⟩
  | 34 => ⟨S1x640, .i32⟩
  | 35 => ⟨S_, .i32⟩
  | 36 => ⟨S1x640, .i32⟩
  | 37 => ⟨S1x640, .i1⟩
  | 38 => ⟨S1x640, .i1⟩
  | 39 => ⟨S_, .i32⟩
  | 40 => ⟨S1x640, .i32⟩
  | 41 => ⟨S1x640, .i32⟩
  | 42 => ⟨S1x640, .i32⟩
  | 43 => ⟨S_, .i32⟩
  | 44 => ⟨S_, .i32⟩
  | 45 => ⟨S128x1, .i32⟩
  | 46 => ⟨S128x1, .i32⟩
  | 47 => ⟨S128x1, .i32⟩
  | 48 => ⟨S_, .i32⟩
  | 49 => ⟨S128x1, .i32⟩
  | 50 => ⟨S128x1, .i1⟩
  | 51 => ⟨S128x1, .i32⟩
  | 52 => ⟨S128x1, .i32⟩
  | 53 => ⟨S_, .i32⟩
  | 54 => ⟨S128x1, .i32⟩
  | 55 => ⟨S128x1, .i1⟩
  | 56 => ⟨S128x1, .i1⟩
  | 57 => ⟨S_, .i32⟩
  | 58 => ⟨S128x1, .i32⟩
  | 59 => ⟨S128x1, .i32⟩
  | 60 => ⟨S128x1, .i32⟩
  | 61 => ⟨S128x640, .i32⟩
  | 62 => ⟨S128x640, .i32⟩
  | 63 => ⟨S128x640, .i1⟩
  | 64 => ⟨S_, .i32⟩
  | 65 => ⟨S_, .i32⟩
  | 66 => ⟨S1x640, .i32⟩
  | 67 => ⟨S1x640, .i32⟩
  | 68 => ⟨S1x640, .i32⟩
  | 69 => ⟨S_, .i32⟩
  | 70 => ⟨S1x640, .i32⟩
  | 71 => ⟨S1x640, .i1⟩
  | 72 => ⟨S1x640, .i32⟩
  | 73 => ⟨S1x640, .i32⟩
  | 74 => ⟨S_, .i32⟩
  | 75 => ⟨S1x640, .i32⟩
  | 76 => ⟨S1x640, .i1⟩
  | 77 => ⟨S1x640, .i1⟩
  | 78 => ⟨S_, .i32⟩
  | 79 => ⟨S1x640, .i32⟩
  | 80 => ⟨S1x640, .i32⟩
  | 81 => ⟨S1x640, .i32⟩
  | 82 => ⟨S_, .i32⟩
  | 83 => ⟨S_, .i32⟩
  | 84 => ⟨S128x1, .i32⟩
  | 85 => ⟨S128x1, .i32⟩
  | 86 => ⟨S128x1, .i32⟩
  | 87 => ⟨S_, .i32⟩
  | 88 => ⟨S128x1, .i32⟩
  | 89 => ⟨S128x1, .i1⟩
  | 90 => ⟨S128x1, .i32⟩
  | 91 => ⟨S128x1, .i32⟩
  | 92 => ⟨S_, .i32⟩
  | 93 => ⟨S128x1, .i32⟩
  | 94 => ⟨S128x1, .i1⟩
  | 95 => ⟨S128x1, .i1⟩
  | 96 => ⟨S_, .i32⟩
  | 97 => ⟨S128x1, .i32⟩
  | 98 => ⟨S128x1, .i32⟩
  | 99 => ⟨S128x1, .i32⟩
  | 100 => ⟨S_, .i32⟩
  | 101 => ⟨S128x1, .i32⟩
  | 102 => ⟨S128x1, .i32⟩
  | 103 => ⟨S128x640, .i32⟩
  | 104 => ⟨S128x640, .i32⟩
  | 105 => ⟨S128x640, .i1⟩
  | 106 => ⟨S128x640, .i1⟩
  | 107 => ⟨S_, .i32⟩
  | 108 => ⟨S767, .i32⟩
  | 109 => ⟨S767, .i32⟩
  | 110 => ⟨S767, .i32⟩
  | 111 => ⟨S767x1, .i32⟩
  | 112 => ⟨S8x767, .f32⟩
  | 113 => ⟨S_, .i32⟩
  | 114 => ⟨S_, .f32⟩
  | 115 => ⟨S8x768, .f32⟩
  | 116 => ⟨S1x8x1x768, .f32⟩
  | 117 => ⟨S1x8x128x768, .f32⟩
  | 118 => ⟨S8x98304, .f32⟩
  | 119 => ⟨S8x98176, .f32⟩
  | 120 => ⟨S8x128x767, .f32⟩
  | 121 => ⟨S8x128x640, .f32⟩
  | 122 => ⟨S1x128x640, .i1⟩
  | 123 => ⟨S_, .f32⟩
  | 124 => ⟨S_, .f32⟩
  | 125 => ⟨S8x128x640, .i1⟩
  | 126 => ⟨S8x128x640, .f32⟩
  | 127 => ⟨S8x128x640, .f32⟩
  | _ => ⟨S16x2048x8x64, .f32⟩

abbrev hbmTy0_1 (i : Nat) : BufTy := match i % 128 with
  | 0 => ⟨S16x2048x512, .bf16⟩
  | _ => ⟨S16x2048x8x64, .f32⟩

abbrev hbmTy (i : Nat) : BufTy := match i / 128 with
  | 0 => hbmTy0_0 i
  | 1 => hbmTy0_1 i
  | _ => ⟨S16x2048x8x64, .f32⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S1x128x512, .bf16⟩
  | .local _ .vmem, ⟨21, _⟩ => ⟨S1x128x512, .bf16⟩
  | .local _ .vmem, ⟨22, _⟩ => ⟨S1x128x512, .bf16⟩
  | .local _ .vmem, ⟨23, _⟩ => ⟨S1x128x512, .bf16⟩
  | .local _ .vmem, ⟨24, _⟩ => ⟨S1x128x512, .bf16⟩
  | .local _ .vmem, ⟨25, _⟩ => ⟨S1x128x512, .bf16⟩
  | .local _ .vmem, ⟨26, _⟩ => ⟨S8x128x640, .f32⟩
  | .local _ .vmem, ⟨27, _⟩ => ⟨S1x256x512, .bf16⟩
  | .local _ .vmem, ⟨28, _⟩ => ⟨S1x256x512, .bf16⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_c : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_0 : Ref sig .tc := ⟨.hbm, 39, rfl⟩
abbrev main_call2_v12 : Ref sig .tc := ⟨.hbm, 40, rfl⟩
abbrev main_call2_v13 : Ref sig .tc := ⟨.hbm, 41, rfl⟩
abbrev main_v14 : Ref sig .tc := ⟨.hbm, 42, rfl⟩
abbrev main_c_4 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_c : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_0 : Ref sig .tc := ⟨.hbm, 57, rfl⟩
abbrev main_call3_v12 : Ref sig .tc := ⟨.hbm, 58, rfl⟩
abbrev main_call3_v13 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_c_5 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_c : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_0 : Ref sig .tc := ⟨.hbm, 78, rfl⟩
abbrev main_call4_v12 : Ref sig .tc := ⟨.hbm, 79, rfl⟩
abbrev main_call4_v13 : Ref sig .tc := ⟨.hbm, 80, rfl⟩
abbrev main_v19 : Ref sig .tc := ⟨.hbm, 81, rfl⟩
abbrev main_c_6 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_call5_v5 : Ref sig .tc := ⟨.hbm, 88, rfl⟩
abbrev main_call5_v6 : Ref sig .tc := ⟨.hbm, 89, rfl⟩
abbrev main_call5_v7 : Ref sig .tc := ⟨.hbm, 90, rfl⟩
abbrev main_call5_v8 : Ref sig .tc := ⟨.hbm, 91, rfl⟩
abbrev main_call5_c : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_c_0 : Ref sig .tc := ⟨.hbm, 96, rfl⟩
abbrev main_call5_v12 : Ref sig .tc := ⟨.hbm, 97, rfl⟩
abbrev main_call5_v13 : Ref sig .tc := ⟨.hbm, 98, rfl⟩
abbrev main_v20 : Ref sig .tc := ⟨.hbm, 99, rfl⟩
abbrev main_c_7 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_c_8 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_c_9 : Ref sig .tc := ⟨.hbm, 113, rfl⟩
abbrev main_call6_v0 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_cst_10 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_v40 : Ref sig .tc := ⟨.hbm, 127, rfl⟩
abbrev main_v41 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c0_i32 : BitVec 32 := 0#32
  let c0_i32_1 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c4_i32 : BitVec 32 := 4#32
  let v1 : BitVec 32 := Scalar.addi v0 c4_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c5_i32 : BitVec 32 := 5#32
  let v1 : BitVec 32 := Scalar.addi v0 c5_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c0_i32 : BitVec 32 := 0#32
  let c0_i32_1 : BitVec 32 := 0#32
  ![arg0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c4_i32 : BitVec 32 := 4#32
  let v1 : BitVec 32 := Scalar.addi v0 c4_i32
  let c0_i32 : BitVec 32 := 0#32
  let c0_i32_0 : BitVec 32 := 0#32
  ![arg0.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c5_i32 : BitVec 32 := 5#32
  let v1 : BitVec 32 := Scalar.addi v0 c5_i32
  let c0_i32 : BitVec 32 := 0#32
  let c0_i32_0 : BitVec 32 := 0#32
  ![arg0.toNat, v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x128x640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== BandIdeal.lean ====
variable {F : FTy → Type} [FloatOps F] [Named F]
def κ : String → Option EReal := fun
  | "mask" => some ⊥
  | _ => none
-- ==== BandRefIdeal.lean ====
abbrev S16x2048x8x64 : Shape := ⟨4, ![16, 2048, 8, 64]⟩
abbrev S8x257 : Shape := ⟨2, ![8, 257]⟩
abbrev S2048 : Shape := ⟨1, ![2048]⟩
abbrev S_ : Shape := ⟨0, ![]⟩
abbrev S16x2560x8x64 : Shape := ⟨4, ![16, 2560, 8, 64]⟩
abbrev S2560 : Shape := ⟨1, ![2560]⟩
abbrev S16x32x64x8x64 : Shape := ⟨5, ![16, 32, 64, 8, 64]⟩
abbrev S1 : Shape := ⟨1, ![1]⟩
abbrev S32x64 : Shape := ⟨2, ![32, 64]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S32x576x1 : Shape := ⟨3, ![32, 576, 1]⟩
abbrev S16x32x576x8x64 : Shape := ⟨5, ![16, 32, 576, 8, 64]⟩
abbrev S16x32x8x64x576 : Shape := ⟨5, ![16, 32, 8, 64, 576]⟩
abbrev S32x64x1 : Shape := ⟨3, ![32, 64, 1]⟩
abbrev S32x1x576 : Shape := ⟨3, ![32, 1, 576]⟩
abbrev S32x64x576 : Shape := ⟨3, ![32, 64, 576]⟩
abbrev S32x64x576x1 : Shape := ⟨4, ![32, 64, 576, 1]⟩
abbrev S8x32x64x576 : Shape := ⟨4, ![8, 32, 64, 576]⟩
abbrev S32x8x64x576 : Shape := ⟨4, ![32, 8, 64, 576]⟩
abbrev S32x1x64x576 : Shape := ⟨4, ![32, 1, 64, 576]⟩
abbrev S1x32x8x64x576 : Shape := ⟨5, ![1, 32, 8, 64, 576]⟩
abbrev S16x32x8x64 : Shape := ⟨4, ![16, 32, 8, 64]⟩
abbrev S16x32x8x64x1 : Shape := ⟨5, ![16, 32, 8, 64, 1]⟩
abbrev S16x32x8x64x64 : Shape := ⟨5, ![16, 32, 8, 64, 64]⟩
abbrev S16x2048x512 : Shape := ⟨3, ![16, 2048, 512]⟩

abbrev nBuf : Space → Nat
  | .hbm => 189
  | .vmem => 0
  | .smem => 0
  | _ => 0

abbrev hbmTy0_0 (i : Nat) : BufTy := match i % 128 with
  | 0 => ⟨S16x2048x8x64, .f32⟩
  | 1 => ⟨S16x2048x8x64, .f32⟩
  | 2 => ⟨S16x2048x8x64, .f32⟩
  | 3 => ⟨S8x257, .f32⟩
  | 4 => ⟨S2048, .i32⟩
  | 5 => ⟨S_, .i32⟩
  | 6 => ⟨S_, .f32⟩
  | 7 => ⟨S16x2560x8x64, .f32⟩
  | 8 => ⟨S_, .i32⟩
  | 9 => ⟨S_, .f32⟩
  | 10 => ⟨S16x2560x8x64, .f32⟩
  | 11 => ⟨S_, .i1⟩
  | 12 => ⟨S2048, .i1⟩
  | 13 => ⟨S_, .i32⟩
  | 14 => ⟨S_, .i32⟩
  | 15 => ⟨S_, .i32⟩
  | 16 => ⟨S_, .i1⟩
  | 17 => ⟨S_, .i1⟩
  | 18 => ⟨S2560, .i1⟩
  | 19 => ⟨S_, .i32⟩
  | 20 => ⟨S_, .i32⟩
  | 21 => ⟨S2560, .i32⟩
  | 22 => ⟨S_, .i32⟩
  | 23 => ⟨S_, .f32⟩
  | 24 => ⟨S16x2048x8x64, .f32⟩
  | 25 => ⟨S16x32x64x8x64, .f32⟩
  | 26 => ⟨S1, .i32⟩
  | 27 => ⟨S_, .i32⟩
  | 28 => ⟨S2048, .i32⟩
  | 29 => ⟨S2048, .i32⟩
  | 30 => ⟨S2048, .i32⟩
  | 31 => ⟨S32x64, .i32⟩
  | 32 => ⟨S32, .i32⟩
  | 33 => ⟨S_, .i32⟩
  | 34 => ⟨S32, .i32⟩
  | 35 => ⟨S32, .i32⟩
  | 36 => ⟨S32x1, .i32⟩
  | 37 => ⟨S576, .i32⟩
  | 38 => ⟨S1x576, .i32⟩
  | 39 => ⟨S32x576, .i32⟩
  | 40 => ⟨S32x576, .i32⟩
  | 41 => ⟨S32x576, .i32⟩
  | 42 => ⟨S_, .i32⟩
  | 43 => ⟨S32x576, .i32⟩
  | 44 => ⟨S32x576, .i1⟩
  | 45 => ⟨S_, .i32⟩
  | 46 => ⟨S32x576, .i32⟩
  | 47 => ⟨S32x576, .i32⟩
  | 48 => ⟨S32x576, .i32⟩
  | 49 => ⟨S32x576x1, .i32⟩
  | 50 => ⟨S16x32x576x8x64, .f32⟩
  | 51 => ⟨S_, .i32⟩
  | 52 => ⟨S32x576, .i32⟩
  | 53 => ⟨S32x576, .i1⟩
  | 54 => ⟨S_, .i32⟩
  | 55 => ⟨S32x576, .i32⟩
  | 56 => ⟨S32x576, .i32⟩
  | 57 => ⟨S32x576, .i32⟩
  | 58 => ⟨S32x576x1, .i32⟩
  | 59 => ⟨S16x32x576x8x64, .f32⟩
  | 60 => ⟨S_, .i32⟩
  | 61 => ⟨S32x576, .i32⟩
  | 62 => ⟨S32x576, .i1⟩
  | 63 => ⟨S_, .i32⟩
  | 64 => ⟨S32x576, .i32⟩
  | 65 => ⟨S32x576, .i32⟩
  | 66 => ⟨S32x576, .i32⟩
  | 67 => ⟨S32x576x1, .i32⟩
  | 68 => ⟨S32x576, .i32⟩
  | 69 => ⟨S_, .i32⟩
  | 70 => ⟨S32x576, .i32⟩
  | 71 => ⟨S32x576, .i1⟩
  | 72 => ⟨S_, .i32⟩
  | 73 => ⟨S32x576, .i32⟩
  | 74 => ⟨S32x576, .i32⟩
  | 75 => ⟨S32x576, .i32⟩
  | 76 => ⟨S32x576x1, .i32⟩
  | 77 => ⟨S32x576, .i1⟩
  | 78 => ⟨S16x32x8x64x576, .f32⟩
  | 79 => ⟨S_, .f32⟩
  | 80 => ⟨S16x32x8x64x576, .f32⟩
  | 81 => ⟨S16x32x8x64x576, .f32⟩
  | 82 => ⟨S32x64x1, .i32⟩
  | 83 => ⟨S32x1x576, .i32⟩
  | 84 => ⟨S32x64x576, .i32⟩
  | 85 => ⟨S32x64x576, .i32⟩
  | 86 => ⟨S32x64x576, .i32⟩
  | 87 => ⟨S_, .i32⟩
  | 88 => ⟨S_, .i32⟩
  | 89 => ⟨S_, .i32⟩
  | 90 => ⟨S32x64x576, .i32⟩
  | 91 => ⟨S32x64x576, .i32⟩
  | 92 => ⟨S_, .i32⟩
  | 93 => ⟨S32x64x576, .i32⟩
  | 94 => ⟨S32x64x576, .i32⟩
  | 95 => ⟨S_, .i32⟩
  | 96 => ⟨S32x64x576, .i32⟩
  | 97 => ⟨S32x64x576, .i32⟩
  | 98 => ⟨S_, .i32⟩
  | 99 => ⟨S32x64x576, .i32⟩
  | 100 => ⟨S32x64x576, .i1⟩
  | 101 => ⟨S_, .i32⟩
  | 102 => ⟨S32x64x576, .i32⟩
  | 103 => ⟨S32x64x576, .i32⟩
  | 104 => ⟨S32x64x576, .i32⟩
  | 105 => ⟨S32x64x576x1, .i32⟩
  | 106 => ⟨S8x32x64x576, .f32⟩
  | 107 => ⟨S32x8x64x576, .f32⟩
  | 108 => ⟨S_, .i32⟩
  | 109 => ⟨S_, .i32⟩
  | 110 => ⟨S32x64, .i32⟩
  | 111 => ⟨S32x64, .i32⟩
  | 112 => ⟨S32x64, .i32⟩
  | 113 => ⟨S_, .i32⟩
  | 114 => ⟨S32x64, .i32⟩
  | 115 => ⟨S32x64, .i1⟩
  | 116 => ⟨S32x64, .i32⟩
  | 117 => ⟨S32x64, .i32⟩
  | 118 => ⟨S_, .i32⟩
  | 119 => ⟨S32x64, .i32⟩
  | 120 => ⟨S32x64, .i1⟩
  | 121 => ⟨S32x64, .i1⟩
  | 122 => ⟨S_, .i32⟩
  | 123 => ⟨S32x64, .i32⟩
  | 124 => ⟨S32x64, .i32⟩
  | 125 => ⟨S32x64, .i32⟩
  | 126 => ⟨S32x64x1, .i32⟩
  | 127 => ⟨S_, .i32⟩
  | _ => ⟨S16x2048x8x64, .f32⟩

abbrev hbmTy0_1 (i : Nat) : BufTy := match i % 128 with
  | 0 => ⟨S_, .i32⟩
  | 1 => ⟨S32x576, .i32⟩
  | 2 => ⟨S32x576, .i32⟩
  | 3 => ⟨S32x576, .i32⟩
  | 4 => ⟨S_, .i32⟩
  | 5 => ⟨S32x576, .i32⟩
  | 6 => ⟨S32x576, .i1⟩
  | 7 => ⟨S32x576, .i32⟩
  | 8 => ⟨S32x576, .i32⟩
  | 9 => ⟨S_, .i32⟩
  | 10 => ⟨S32x576, .i32⟩
  | 11 => ⟨S32x576, .i1⟩
  | 12 => ⟨S32x576, .i1⟩
  | 13 => ⟨S_, .i32⟩
  | 14 => ⟨S32x576, .i32⟩
  | 15 => ⟨S32x576, .i32⟩
  | 16 => ⟨S32x576, .i32⟩
  | 17 => ⟨S32x1x576, .i32⟩
  | 18 => ⟨S32x64x576, .i32⟩
  | 19 => ⟨S32x64x576, .i32⟩
  | 20 => ⟨S32x64x576, .i1⟩
  | 21 => ⟨S_, .i32⟩
  | 22 => ⟨S32x64x1, .i32⟩
  | 23 => ⟨S32x64x1, .i32⟩
  | 24 => ⟨S32x64x576, .i32⟩
  | 25 => ⟨S32x64x576, .i32⟩
  | 26 => ⟨S32x64x576, .i1⟩
  | 27 => ⟨S32x64x576, .i1⟩
  | 28 => ⟨S32x1x576, .i1⟩
  | 29 => ⟨S32x64x576, .i1⟩
  | 30 => ⟨S32x64x576, .i1⟩
  | 31 => ⟨S32x1x64x576, .i1⟩
  | 32 => ⟨S1x32x8x64x576, .f32⟩
  | 33 => ⟨S16x32x8x64x576, .f32⟩
  | 34 => ⟨S16x32x8x64x576, .f32⟩
  | 35 => ⟨S_, .f32⟩
  | 36 => ⟨S_, .f32⟩
  | 37 => ⟨S32x8x64x576, .i1⟩
  | 38 => ⟨S32x8x64x576, .f32⟩
  | 39 => ⟨S16x32x8x64x576, .i1⟩
  | 40 => ⟨S16x32x8x64x576, .f32⟩
  | 41 => ⟨S16x32x8x64x576, .f32⟩
  | 42 => ⟨S_, .f32⟩
  | 43 => ⟨S16x32x8x64, .f32⟩
  | 44 => ⟨S_, .f32⟩
  | 45 => ⟨S16x32x8x64, .f32⟩
  | 46 => ⟨S16x32x8x64, .f32⟩
  | 47 => ⟨S16x32x8x64x1, .f32⟩
  | 48 => ⟨S16x32x8x64x576, .f32⟩
  | 49 => ⟨S16x32x8x64x576, .f32⟩
  | 50 => ⟨S16x32x8x64x576, .f32⟩
  | 51 => ⟨S_, .f32⟩
  | 52 => ⟨S16x32x8x64, .f32⟩
  | 53 => ⟨S16x32x8x64x1, .f32⟩
  | 54 => ⟨S16x32x8x64x576, .f32⟩
  | 55 => ⟨S16x32x8x64x576, .f32⟩
  | 56 => ⟨S16x32x8x64x64, .f32⟩
  | 57 => ⟨S16x32x64x8x64, .f32⟩
  | 58 => ⟨S16x2048x8x64, .f32⟩
  | 59 => ⟨S16x2048x512, .f32⟩
  | 60 => ⟨S16x2048x512, .bf16⟩
  | _ => ⟨S16x2048x8x64, .f32⟩

abbrev hbmTy (i : Nat) : BufTy := match i / 128 with
  | 0 => hbmTy0_0 i
  | 1 => hbmTy0_1 i
  | _ => ⟨S16x2048x8x64, .f32⟩

abbrev bufTy : (tb : Table) → Fin (tcTables nBuf tb) → BufTy
  | .hbm, ⟨i, _⟩ => hbmTy i
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_c_2 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_c_3 : Ref sig .tc := ⟨.hbm, 19, rfl⟩
abbrev main_call3_v0 : Ref sig .tc := ⟨.hbm, 20, rfl⟩
abbrev main_v5 : Ref sig .tc := ⟨.hbm, 21, rfl⟩
abbrev main_c_4 : Ref sig .tc := ⟨.hbm, 22, rfl⟩
abbrev main_call4_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_c_15 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v59 : Ref sig .tc := ⟨.hbm, 94, rfl⟩
abbrev main_c_16 : Ref sig .tc := ⟨.hbm, 95, rfl⟩
abbrev main_v60 : Ref sig .tc := ⟨.hbm, 96, rfl⟩
abbrev main_v61 : Ref sig .tc := ⟨.hbm, 97, rfl⟩
abbrev main_c_17 : Ref sig .tc := ⟨.hbm, 98, rfl⟩
abbrev main_v62 : Ref sig .tc := ⟨.hbm, 99, rfl⟩
abbrev main_v63 : Ref sig .tc := ⟨.hbm, 100, rfl⟩
abbrev main_c_18 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_v6 : Ref sig .tc := ⟨.hbm, 115, rfl⟩
abbrev main_call6_v7 : Ref sig .tc := ⟨.hbm, 116, rfl⟩
abbrev main_call6_v8 : Ref sig .tc := ⟨.hbm, 117, rfl⟩
abbrev main_call6_c : Ref sig .tc := ⟨.hbm, 118, rfl⟩
abbrev main_call6_v9 : Ref sig .tc := ⟨.hbm, 119, rfl⟩
abbrev main_call6_v10 : Ref sig .tc := ⟨.hbm, 120, rfl⟩
abbrev main_call6_v11 : Ref sig .tc := ⟨.hbm, 121, rfl⟩
abbrev main_call6_c_0 : Ref sig .tc := ⟨.hbm, 122, rfl⟩
abbrev main_call6_v12 : Ref sig .tc := ⟨.hbm, 123, rfl⟩
abbrev main_call6_v13 : Ref sig .tc := ⟨.hbm, 124, rfl⟩
abbrev main_v70 : Ref sig .tc := ⟨.hbm, 125, rfl⟩
abbrev main_v71 : Ref sig .tc := ⟨.hbm, 126, rfl⟩
abbrev main_c_20 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_v5 : Ref sig .tc := ⟨.hbm, 133, rfl⟩
abbrev main_call7_v6 : Ref sig .tc := ⟨.hbm, 134, rfl⟩
abbrev main_call7_v7 : Ref sig .tc := ⟨.hbm, 135, rfl⟩
abbrev main_call7_v8 : Ref sig .tc := ⟨.hbm, 136, rfl⟩
abbrev main_call7_c : Ref sig .tc := ⟨.hbm, 137, rfl⟩
abbrev main_call7_v9 : Ref sig .tc := ⟨.hbm, 138, rfl⟩
abbrev main_call7_v10 : Ref sig .tc := ⟨.hbm, 139, rfl⟩
abbrev main_call7_v11 : Ref sig .tc := ⟨.hbm, 140, rfl⟩
abbrev main_call7_c_0 : Ref sig .tc := ⟨.hbm, 141, rfl⟩
abbrev main_call7_v12 : Ref sig .tc := ⟨.hbm, 142, rfl⟩
abbrev main_call7_v13 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_c_21 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_22 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_v90 : Ref sig .tc := ⟨.hbm, 169, rfl⟩
abbrev main_cst_23 : Ref sig .tc := ⟨.hbm, 170, rfl⟩
abbrev main_v91 : Ref sig .tc := ⟨.hbm, 171, rfl⟩
abbrev main_cst_24 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_cst_25 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩

abbrev nD : Nat := 1
abbrev τ : Topo := Topo.v7x

variable {F : FTy → Type} [FloatOps F]
-- ==== Proj.lean ====
abbrev S16x2048x1024 : Shape := ⟨3, ![16, 2048, 1024]⟩
abbrev S1024 : Shape := ⟨1, ![1024]⟩
abbrev S1024x5416 : Shape := ⟨2, ![1024, 5416]⟩
abbrev S64 : Shape := ⟨1, ![64]⟩
abbrev S32 : Shape := ⟨1, ![32]⟩
abbrev S1024x1536 : Shape := ⟨2, ![1024, 1536]⟩
abbrev S1024x296 : Shape := ⟨2, ![1024, 296]⟩
abbrev S_ : Shape := ⟨0, ![]⟩
abbrev S1024x88 : Shape := ⟨2, ![1024, 88]⟩
abbrev S1024x3456 : Shape := ⟨2, ![1024, 3456]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x512 : Shape := ⟨2, ![4, 512]⟩
abbrev S8 : Shape := ⟨1, ![8]⟩
abbrev S88 : Shape := ⟨1, ![88]⟩
abbrev S128 : Shape := ⟨1, ![128]⟩
abbrev S1x128 : Shape := ⟨2, ![1, 128]⟩
abbrev S1x1024 : Shape := ⟨2, ![1, 1024]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S16 : Shape := ⟨1, ![16]⟩
abbrev S1x16 : Shape := ⟨2, ![1, 16]⟩
abbrev S2048x16 : Shape := ⟨2, ![2048, 16]⟩
abbrev S1x2048x1x32 : Shape := ⟨4, ![1, 2048, 1, 32]⟩
abbrev S1x2048x9x32 : Shape := ⟨4, ![1, 2048, 9, 32]⟩
abbrev S2048x288 : Shape := ⟨2, ![2048, 288]⟩
abbrev S2048x96 : Shape := ⟨2, ![2048, 96]⟩
abbrev S2048x384 : Shape := ⟨2, ![2048, 384]⟩
abbrev S32768x1024 : Shape := ⟨2, ![32768, 1024]⟩
abbrev S16x512x2048 : Shape := ⟨3, ![16, 512, 2048]⟩
abbrev S32768x512 : Shape := ⟨2, ![32768, 512]⟩
abbrev S16x8x512x256 : Shape := ⟨4, ![16, 8, 512, 256]⟩
abbrev S16x256x2048 : Shape := ⟨3, ![16, 256, 2048]⟩
abbrev S32768x32 : Shape := ⟨2, ![32768, 32]⟩
abbrev S32768x128 : Shape := ⟨2, ![32768, 128]⟩
abbrev S16x8x2048 : Shape := ⟨3, ![16, 8, 2048]⟩
abbrev S512x1024 : Shape := ⟨2, ![512, 1024]⟩
abbrev S512x384 : Shape := ⟨2, ![512, 384]⟩
abbrev S1x512x512 : Shape := ⟨3, ![1, 512, 512]⟩
abbrev S1x2x512x256 : Shape := ⟨4, ![1, 2, 512, 256]⟩
abbrev S1x256x512 : Shape := ⟨3, ![1, 256, 512]⟩
abbrev S512x32 : Shape := ⟨2, ![512, 32]⟩
abbrev S512x128 : Shape := ⟨2, ![512, 128]⟩
abbrev S1x8x512 : Shape := ⟨3, ![1, 8, 512]⟩
abbrev S512x1 : Shape := ⟨2, ![512, 1]⟩
abbrev S1024x512 : Shape := ⟨2, ![1024, 512]⟩
abbrev S256x512 : Shape := ⟨2, ![256, 512]⟩
abbrev S512x256 : Shape := ⟨2, ![512, 256]⟩
abbrev S1x1x512x256 : Shape := ⟨4, ![1, 1, 512, 256]⟩
abbrev S1024x384 : Shape := ⟨2, ![1024, 384]⟩
abbrev S128x512 : Shape := ⟨2, ![128, 512]⟩
abbrev S8x512 : Shape := ⟨2, ![8, 512]⟩

abbrev nBuf : Space → Nat
  | .hbm => 128
  | .vmem => 43
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5416, .f32⟩
  | .hbm, ⟨3, _⟩ => ⟨S64, .f32⟩
  | .hbm, ⟨4, _⟩ => ⟨S64, .f32⟩
  | .hbm, ⟨5, _⟩ => ⟨S32, .f32⟩
  | .hbm, ⟨6, _⟩ => ⟨S64, .f32⟩
  | .hbm, ⟨7, _⟩ => ⟨S64, .f32⟩
  | .hbm, ⟨8, _⟩ => ⟨S1024x1536, .f32⟩
  | .hbm, ⟨9, _⟩ => ⟨S1024x1536, .f32⟩
  | .hbm, ⟨10, _⟩ => ⟨S1024x296, .f32⟩
  | .hbm, ⟨11, _⟩ => ⟨S_, .f32⟩
  | .hbm, ⟨12, _⟩ => ⟨S1024x88, .f32⟩
  | .hbm, ⟨13, _⟩ => ⟨S1024x3456, .f32⟩
  | .hbm, ⟨14, _⟩ => ⟨S1024x3456, .bf16⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S_, .f32⟩
  | .hbm, ⟨23, _⟩ => ⟨S64x64, .f32⟩
  | .hbm, ⟨24, _⟩ => ⟨S8x1x8x1, .f32⟩
  | .hbm, ⟨25, _⟩ => ⟨S1x64x1x64, .f32⟩
  | .hbm, ⟨26, _⟩ => ⟨S8x64x8x64, .f32⟩
  | .hbm, ⟨27, _⟩ => ⟨S8x64x8x64, .f32⟩
  | .hbm, ⟨28, _⟩ => ⟨S8x64x8x64, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S1x64, .f32⟩
  | .hbm, ⟨35, _⟩ => ⟨S8x64, .f32⟩
  | .hbm, ⟨36, _⟩ => ⟨S512, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S4x512, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S88, .f32⟩
  | .hbm, ⟨55, _⟩ => ⟨S128, .f32⟩
  | .hbm, ⟨56, _⟩ => ⟨S1x128, .f32⟩
  | .hbm, ⟨57, _⟩ => ⟨S1x1024, .f32⟩
  | .hbm, ⟨58, _⟩ => ⟨S2048, .i32⟩
  | .hbm, ⟨59, _⟩ => ⟨S2048, .f32⟩
  | .hbm, ⟨60, _⟩ => ⟨S2048x1, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S1x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x64, .f32⟩
  | .hbm, ⟨76, _⟩ => ⟨S1x2048x1x64, .f32⟩
  | .hbm, ⟨77, _⟩ => ⟨S1x2048x8x64, .f32⟩
  | .hbm, ⟨78, _⟩ => ⟨S2048x512, .f32⟩
  | .hbm, ⟨79, _⟩ => ⟨S2048x32, .f32⟩
  | .hbm, ⟨80, _⟩ => ⟨S2048x64, .f32⟩
  | .hbm, ⟨81, _⟩ => ⟨S1x2048x1x64, .f32⟩
  | .hbm, ⟨82, _⟩ => ⟨S1x2048x8x64, .f32⟩
  | .hbm, ⟨83, _⟩ => ⟨S2048x512, .f32⟩
  | .hbm, ⟨84, _⟩ => ⟨S16, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S1x16, .f32⟩
  | .hbm, ⟨93, _⟩ => ⟨S2048x16, .f32⟩
  | .hbm, ⟨94, _⟩ => ⟨S2048x16, .f32⟩
  | .hbm, ⟨95, _⟩ => ⟨S2048x16, .f32⟩
  | .hbm, ⟨96, _⟩ => ⟨S2048x16, .f32⟩
  | .hbm, ⟨97, _⟩ => ⟨S2048x16, .f32⟩
  | .hbm, ⟨98, _⟩ => ⟨S2048x32, .f32⟩
  | .hbm, ⟨99, _⟩ => ⟨S1x2048x1x32, .f32⟩
  | .hbm, ⟨100, _⟩ => ⟨S1x2048x9x32, .f32⟩
  | .hbm, ⟨101, _⟩ => ⟨S2048x288, .f32⟩
  | .hbm, ⟨102, _⟩ => ⟨S2048x16, .f32⟩
  | .hbm, ⟨103, _⟩ => ⟨S2048x32, .f32⟩
  | .hbm, ⟨104, _⟩ => ⟨S1x2048x1x32, .f32⟩
  | .hbm, ⟨105, _⟩ => ⟨S1x2048x9x32, .f32⟩
  | .hbm, ⟨106, _⟩ => ⟨S2048x288, .f32⟩
  | .hbm, ⟨107, _⟩ => ⟨S_, .f32⟩
  | .hbm, ⟨108, _⟩ => ⟨S2048x96, .f32⟩
  | .hbm, ⟨109, _⟩ => ⟨S2048x384, .f32⟩
  | .hbm, ⟨110, _⟩ => ⟨S_, .f32⟩
  | .hbm, ⟨111, _⟩ => ⟨S2048x96, .f32⟩
  | .hbm, ⟨112, _⟩ => ⟨S2048x384, .f32⟩
  | .hbm, ⟨113, _⟩ => ⟨S32768x1024, .f32⟩
  | .hbm, ⟨114, _⟩ => ⟨S16x512x2048, .bf16⟩
  | .hbm, ⟨115, _⟩ => ⟨S32768x512, .f32⟩
  | .hbm, ⟨116, _⟩ => ⟨S32768x512, .bf16⟩
  | .hbm, ⟨117, _⟩ => ⟨S32768x512, .f32⟩
  | .hbm, ⟨118, _⟩ => ⟨S16x8x512x256, .bf16⟩
  | .hbm, ⟨119, _⟩ => ⟨S16x256x2048, .bf16⟩
  | .hbm, ⟨120, _⟩ => ⟨S32768x32, .f32⟩
  | .hbm, ⟨121, _⟩ => ⟨S32768x128, .bf16⟩
  | .hbm, ⟨122, _⟩ => ⟨S16x8x2048, .f32⟩
  | .hbm, ⟨123, _⟩ => ⟨S32768x512, .bf16⟩
  | .hbm, ⟨124, _⟩ => ⟨S32768x512, .f32⟩
  | .hbm, ⟨125, _⟩ => ⟨S32768x512, .bf16⟩
  | .hbm, ⟨126, _⟩ => ⟨S32768x512, .f32⟩
  | .hbm, ⟨127, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x512, .bf16⟩
  | .local _ .vmem, ⟨5, _⟩ => ⟨S4x512, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S1x512x512, .bf16⟩
  | .local _ .vmem, ⟨16, _⟩ => ⟨S1x512x512, .bf16⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S1x2x512x256, .bf16⟩
  | .local _ .vmem, ⟨24, _⟩ => ⟨S1x2x512x256, .bf16⟩
  | .local _ .vmem, ⟨25, _⟩ => ⟨S1x256x512, .bf16⟩
  | .local _ .vmem, ⟨26, _⟩ => ⟨S1x256x512, .bf16⟩
  | .local _ .vmem, ⟨27, _⟩ => ⟨S512x32, .f32⟩
  | .local _ .vmem, ⟨28, _⟩ => ⟨S512x32, .f32⟩
  | .local _ .vmem, ⟨29, _⟩ => ⟨S512x128, .bf16⟩
  | .local _ .vmem, ⟨30, _⟩ => ⟨S512x128, .bf16⟩
  | .local _ .vmem, ⟨31, _⟩ => ⟨S1x8x512, .f32⟩
  | .local _ .vmem, ⟨32, _⟩ => ⟨S1x8x512, .f32⟩
  | .local _ .vmem, ⟨33, _⟩ => ⟨S512x512, .bf16⟩
  | .local _ .vmem, ⟨34, _⟩ => ⟨S512x512, .bf16⟩
  | .local _ .vmem, ⟨35, _⟩ => ⟨S512x512, .f32⟩
  | .local _ .vmem, ⟨36, _⟩ => ⟨S512x512, .f32⟩
  | .local _ .vmem, ⟨37, _⟩ => ⟨S512x512, .bf16⟩
  | .local _ .vmem, ⟨38, _⟩ => ⟨S512x512, .bf16⟩
  | .local _ .vmem, ⟨39, _⟩ => ⟨S512x512, .f32⟩
  | .local _ .vmem, ⟨40, _⟩ => ⟨S512x512, .f32⟩
  | .local _ .vmem, ⟨41, _⟩ => ⟨S512x512, .bf16⟩
  | .local _ .vmem, ⟨42, _⟩ => ⟨S512x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_8 : Ref sig .tc := ⟨.hbm, 107, rfl⟩
abbrev main_v84 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89_0 : Ref sig .tc := ⟨.hbm, 114, rfl⟩
abbrev main_v89_1 : Ref sig .tc := ⟨.hbm, 115, rfl⟩
abbrev main_v89_2 : Ref sig .tc := ⟨.hbm, 116, rfl⟩
abbrev main_v89_3 : Ref sig .tc := ⟨.hbm, 117, rfl⟩
abbrev main_v89_4 : Ref sig .tc := ⟨.hbm, 118, rfl⟩
abbrev main_v89_5 : Ref sig .tc := ⟨.hbm, 119, rfl⟩
abbrev main_v89_6 : Ref sig .tc := ⟨.hbm, 120, rfl⟩
abbrev main_v89_7 : Ref sig .tc := ⟨.hbm, 121, rfl⟩
abbrev main_v89_8 : Ref sig .tc := ⟨.hbm, 122, rfl⟩
abbrev main_v89_9 : Ref sig .tc := ⟨.hbm, 123, rfl⟩
abbrev main_v89_10 : Ref sig .tc := ⟨.hbm, 124, rfl⟩
abbrev main_v89_11 : Ref sig .tc := ⟨.hbm, 125, rfl⟩
abbrev main_v89_12 : Ref sig .tc := ⟨.hbm, 126, rfl⟩
abbrev main_v89_13 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ProjRefIdeal.lean ====
abbrev S16x2048x1024 : Shape := ⟨3, ![16, 2048, 1024]⟩
abbrev S1024 : Shape := ⟨1, ![1024]⟩
abbrev S1024x5416 : Shape := ⟨2, ![1024, 5416]⟩
abbrev S64 : Shape := ⟨1, ![64]⟩
abbrev S32 : Shape := ⟨1, ![32]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5416 : Shape := ⟨3, ![16, 2048, 5416]⟩
abbrev S16x2048x512 : Shape := ⟨3, ![16, 2048, 512]⟩
abbrev S16x2048x256 : Shape := ⟨3, ![16, 2048, 256]⟩
abbrev S16x2048x32 : Shape := ⟨3, ![16, 2048, 32]⟩
abbrev S16x2048x8 : Shape := ⟨3, ![16, 2048, 8]⟩
abbrev S16x2048x2048 : Shape := ⟨3, ![16, 2048, 2048]⟩
abbrev S16x2048x8x64 : Shape := ⟨4, ![16, 2048, 8, 64]⟩
abbrev S16x2048x8x1 : Shape := ⟨4, ![16, 2048, 8, 1]⟩
abbrev S1x1x1x64 : Shape := ⟨4, ![1, 1, 1, 64]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16 : Shape := ⟨1, ![16]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S1x1x32 : Shape := ⟨3, ![1, 1, 32]⟩
abbrev S16x2048x1x32 : Shape := ⟨4, ![16, 2048, 1, 32]⟩
abbrev S16x2048x1x16 : Shape := ⟨4, ![16, 2048, 1, 16]⟩
abbrev S16x8x256x512 : Shape := ⟨4, ![16, 8, 256, 512]⟩
abbrev S16x8x512x256 : Shape := ⟨4, ![16, 8, 512, 256]⟩
abbrev S32768x32 : Shape := ⟨2, ![32768, 32]⟩
abbrev S32768x128 : Shape := ⟨2, ![32768, 128]⟩
abbrev S16x512x2048 : Shape := ⟨3, ![16, 512, 2048]⟩
abbrev S32768x512 : Shape := ⟨2, ![32768, 512]⟩
abbrev S16x256x2048 : Shape := ⟨3, ![16, 256, 2048]⟩
abbrev S16x8x2048 : Shape := ⟨3, ![16, 8, 2048]⟩

abbrev nBuf : Space → Nat
  | .hbm => 302
  | .vmem => 0
  | .smem => 0
  | _ => 0

abbrev hbmTy0_0 (i : Nat) : BufTy := match i % 128 with
  | 0 => ⟨S16x2048x1024, .f32⟩
  | 1 => ⟨S1024, .f32⟩
  | 2 => ⟨S1024x5416, .f32⟩
  | 3 => ⟨S64, .f32⟩
  | 4 => ⟨S64, .f32⟩
  | 5 => ⟨S32, .f32⟩
  | 6 => ⟨S64, .f32⟩
  | 7 => ⟨S64, .f32⟩
  | 8 => ⟨S2048, .i32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x2048x5416, .f32⟩
  | 26 => ⟨S16x2048x512, .f32⟩
  | 27 => ⟨S16x2048x512, .f32⟩
  | 28 => ⟨S16x2048x512, .f32⟩
  | 29 => ⟨S16x2048x256, .f32⟩
  | 30 => ⟨S16x2048x32, .f32⟩
  | 31 => ⟨S16x2048x8, .f32⟩
  | 32 => ⟨S16x2048x512, .f32⟩
  | 33 => ⟨S16x2048x512, .f32⟩
  | 34 => ⟨S16x2048x512, .f32⟩
  | 35 => ⟨S16x2048x2048, .f32⟩
  | 36 => ⟨S16x2048x8x64, .f32⟩
  | 37 => ⟨S16x2048x8x64, .f32⟩
  | 38 => ⟨S_, .f32⟩
  | 39 => ⟨S16x2048x8, .f32⟩
  | 40 => ⟨S16x2048x8x1, .f32⟩
  | 41 => ⟨S_, .f32⟩
  | 42 => ⟨S16x2048x8x1, .f32⟩
  | 43 => ⟨S16x2048x8x1, .f32⟩
  | 44 => ⟨S_, .f32⟩
  | 45 => ⟨S16x2048x8x1, .f32⟩
  | 46 => ⟨S16x2048x8x1, .f32⟩
  | 47 => ⟨S16x2048x8x1, .f32⟩
  | 48 => ⟨S16x2048x8x64, .f32⟩
  | 49 => ⟨S16x2048x8x64, .f32⟩
  | 50 => ⟨S1x1x1x64, .f32⟩
  | 51 => ⟨S16x2048x8x64, .f32⟩
  | 52 => ⟨S16x2048x8x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S2048, .f32⟩
  | 62 => ⟨S2048x1, .f32⟩
  | 63 => ⟨S1x32, .f32⟩
  | 64 => ⟨S2048x32, .f32⟩
  | 65 => ⟨S2048x32, .f32⟩
  | 66 => ⟨S2048x32, .f32⟩
  | 67 => ⟨S2048x32, .f32⟩
  | 68 => ⟨S2048x1x32, .f32⟩
  | 69 => ⟨S2048x32, .f32⟩
  | 70 => ⟨S2048x1x32, .f32⟩
  | 71 => ⟨S16x2048x8x32, .f32⟩
  | 72 => ⟨S16x2048x8x32, .f32⟩
  | 73 => ⟨S1x2048x1x32, .f32⟩
  | 74 => ⟨S16x2048x8x32, .f32⟩
  | 75 => ⟨S16x2048x8x32, .f32⟩
  | 76 => ⟨S1x2048x1x32, .f32⟩
  | 77 => ⟨S16x2048x8x32, .f32⟩
  | 78 => ⟨S16x2048x8x32, .f32⟩
  | 79 => ⟨S16x2048x8x32, .f32⟩
  | 80 => ⟨S1x2048x1x32, .f32⟩
  | 81 => ⟨S16x2048x8x32, .f32⟩
  | 82 => ⟨S16x2048x8x32, .f32⟩
  | 83 => ⟨S1x2048x1x32, .f32⟩
  | 84 => ⟨S16x2048x8x32, .f32⟩
  | 85 => ⟨S16x2048x8x32, .f32⟩
  | 86 => ⟨S16x2048x8x32, .f32⟩
  | 87 => ⟨S16x2048x8x64, .f32⟩
  | 88 => ⟨S16x2048x8x64, .f32⟩
  | 89 => ⟨S16x2048x8x64, .f32⟩
  | 90 => ⟨S_, .f32⟩
  | 91 => ⟨S16x2048x8, .f32⟩
  | 92 => ⟨S16x2048x8x1, .f32⟩
  | 93 => ⟨S_, .f32⟩
  | 94 => ⟨S16x2048x8x1, .f32⟩
  | 95 => ⟨S16x2048x8x1, .f32⟩
  | 96 => ⟨S_, .f32⟩
  | 97 => ⟨S16x2048x8x1, .f32⟩
  | 98 => ⟨S16x2048x8x1, .f32⟩
  | 99 => ⟨S16x2048x8x1, .f32⟩
  | 100 => ⟨S16x2048x8x64, .f32⟩
  | 101 => ⟨S16x2048x8x64, .f32⟩
  | 102 => ⟨S1x1x1x64, .f32⟩
  | 103 => ⟨S16x2048x8x64, .f32⟩
  | 104 => ⟨S16x2048x8x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S2048, .f32⟩
  | 114 => ⟨S2048x1, .f32⟩
  | 115 => ⟨S1x32, .f32⟩
  | 116 => ⟨S2048x32, .f32⟩
  | 117 => ⟨S2048x32, .f32⟩
  | 118 => ⟨S2048x32, .f32⟩
  | 119 => ⟨S2048x32, .f32⟩
  | 120 => ⟨S2048x1x32, .f32⟩
  | 121 => ⟨S2048x32, .f32⟩
  | 122 => ⟨S2048x1x32, .f32⟩
  | 123 => ⟨S16x2048x8x32, .f32⟩
  | 124 => ⟨S16x2048x8x32, .f32⟩
  | 125 => ⟨S1x2048x1x32, .f32⟩
  | 126 => ⟨S16x2048x8x32, .f32⟩
  | 127 => ⟨S16x2048x8x32, .f32⟩
  | _ => ⟨S16x2048x1024, .f32⟩

abbrev hbmTy0_1 (i : Nat) : BufTy := match i % 128 with
  | 0 => ⟨S1x2048x1x32, .f32⟩
  | 1 => ⟨S16x2048x8x32, .f32⟩
  | 2 => ⟨S16x2048x8x32, .f32⟩
  | 3 => ⟨S16x2048x8x32, .f32⟩
  | 4 => ⟨S1x2048x1x32, .f32⟩
  | 5 => ⟨S16x2048x8x32, .f32⟩
  | 6 => ⟨S16x2048x8x32, .f32⟩
  | 7 => ⟨S1x2048x1x32, .f32⟩
  | 8 => ⟨S16x2048x8x32, .f32⟩
  | 9 => ⟨S16x2048x8x32, .f32⟩
  | 10 => ⟨S16x2048x8x32, .f32⟩
  | 11 => ⟨S16x2048x8x64, .f32⟩
  | 12 => ⟨S16x2048x8x64, .f32⟩
  | 13 => ⟨S16x2048x8x32, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x1x16, .f32⟩
  | 30 => ⟨S2048x16, .f32⟩
  | 31 => ⟨S2048x1x16, .f32⟩
  | 32 => ⟨S16x2048x8x16, .f32⟩
  | 33 => ⟨S16x2048x8x16, .f32⟩
  | 34 => ⟨S1x2048x1x16, .f32⟩
  | 35 => ⟨S16x2048x8x16, .f32⟩
  | 36 => ⟨S16x2048x8x16, .f32⟩
  | 37 => ⟨S1x2048x1x16, .f32⟩
  | 38 => ⟨S16x2048x8x16, .f32⟩
  | 39 => ⟨S16x2048x8x16, .f32⟩
  | 40 => ⟨S16x2048x8x16, .f32⟩
  | 41 => ⟨S1x2048x1x16, .f32⟩
  | 42 => ⟨S16x2048x8x16, .f32⟩
  | 43 => ⟨S16x2048x8x16, .f32⟩
  | 44 => ⟨S1x2048x1x16, .f32⟩
  | 45 => ⟨S16x2048x8x16, .f32⟩
  | 46 => ⟨S16x2048x8x16, .f32⟩
  | 47 => ⟨S16x2048x8x16, .f32⟩
  | 48 => ⟨S16x2048x8x32, .f32⟩
  | 49 => ⟨S16x2048x32, .f32⟩
  | 50 => ⟨S_, .f32⟩
  | 51 => ⟨S16x2048, .f32⟩
  | 52 => ⟨S16x2048x1, .f32⟩
  | 53 => ⟨S_, .f32⟩
  | 54 => ⟨S16x2048x1, .f32⟩
  | 55 => ⟨S16x2048x1, .f32⟩
  | 56 => ⟨S_, .f32⟩
  | 57 => ⟨S16x2048x1, .f32⟩
  | 58 => ⟨S16x2048x1, .f32⟩
  | 59 => ⟨S16x2048x1, .f32⟩
  | 60 => ⟨S16x2048x32, .f32⟩
  | 61 => ⟨S16x2048x32, .f32⟩
  | 62 => ⟨S1x1x32, .f32⟩
  | 63 => ⟨S16x2048x32, .f32⟩
  | 64 => ⟨S16x2048x32, .f32⟩
  | 65 => ⟨S16x2048x1x32, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S2048, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S2048x16, .f32⟩
  | 81 => ⟨S2048x1x16, .f32⟩
  | 82 => ⟨S2048x16, .f32⟩
  | 83 => ⟨S2048x1x16, .f32⟩
  | 84 => ⟨S16x2048x1x16, .f32⟩
  | 85 => ⟨S16x2048x1x16, .f32⟩
  | 86 => ⟨S1x2048x1x16, .f32⟩
  | 87 => ⟨S16x2048x1x16, .f32⟩
  | 88 => ⟨S16x2048x1x16, .f32⟩
  | 89 => ⟨S1x2048x1x16, .f32⟩
  | 90 => ⟨S16x2048x1x16, .f32⟩
  | 91 => ⟨S16x2048x1x16, .f32⟩
  | 92 => ⟨S16x2048x1x16, .f32⟩
  | 93 => ⟨S1x2048x1x16, .f32⟩
  | 94 => ⟨S16x2048x1x16, .f32⟩
  | 95 => ⟨S16x2048x1x16, .f32⟩
  | 96 => ⟨S1x2048x1x16, .f32⟩
  | 97 => ⟨S16x2048x1x16, .f32⟩
  | 98 => ⟨S16x2048x1x16, .f32⟩
  | 99 => ⟨S16x2048x1x16, .f32⟩
  | 100 => ⟨S16x2048x1x32, .f32⟩
  | 101 => ⟨S16x2048x32, .f32⟩
  | 102 => ⟨S_, .f32⟩
  | 103 => ⟨S16x2048x8, .f32⟩
  | 104 => ⟨S16x2048x8, .f32⟩
  | 105 => ⟨S16x2048x8x64, .f32⟩
  | 106 => ⟨S16x2048x8x64, .f32⟩
  | 107 => ⟨S_, .f32⟩
  | 108 => ⟨S16x2048x8, .f32⟩
  | 109 => ⟨S16x2048x8x1, .f32⟩
  | 110 => ⟨S_, .f32⟩
  | 111 => ⟨S16x2048x8x1, .f32⟩
  | 112 => ⟨S16x2048x8x1, .f32⟩
  | 113 => ⟨S_, .f32⟩
  | 114 => ⟨S16x2048x8x1, .f32⟩
  | 115 => ⟨S16x2048x8x1, .f32⟩
  | 116 => ⟨S16x2048x8x1, .f32⟩
  | 117 => ⟨S16x2048x8x64, .f32⟩
  | 118 => ⟨S16x2048x8x64, .f32⟩
  | 119 => ⟨S1x1x1x64, .f32⟩
  | 120 => ⟨S16x2048x8x64, .f32⟩
  | 121 => ⟨S16x2048x8x64, .f32⟩
  | 122 => ⟨S16x2048x8x64, .f32⟩
  | 123 => ⟨S16x2048x8x64, .f32⟩
  | 124 => ⟨S_, .f32⟩
  | 125 => ⟨S16x2048x8, .f32⟩
  | 126 => ⟨S16x2048x8x1, .f32⟩
  | 127 => ⟨S_, .f32⟩
  | _ => ⟨S16x2048x1024, .f32⟩

abbrev hbmTy0_2 (i : Nat) : BufTy := match i % 128 with
  | 0 => ⟨S16x2048x8x1, .f32⟩
  | 1 => ⟨S16x2048x8x1, .f32⟩
  | 2 => ⟨S_, .f32⟩
  | 3 => ⟨S16x2048x8x1, .f32⟩
  | 4 => ⟨S16x2048x8x1, .f32⟩
  | 5 => ⟨S16x2048x8x1, .f32⟩
  | 6 => ⟨S16x2048x8x64, .f32⟩
  | 7 => ⟨S16x2048x8x64, .f32⟩
  | 8 => ⟨S1x1x1x64, .f32⟩
  | 9 => ⟨S16x2048x8x64, .f32⟩
  | 10 => ⟨S16x2048x8x64, .f32⟩
  | 11 => ⟨S16x2048x8x64, .f32⟩
  | 12 => ⟨S16x8x256x512, .f32⟩
  | 13 => ⟨S16x8x512x256, .f32⟩
  | 14 => ⟨S32768x32, .f32⟩
  | 15 => ⟨S_, .i32⟩
  | 16 => ⟨S_, .f32⟩
  | 17 => ⟨S32768x128, .f32⟩
  | 18 => ⟨S_, .f32⟩
  | 19 => ⟨S16x2048x8x64, .f32⟩
  | 20 => ⟨S16x2048x8x64, .f32⟩
  | 21 => ⟨S16x2048x512, .f32⟩
  | 22 => ⟨S16x512x2048, .f32⟩
  | 23 => ⟨S16x512x2048, .bf16⟩
  | 24 => ⟨S32768x512, .f32⟩
  | 25 => ⟨S32768x512, .f32⟩
  | 26 => ⟨S32768x512, .bf16⟩
  | 27 => ⟨S32768x512, .f32⟩
  | 28 => ⟨S16x8x512x256, .bf16⟩
  | 29 => ⟨S16x2048x256, .f32⟩
  | 30 => ⟨S16x256x2048, .f32⟩
  | 31 => ⟨S16x256x2048, .bf16⟩
  | 32 => ⟨S32768x32, .f32⟩
  | 33 => ⟨S32768x128, .bf16⟩
  | 34 => ⟨S16x8x2048, .f32⟩
  | 35 => ⟨S_, .f32⟩
  | 36 => ⟨S16x2048x8x64, .f32⟩
  | 37 => ⟨S16x2048x8x64, .f32⟩
  | 38 => ⟨S32768x512, .f32⟩
  | 39 => ⟨S32768x512, .bf16⟩
  | 40 => ⟨S32768x512, .f32⟩
  | 41 => ⟨S32768x512, .f32⟩
  | 42 => ⟨S32768x512, .bf16⟩
  | 43 => ⟨S32768x512, .f32⟩
  | 44 => ⟨S32768x512, .f32⟩
  | 45 => ⟨S32768x512, .bf16⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_10 : Ref sig .tc := ⟨.hbm, 107, rfl⟩
abbrev main_v88 : Ref sig .tc := ⟨.hbm, 108, rfl⟩
abbrev main_v89 : Ref sig .tc := ⟨.hbm, 109, rfl⟩
abbrev main_cst_11 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_12 : Ref sig .tc := ⟨.hbm, 144, rfl⟩
abbrev main_v123 : Ref sig .tc := ⟨.hbm, 145, rfl⟩
abbrev main_v124 : Ref sig .tc := ⟨.hbm, 146, rfl⟩
abbrev main_cst_13 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_cst_14 : Ref sig .tc := ⟨.hbm, 178, rfl⟩
abbrev main_v155 : Ref sig .tc := ⟨.hbm, 179, rfl⟩
abbrev main_v156 : Ref sig .tc := ⟨.hbm, 180, rfl⟩
abbrev main_cst_15 : Ref sig .tc := ⟨.hbm, 181, rfl⟩
abbrev main_v157 : Ref sig .tc := ⟨.hbm, 182, rfl⟩
abbrev main_v158 : Ref sig .tc := ⟨.hbm, 183, rfl⟩
abbrev main_cst_16 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_cst_17 : Ref sig .tc := ⟨.hbm, 196, rfl⟩
abbrev main_v170 : Ref sig .tc := ⟨.hbm, 197, rfl⟩
abbrev main_v171 : Ref sig .tc := ⟨.hbm, 198, rfl⟩
abbrev main_cst_18 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_cst_19 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_cst_20 : Ref sig .tc := ⟨.hbm, 235, rfl⟩
abbrev main_v206 : Ref sig .tc := ⟨.hbm, 236, rfl⟩
abbrev main_v207 : Ref sig .tc := ⟨.hbm, 237, rfl⟩
abbrev main_cst_21 : Ref sig .tc := ⟨.hbm, 238, rfl⟩
abbrev main_v208 : Ref sig .tc := ⟨.hbm, 239, rfl⟩
abbrev main_v209 : Ref sig .tc := ⟨.hbm, 240, rfl⟩
abbrev main_cst_22 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_cst_23 : Ref sig .tc := ⟨.hbm, 252, rfl⟩
abbrev main_v220 : Ref sig .tc := ⟨.hbm, 253, rfl⟩
abbrev main_v221 : Ref sig .tc := ⟨.hbm, 254, rfl⟩
abbrev main_cst_24 : Ref sig .tc := ⟨.hbm, 255, rfl⟩
abbrev main_v222 : Ref sig .tc := ⟨.hbm, 256, rfl⟩
abbrev main_v223 : Ref sig .tc := ⟨.hbm, 257, rfl⟩
abbrev main_cst_25 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_c : Ref sig .tc := ⟨.hbm, 271, rfl⟩
abbrev main_call0_v0 : Ref sig .tc := ⟨.hbm, 272, rfl⟩
abbrev main_v236 : Ref sig .tc := ⟨.hbm, 273, rfl⟩
abbrev main_cst_26 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_cst_27 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x8x64 : Shape := ⟨4, ![16, 2048, 8, 64]⟩
abbrev S1024 : Shape := ⟨1, ![1024]⟩
abbrev S1024x5416 : Shape := ⟨2, ![1024, 5416]⟩
abbrev S512x1024 : Shape := ⟨2, ![512, 1024]⟩
abbrev S1024x1024 : Shape := ⟨2, ![1024, 1024]⟩
abbrev S1024x2048 : Shape := ⟨2, ![1024, 2048]⟩
abbrev S128x128 : Shape := ⟨2, ![128, 128]⟩
abbrev S32768x512 : Shape := ⟨2, ![32768, 512]⟩
abbrev S32768x1024 : Shape := ⟨2, ![32768, 1024]⟩
abbrev S1x1024 : Shape := ⟨2, ![1, 1024]⟩
abbrev S2048x1024 : Shape := ⟨2, ![2048, 1024]⟩
abbrev S1024x32768 : Shape := ⟨2, ![1024, 32768]⟩
abbrev S8x128x32768 : Shape := ⟨3, ![8, 128, 32768]⟩
abbrev S512x512 : Shape := ⟨2, ![512, 512]⟩
abbrev S1024x512 : Shape := ⟨2, ![1024, 512]⟩
abbrev S8x128x512 : Shape := ⟨3, ![8, 128, 512]⟩
abbrev S512 : Shape := ⟨1, ![512]⟩
abbrev S512x1 : Shape := ⟨2, ![512, 1]⟩
abbrev S256x1024 : Shape := ⟨2, ![256, 1024]⟩
abbrev S256x512 : Shape := ⟨2, ![256, 512]⟩
abbrev S128x512 : Shape := ⟨2, ![128, 512]⟩
abbrev S1x128x512 : Shape := ⟨3, ![1, 128, 512]⟩

abbrev nBuf : Space → Nat
  | .hbm => 32
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048x8x64, .f32⟩
  | .hbm, ⟨2, _⟩ => ⟨S16x2048x8x64, .f32⟩
  | .hbm, ⟨3, _⟩ => ⟨S1024, .f32⟩
  | .hbm, ⟨4, _⟩ => ⟨S1024x5416, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S128x128, .f32⟩
  | .hbm, ⟨11, _⟩ => ⟨S128x128, .f32⟩
  | .hbm, ⟨12, _⟩ => ⟨S1024x2048, .f32⟩
  | .hbm, ⟨13, _⟩ => ⟨S1024x2048, .bf16⟩
  | .hbm, ⟨14, _⟩ => ⟨S32768x512, .f32⟩
  | .hbm, ⟨15, _⟩ => ⟨S32768x512, .bf16⟩
  | .hbm, ⟨16, _⟩ => ⟨S32768x512, .f32⟩
  | .hbm, ⟨17, _⟩ => ⟨S32768x512, .bf16⟩
  | .hbm, ⟨18, _⟩ => ⟨S32768x1024, .f32⟩
  | .hbm, ⟨19, _⟩ => ⟨S1x1024, .f32⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S1x1024, .f32⟩
  | .hbm, ⟨24, _⟩ => ⟨S2048x1024, .f32⟩
  | .hbm, ⟨25, _⟩ => ⟨S2048x1024, .bf16⟩
  | .hbm, ⟨26, _⟩ => ⟨S128x128, .bf16⟩
  | .hbm, ⟨27, _⟩ => ⟨S128x128, .bf16⟩
  | .hbm, ⟨28, _⟩ => ⟨S32768x1024, .f32⟩
  | .hbm, ⟨29, _⟩ => ⟨S1024x32768, .bf16⟩
  | .hbm, ⟨30, _⟩ => ⟨S8x128x32768, .f32⟩
  | .hbm, ⟨31, _⟩ => ⟨S8x128x32768, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S2048x1024, .bf16⟩
  | .local _ .vmem, ⟨13, _⟩ => ⟨S128x128, .bf16⟩
  | .local _ .vmem, ⟨14, _⟩ => ⟨S128x128, .bf16⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | .local _ .vmem, ⟨19, _⟩ => ⟨S8x128x512, .f32⟩
  | .local _ .vmem, ⟨20, _⟩ => ⟨S8x128x512, .f32⟩
  | .local _ .vmem, ⟨21, _⟩ => ⟨S8x128x512, .f32⟩
  | .local _ .vmem, ⟨22, _⟩ => ⟨S8x128x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16x2048x1024 : Shape := ⟨3, ![16, 2048, 1024]⟩
abbrev S16x2048x8x64 : Shape := ⟨4, ![16, 2048, 8, 64]⟩
abbrev S1024 : Shape := ⟨1, ![1024]⟩
abbrev S1024x5416 : Shape := ⟨2, ![1024, 5416]⟩
abbrev S512x1024 : Shape := ⟨2, ![512, 1024]⟩
abbrev S1024x1024 : Shape := ⟨2, ![1024, 1024]⟩
abbrev S1024x2048 : Shape := ⟨2, ![1024, 2048]⟩
abbrev S128x128 : Shape := ⟨2, ![128, 128]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S16x2048x512 : Shape := ⟨3, ![16, 2048, 512]⟩
abbrev S32768x1024 : Shape := ⟨2, ![32768, 1024]⟩
abbrev S32768x2048 : Shape := ⟨2, ![32768, 2048]⟩
abbrev S32768x8x256 : Shape := ⟨3, ![32768, 8, 256]⟩
abbrev S32768x8x128 : Shape := ⟨3, ![32768, 8, 128]⟩
abbrev S1024x32768 : Shape := ⟨2, ![1024, 32768]⟩
abbrev S8x128x32768 : Shape := ⟨3, ![8, 128, 32768]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x8x64, .f32⟩
  | .hbm, ⟨2, _⟩ => ⟨S16x2048x8x64, .f32⟩
  | .hbm, ⟨3, _⟩ => ⟨S1024, .f32⟩
  | .hbm, ⟨4, _⟩ => ⟨S1024x5416, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S128x128, .f32⟩
  | .hbm, ⟨11, _⟩ => ⟨S128x128, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S1024x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048x2048, .f32⟩
  | .hbm, ⟨37, _⟩ => ⟨S16x2048x2048, .f32⟩
  | .hbm, ⟨38, _⟩ => ⟨S16x2048x1024, .f32⟩
  | .hbm, ⟨39, _⟩ => ⟨S16x2048x1024, .f32⟩
  | .hbm, ⟨40, _⟩ => ⟨S16x2048x512, .f32⟩
  | .hbm, ⟨41, _⟩ => ⟨S16x2048x1024, .f32⟩
  | .hbm, ⟨42, _⟩ => ⟨S16x2048x1024, .f32⟩
  | .hbm, ⟨43, _⟩ => ⟨S16x2048x512, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1, .f32⟩
  | .hbm, ⟨60, _⟩ => ⟨S16x2048x1024, .f32⟩
  | .hbm, ⟨61, _⟩ => ⟨S16x2048x1024, .f32⟩
  | .hbm, ⟨62, _⟩ => ⟨S1x1x1024, .f32⟩
  | .hbm, ⟨63, _⟩ => ⟨S16x2048x1024, .f32⟩
  | .hbm, ⟨64, _⟩ => ⟨S16x2048x1024, .f32⟩
  | .hbm, ⟨65, _⟩ => ⟨S32768x1024, .f32⟩
  | .hbm, ⟨66, _⟩ => ⟨S32768x2048, .f32⟩
  | .hbm, ⟨67, _⟩ => ⟨S32768x8x256, .f32⟩
  | .hbm, ⟨68, _⟩ => ⟨S32768x8x128, .f32⟩
  | .hbm, ⟨69, _⟩ => ⟨S32768x8x128, .f32⟩
  | .hbm, ⟨70, _⟩ => ⟨S32768x8x128, .f32⟩
  | .hbm, ⟨71, _⟩ => ⟨S32768x8x128, .f32⟩
  | .hbm, ⟨72, _⟩ => ⟨S32768x1024, .f32⟩
  | .hbm, ⟨73, _⟩ => ⟨S1024x32768, .f32⟩
  | .hbm, ⟨74, _⟩ => ⟨S1024x32768, .bf16⟩
  | .hbm, ⟨75, _⟩ => ⟨S8x128x32768, .f32⟩
  | .hbm, ⟨76, _⟩ => ⟨S8x128x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Proof.Proof.ProjIdealBody.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! The run of the projection call: twenty-four windows, so the body obligation needs a larger step budget than the
default. The statements are generic in the float type; the printed program and its idealization share this text. -/

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x512 := Rect.unit (s := S512x512) ![0, 0] S512x512.size inb_S512x512_S512x512_0_0
abbrev r0_3 : Rect S1024x3456 := Rect.unit (s := S1024x3456) ![0, 0] S1024x512.size inb_S1024x3456_S1024x512_0_0
abbrev r0_4 : Rect S4x512 := Rect.unit (s := S4x512) ![0, 0] S1x512.size inb_S4x512_S1x512_0_0
abbrev r0_5 : Rect S1x512x512 := Rect.unit (s := S1x512x512) ![0, 0, 0] S1x512x512.size inb_S1x512x512_S1x512x512_0_0_0
abbrev r0_6 : Rect S1024x3456 := Rect.unit (s := S1024x3456) ![0, 512] S1024x512.size inb_S1024x3456_S1024x512_0_512
abbrev r0_7 : Rect S4x512 := Rect.unit (s := S4x512) ![1, 0] S1x512.size inb_S4x512_S1x512_1_0
abbrev r0_8 : Rect S1024x3456 := Rect.unit (s := S1024x3456) ![0, 1024] S1024x512.size inb_S1024x3456_S1024x512_0_1024
abbrev r0_9 : Rect S1x2x512x256 := Rect.unit (s := S1x2x512x256) ![0, 0, 0, 0] S1x1x512x256.size inb_S1x2x512x256_S1x1x512x256_0_0_0_0
abbrev r0_10 : Rect S1x2x512x256 := Rect.unit (s := S1x2x512x256) ![0, 1, 0, 0] S1x1x512x256.size inb_S1x2x512x256_S1x1x512x256_0_1_0_0
abbrev r0_11 : Rect S1024x3456 := Rect.unit (s := S1024x3456) ![0, 1536] S1024x512.size inb_S1024x3456_S1024x512_0_1536
abbrev r0_12 : Rect S4x512 := Rect.unit (s := S4x512) ![2, 0] S1x512.size inb_S4x512_S1x512_2_0
abbrev r0_13 : Rect S1024x3456 := Rect.unit (s := S1024x3456) ![0, 2048] S1024x512.size inb_S1024x3456_S1024x512_0_2048
abbrev r0_14 : Rect S4x512 := Rect.unit (s := S4x512) ![3, 0] S1x512.size inb_S4x512_S1x512_3_0
abbrev r0_15 : Rect S1024x3456 := Rect.unit (s := S1024x3456) ![0, 2560] S1024x512.size inb_S1024x3456_S1024x512_0_2560
abbrev r0_16 : Rect S1024x3456 := Rect.unit (s := S1024x3456) ![0, 3072] S1024x384.size inb_S1024x3456_S1024x384_0_3072
abbrev r0_17 : Rect S1x128 := Rect.unit (s := S1x128) ![0, 0] S1x128.size inb_S1x128_S1x128_0_0
abbrev r0_18 : Rect S512x384 := Rect.unit (s := S512x384) ![0, 0] S512x384.size inb_S512x384_S512x384_0_0
abbrev r0_19 : Rect S1x256x512 := Rect.unit (s := S1x256x512) ![0, 0, 0] S1x256x512.size inb_S1x256x512_S1x256x512_0_0_0
abbrev r0_20 : Rect S512x32 := Rect.unit (s := S512x32) ![0, 0] S512x32.size inb_S512x32_S512x32_0_0
abbrev r0_21 : Rect S512x128 := Rect.unit (s := S512x128) ![0, 0] S512x128.size inb_S512x128_S512x128_0_0
abbrev r0_22 : Rect S1x8x512 := Rect.unit (s := S1x8x512) ![0, 0, 0] S1x8x512.size inb_S1x8x512_S1x8x512_0_0_0

/-! ## What the body leaves in each output window's buffer -/

/-! ### Values the body computes once and uses in several stores, over the input windows' blocks -/

def k0_pay43 : IVec S1x128 32 :=
  iota .tc S1x128 32 [1] iota_S1x128_d1_w32
def k0_pay44 (x0 : Vec F S512x1024 .f32) (x1 : Vec F S1x1024 .f32) : FVec F S512x1024 .bf16 :=
  k0_pay7 (View.ld x0 r0_0) (View.ld x1 r0_1)
def k0_pay45 (x6 : Vec F S512x512 .f32) : FVec F S512x512 .f32 :=
  k0_pay8 (View.ld x6 r0_2)
def k0_pay46 (x7 : Vec F S512x512 .f32) : FVec F S512x512 .f32 :=
  k0_pay9 (View.ld x7 r0_2)
def k0_pay47 (x0 : Vec F S512x1024 .f32) (x1 : Vec F S1x1024 .f32) (x2 : Vec F S1024x3456 .bf16) (x3 : Vec F S512x512 .bf16) (x4 : Vec F S4x512 .f32) : FVec F S512x512 .f32 :=
  k0_pay10 (View.ld x0 r0_0) (View.ld x1 r0_1) (View.ld x2 r0_3) (View.ld x3 r0_2) (View.ld x4 r0_4)
def k0_pay48 : IVec S1x128 32 :=
  iota .tc S1x128 32 [1] iota_S1x128_d1_w32
def k0_pay49 (x0 : Vec F S512x1024 .f32) (x1 : Vec F S1x1024 .f32) (x2 : Vec F S1024x3456 .bf16) (x3 : Vec F S512x512 .bf16) (x4 : Vec F S4x512 .f32) : FVec F S512x512 .f32 :=
  k0_pay18 (k0_pay44 x0 x1) (View.ld x2 r0_6) (View.ld x3 r0_2) (View.ld x4 r0_7)
def k0_pay50 : IVec S1x128 1 :=
  k0_pay19 k0_pay48 (Scalar.select (Scalar.cmpi .eq 64#32 0#32) 1#32 64#32)
def k0_pay51 (x0 : Vec F S512x1024 .f32) (x1 : Vec F S1x1024 .f32) (x2 : Vec F S1024x3456 .bf16) (x3 : Vec F S512x512 .bf16) (x4 : Vec F S4x512 .f32) (x6 : Vec F S512x512 .f32) (x7 : Vec F S512x512 .f32) : FVec F S512x128 .f32 :=
  k0_pay20 (k0_pay45 x6) (k0_pay46 x7) (k0_pay49 x0 x1 x2 x3 x4) k0_pay48 (Scalar.select (Scalar.cmpi .eq 64#32 0#32) 1#32 64#32)
def k0_pay52 (x0 : Vec F S512x1024 .f32) (x1 : Vec F S1x1024 .f32) (x2 : Vec F S1024x3456 .bf16) (x3 : Vec F S512x512 .bf16) (x4 : Vec F S4x512 .f32) (x6 : Vec F S512x512 .f32) (x7 : Vec F S512x512 .f32) : FVec F S512x128 .f32 :=
  k0_pay21 (k0_pay45 x6) (k0_pay46 x7) (k0_pay49 x0 x1 x2 x3 x4) k0_pay48 (Scalar.select (Scalar.cmpi .eq 64#32 0#32) 1#32 64#32)
def k0_pay53 (x0 : Vec F S512x1024 .f32) (x1 : Vec F S1x1024 .f32) (x2 : Vec F S1024x3456 .bf16) (x3 : Vec F S512x512 .bf16) (x4 : Vec F S4x512 .f32) (x6 : Vec F S512x512 .f32) (x7 : Vec F S512x512 .f32) : FVec F S512x128 .f32 :=
  k0_pay22 (k0_pay45 x6) (k0_pay46 x7) (k0_pay49 x0 x1 x2 x3 x4) k0_pay48 (Scalar.select (Scalar.cmpi .eq 64#32 0#32) 1#32 64#32)
def k0_pay54 (x0 : Vec F S512x1024 .f32) (x1 : Vec F S1x1024 .f32) (x2 : Vec F S1024x3456 .bf16) (x3 : Vec F S512x512 .bf16) (x4 : Vec F S4x512 .f32) : FVec F S512x128 .f32 :=
  k0_pay23 (k0_pay49 x0 x1 x2 x3 x4)
def k0_pay55 (x0 : Vec F S512x1024 .f32) (x1 : Vec F S1x1024 .f32) (x2 : Vec F S1024x3456 .bf16) (x5 : Vec F S1x128 .f32) : FVec F S512x384 .f32 :=
  k0_pay36 (k0_pay44 x0 x1) (View.ld x2 r0_16) (View.ld x5 r0_17)
def k0_pay56 (x8 : Vec F S512x384 .f32) : FVec F S512x384 .f32 :=
  k0_pay37 (View.ld x8 r0_18)
def k0_pay57 (x9 : Vec F S512x384 .f32) : FVec F S512x384 .f32 :=
  k0_pay38 (View.ld x9 r0_18)
def k0_pay58 : IVec S1x128 1 :=
  k0_pay39
def k0_pay59 (x0 : Vec F S512x1024 .f32) (x1 : Vec F S1x1024 .f32) (x2 : Vec F S1024x3456 .bf16) (x5 : Vec F S1x128 .f32) (x8 : Vec F S512x384 .f32) (x9 : Vec F S512x384 .f32) : FVec F S512x128 .f32 :=
  k0_pay40 (k0_pay55 x0 x1 x2 x5) (View.ld x8 r0_18) (View.ld x9 r0_18)
def k0_pay60 (x0 : Vec F S512x1024 .f32) (x1 : Vec F S1x1024 .f32) (x2 : Vec F S1024x3456 .bf16) (x5 : Vec F S1x128 .f32) (x8 : Vec F S512x384 .f32) (x9 : Vec F S512x384 .f32) : FVec F S512x128 .f32 :=
  k0_pay41 (k0_pay55 x0 x1 x2 x5) (View.ld x8 r0_18) (View.ld x9 r0_18)
def k0_pay61 (x0 : Vec F S512x1024 .f32) (x1 : Vec F S1x1024 .f32) (x2 : Vec F S1024x3456 .bf16) (x5 : Vec F S1x128 .f32) : FVec F S512x128 .f32 :=
  k0_pay42 (k0_pay55 x0 x1 x2 x5)

/-- What the body leaves in window 10's buffer: its stores, the last one first. -/
def out0_10 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S1x512x512 .bf16 :=
  View.canon [⟨r0_5, k0_pay17 (k0_pay45 x6) (k0_pay46 x7) (k0_pay47 x0 x1 x2 x3 x4) (k0_pay11 k0_pay43 64#32) (k0_pay12 (k0_pay45 x6) (k0_pay46 x7) (k0_pay47 x0 x1 x2 x3 x4) k0_pay43 64#32) (k0_pay13 (k0_pay45 x6) (k0_pay46 x7) (k0_pay47 x0 x1 x2 x3 x4) k0_pay43 64#32) (k0_pay15 (k0_pay47 x0 x1 x2 x3 x4) k0_pay43 64#32) (k0_pay16 (k0_pay45 x6) (k0_pay47 x0 x1 x2 x3 x4))⟩]

/-- The stores cover the buffer. -/
theorem cover0_10 (p0 : Vec F S1x512x512 .bf16) (y : S1x512x512.Idx) :
    ∃ pc ∈ ([⟨r0_5, p0⟩] : List (View.Piece (Elt F) S1x512x512 .bf16)), y ∈ pc.1.set :=
  View.cover_of_tiled [⟨r0_5, p0⟩] S1x512x512.size (by rfl) y

/-- What the body leaves in window 11's buffer: its stores, the last one first. -/
def out0_11 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .f32 :=
  View.canon [⟨r0_2, k0_pay24 (k0_pay45 x6) (k0_pay46 x7) k0_pay50 (k0_pay51 x0 x1 x2 x3 x4 x6 x7) (k0_pay52 x0 x1 x2 x3 x4 x6 x7) (k0_pay53 x0 x1 x2 x3 x4 x6 x7) (k0_pay54 x0 x1 x2 x3 x4)⟩]

/-- The stores cover the buffer. -/
theorem cover0_11 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-- What the body leaves in window 12's buffer: its stores, the last one first. -/
def out0_12 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .bf16 :=
  View.canon [⟨r0_2, k0_pay25 (k0_pay45 x6) (k0_pay46 x7) k0_pay50 (k0_pay51 x0 x1 x2 x3 x4 x6 x7) (k0_pay52 x0 x1 x2 x3 x4 x6 x7) (k0_pay53 x0 x1 x2 x3 x4 x6 x7) (k0_pay54 x0 x1 x2 x3 x4)⟩]

/-- The stores cover the buffer. -/
theorem cover0_12 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-- What the body leaves in window 13's buffer: its stores, the last one first. -/
def out0_13 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .f32 :=
  View.canon [⟨r0_2, k0_pay26 (k0_pay44 x0 x1) (View.ld x2 r0_8)⟩]

/-- The stores cover the buffer. -/
theorem cover0_13 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-- What the body leaves in window 14's buffer: its stores, the last one first. -/
def out0_14 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S1x2x512x256 .bf16 :=
  View.canon [⟨r0_10, k0_pay28 (k0_pay44 x0 x1) (View.ld x2 r0_8)⟩,
    ⟨r0_9, k0_pay27 (k0_pay44 x0 x1) (View.ld x2 r0_8)⟩]

/-- The stores cover the buffer. -/
theorem cover0_14 (p0 : Vec F S1x1x512x256 .bf16) (p1 : Vec F S1x1x512x256 .bf16) (y : S1x2x512x256.Idx) :
    ∃ pc ∈ ([⟨r0_10, p0⟩, ⟨r0_9, p1⟩] : List (View.Piece (Elt F) S1x2x512x256 .bf16)), y ∈ pc.1.set :=
  View.cover_of_tiled [⟨r0_10, p0⟩, ⟨r0_9, p1⟩] S1x1x512x256.size (by rfl) y

/-- What the body leaves in window 15's buffer: its stores, the last one first. -/
def out0_15 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S1x256x512 .bf16 :=
  View.canon [⟨r0_19, k0_pay2 (k0_pay56 x8) (k0_pay57 x9) k0_pay58 (k0_pay59 x0 x1 x2 x5 x8 x9) (k0_pay60 x0 x1 x2 x5 x8 x9) (k0_pay61 x0 x1 x2 x5)⟩]

/-- The stores cover the buffer. -/
theorem cover0_15 (p0 : Vec F S1x256x512 .bf16) (y : S1x256x512.Idx) :
    ∃ pc ∈ ([⟨r0_19, p0⟩] : List (View.Piece (Elt F) S1x256x512 .bf16)), y ∈ pc.1.set :=
  View.cover_of_tiled [⟨r0_19, p0⟩] S1x256x512.size (by rfl) y

/-- What the body leaves in window 16's buffer: its stores, the last one first. -/
def out0_16 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x32 .f32 :=
  View.canon [⟨r0_20, k0_pay4 (k0_pay56 x8) (k0_pay57 x9) k0_pay58 (k0_pay59 x0 x1 x2 x5 x8 x9) (k0_pay60 x0 x1 x2 x5 x8 x9) (k0_pay61 x0 x1 x2 x5)⟩]

/-- The stores cover the buffer. -/
theorem cover0_16 (p0 : Vec F S512x32 .f32) (y : S512x32.Idx) :
    ∃ pc ∈ ([⟨r0_20, p0⟩] : List (View.Piece (Elt F) S512x32 .f32)), y ∈ pc.1.set :=
  View.cover_of_tiled [⟨r0_20, p0⟩] S512x32.size (by rfl) y

/-- What the body leaves in window 17's buffer: its stores, the last one first. -/
def out0_17 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x128 .bf16 :=
  View.canon [⟨r0_21, k0_pay5 k0_pay35 (k0_pay56 x8) (k0_pay57 x9) k0_pay58 (k0_pay59 x0 x1 x2 x5 x8 x9) (k0_pay60 x0 x1 x2 x5 x8 x9) (k0_pay61 x0 x1 x2 x5)⟩]

/-- The stores cover the buffer. -/
theorem cover0_17 (p0 : Vec F S512x128 .bf16) (y : S512x128.Idx) :
    ∃ pc ∈ ([⟨r0_21, p0⟩] : List (View.Piece (Elt F) S512x128 .bf16)), y ∈ pc.1.set :=
  View.cover_of_tiled [⟨r0_21, p0⟩] S512x128.size (by rfl) y

/-- What the body leaves in window 18's buffer: its stores, the last one first. -/
def out0_18 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S1x8x512 .f32 :=
  View.canon [⟨r0_22, k0_pay6 (k0_pay56 x8) (k0_pay57 x9) k0_pay58 (k0_pay59 x0 x1 x2 x5 x8 x9) (k0_pay60 x0 x1 x2 x5 x8 x9) (k0_pay61 x0 x1 x2 x5)⟩]

/-- The stores cover the buffer. -/
theorem cover0_18 (p0 : Vec F S1x8x512 .f32) (y : S1x8x512.Idx) :
    ∃ pc ∈ ([⟨r0_22, p0⟩] : List (View.Piece (Elt F) S1x8x512 .f32)), y ∈ pc.1.set :=
  View.cover_of_tiled [⟨r0_22, p0⟩] S1x8x512.size (by rfl) y

/-- What the body leaves in window 19's buffer: its stores, the last one first. -/
def out0_19 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .bf16 :=
  View.canon [⟨r0_2, k0_pay30 (k0_pay29 (k0_pay44 x0 x1) (View.ld x2 r0_11)) (View.ld x3 r0_2) (View.ld x4 r0_12)⟩]

/-- The stores cover the buffer. -/
theorem cover0_19 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-- What the body leaves in window 20's buffer: its stores, the last one first. -/
def out0_20 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .f32 :=
  View.canon [⟨r0_2, k0_pay31 (k0_pay44 x0 x1) (View.ld x2 r0_13) (View.ld x3 r0_2) (View.ld x4 r0_14)⟩]

/-- The stores cover the buffer. -/
theorem cover0_20 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-- What the body leaves in window 21's buffer: its stores, the last one first. -/
def out0_21 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .bf16 :=
  View.canon [⟨r0_2, k0_pay32 (k0_pay44 x0 x1) (View.ld x2 r0_13) (View.ld x3 r0_2) (View.ld x4 r0_14)⟩]

/-- The stores cover the buffer. -/
theorem cover0_21 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-- What the body leaves in window 22's buffer: its stores, the last one first. -/
def out0_22 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .f32 :=
  View.canon [⟨r0_2, k0_pay33 (k0_pay44 x0 x1) (View.ld x2 r0_15)⟩]

/-- The stores cover the buffer. -/
theorem cover0_22 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-- What the body leaves in window 23's buffer: its stores, the last one first. -/
def out0_23 (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) : Vec F S512x512 .bf16 :=
  View.canon [⟨r0_2, k0_pay34 (k0_pay44 x0 x1) (View.ld x2 r0_15)⟩]

/-- The stores cover the buffer. -/
theorem cover0_23 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S512x512 .bf16) (harg4 : arg4.IsWhole) (arg5 : Memref sig .tc .vmem S4x512 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x384 .f32) (harg9 : arg9.IsWhole) (arg10 : Memref sig .tc .vmem S512x384 .f32) (harg10 : arg10.IsWhole) (arg11 : Memref sig .tc .vmem S1x512x512 .bf16) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1x2x512x256 .bf16) (harg15 : arg15.IsWhole) (arg16 : Memref sig .tc .vmem S1x256x512 .bf16) (harg16 : arg16.IsWhole) (arg17 : Memref sig .tc .vmem S512x32 .f32) (harg17 : arg17.IsWhole) (arg18 : Memref sig .tc .vmem S512x128 .bf16) (harg18 : arg18.IsWhole) (arg19 : Memref sig .tc .vmem S1x8x512 .f32) (harg19 : arg19.IsWhole) (arg20 : Memref sig .tc .vmem S512x512 .bf16) (harg20 : arg20.IsWhole) (arg21 : Memref sig .tc .vmem S512x512 .f32) (harg21 : arg21.IsWhole) (arg22 : Memref sig .tc .vmem S512x512 .bf16) (harg22 : arg22.IsWhole) (arg23 : Memref sig .tc .vmem S512x512 .f32) (harg23 : arg23.IsWhole) (arg24 : Memref sig .tc .vmem S512x512 .bf16) (harg24 : arg24.IsWhole)
    (x0 : Vec F S512x1024 .f32) (x1 : Vec F S1x1024 .f32) (x2 : Vec F S1024x3456 .bf16) (x3 : Vec F S512x512 .bf16) (x4 : Vec F S4x512 .f32) (x5 : Vec F S1x128 .f32) (x6 : Vec F S512x512 .f32) (x7 : Vec F S512x512 .f32) (x8 : Vec F S512x384 .f32) (x9 : Vec F S512x384 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9) ∗ owns (c : Thread nD τ) arg14 fullShare (out0_13 x0 x1 x2 x3 x4 x5 x6 x7 x8 x9) ∗ owns (c : Thread nD τ) arg15 fullShare (out0_14 x0 x1 x2 x3 x4 x5 x6 x7 x8 x9) ∗ owns (c : Thread nD τ) arg16 fullShare (out0_15 x0 x1 x2 x3 x4 x5 x6 x7 x8 x9) ∗ owns (c : Thread nD τ) arg17 fullShare (out0_16 x0 x1 x2 x3 x4 x5 x6 x7 x8 x9) ∗ owns (c : Thread nD τ) arg18 fullShare (out0_17 x0 x1 x2 x3 x4 x5 x6 x7 x8 x9) ∗ owns (c : Thread nD τ) arg19 fullShare (out0_18 x0 x1 x2 x3 x4 x5 x6 x7 x8 x9) ∗ owns (c : Thread nD τ) arg20 fullShare (out0_19 x0 x1 x2 x3 x4 x5 x6 x7 x8 x9) ∗ owns (c : Thread nD τ) arg21 fullShare (out0_20 x0 x1 x2 x3 x4 x5 x6 x7 x8 x9) ∗ owns (c : Thread nD τ) arg22 fullShare (out0_21 x0 x1 x2 x3 x4 x5 x6 x7 x8 x9) ∗ owns (c : Thread nD τ) arg23 fullShare (out0_22 x0 x1 x2 x3 x4 x5 x6 x7 x8 x9) ∗ owns (c : Thread nD τ) arg24 fullShare (out0_23 x0 x1 x2 x3 x4 x5 x6 x7 x8 x9)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 1600000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjIdeal.Body

end
-- ==== Proof.Proof.BandSpec.lean ====
module

public import Idealize.ShloMosaic.Lib.Pipeline.ValueKit
public import Idealize.ShloMosaic.Lib.Pointwise

/-! One row of attention, as the reference computes it and as the kernel does, and why they agree. -/

@[expose] public section

set_option maxRecDepth 16384

noncomputable section

namespace Cert.BandSpec

open Idealize.ShloMosaic

/-- Minus infinity, as both programs write it. -/
abbrev low : EReal := Ideal.ofBits FTy.f32 4286578688#32

theorem low_eq : low = ⊥ := by
  rfl

/-- The greatest of some scores. -/
def top {n : ℕ} (s : Fin n → EReal) : EReal := Finset.fold max low s Finset.univ

/-- A row of the reference: each value times its weight over the sum of the weights. -/
def refRow {n : ℕ} (s v : Fin n → EReal) : EReal :=
  ∑ x, v x * Ideal.div (Ideal.exp (s x - max low (top s))) (∑ y, Ideal.exp (s y - max low (top s)))

/-- A row of the kernel: the weighted sum of the values, times one over the sum of the weights. -/
def kerRow {n : ℕ} (s v : Fin n → EReal) : EReal :=
  (∑ x, Ideal.exp (s x - top s) * v x) * Ideal.div 1 (∑ x, Ideal.exp (s x - top s))

/-- A row of the kernel over 640 keys, from its query, keys, biases and values; a row below the 512th does not count. -/
def headRow (q : Fin 64 → EReal) (k : Fin 640 → Fin 64 → EReal) (b : Fin 640 → EReal) (base : ℕ) (v : Fin 640 → EReal) : EReal :=
  kerRow (fun x => if 512 ≤ base + x.val then (∑ d, q d * k x d) + b x else ⊥) v

theorem top_eq {n : ℕ} (s : Fin n → EReal) : top s = Finset.univ.sup s := by
  unfold top
  rw [low_eq]
  rfl

theorem le_top {n : ℕ} (s : Fin n → EReal) (i : Fin n) : s i ≤ top s := by
  rw [top_eq]
  exact Finset.le_sup (Finset.mem_univ i)

/-- Some scores are numbers and the others are minus infinity, so the greatest is a number. -/
theorem top_real {n : ℕ} (s : Fin n → EReal) (hs : ∀ i, s i ≠ ⊤) (i : Fin n) (hi : s i ≠ ⊥) : ∃ M : ℝ, top s = (M : EReal) := by
  have h1 : top s ≠ ⊥ := fun h => hi (le_bot_iff.mp (h ▸ le_top s i))
  have h2 : top s ≠ ⊤ := by
    rw [top_eq]
    refine ne_of_lt ((Finset.sup_lt_iff (by exact bot_lt_top)).mpr fun j _ => lt_top_iff_ne_top.mpr (hs j))
  exact ⟨(top s).toReal, (EReal.coe_toReal h2 h1).symm⟩

/-- The weight of a score that is a number or minus infinity is a number at least 0. -/
theorem weight_real (a : EReal) (ha : a ≠ ⊤) (M : ℝ) : ∃ e : ℝ, 0 ≤ e ∧ Ideal.exp (a - (M : EReal)) = (e : EReal) ∧ (a ≠ ⊥ → 0 < e) := by
  induction a using EReal.rec with
  | bot => exact ⟨0, le_refl 0, by simp [Ideal.exp_bot], fun h => absurd rfl h⟩
  | coe a => exact ⟨Real.exp (a - M), (Real.exp_pos _).le, by rw [← EReal.coe_sub, Ideal.exp_coe], fun _ => Real.exp_pos _⟩
  | top => exact absurd rfl ha

/-- The two rows agree where the kernel's row is the reference's with scores of minus infinity put in. -/
theorem rows_agree {n N : ℕ} (s v : Fin n → EReal) (S V : Fin N → EReal) (e : Fin n → Fin N) (he : Function.Injective e)
    (hS : ∀ w, S (e w) = s w) (hV : ∀ w, V (e w) = v w) (hout : ∀ x, (∀ w, e w ≠ x) → S x = ⊥)
    (hs : ∀ w, s w ≠ ⊤) (w0 : Fin n) (hw0 : s w0 ≠ ⊥) : kerRow S V = refRow s v := by
  have htop : top S = top s := by
    rw [top_eq, top_eq]
    refine le_antisymm (Finset.sup_le fun x _ => ?_) (Finset.sup_le fun w _ => ?_)
    · by_cases hx : ∃ w, e w = x
      · obtain ⟨w, rfl⟩ := hx
        rw [hS]
        exact Finset.le_sup (Finset.mem_univ w)
      · rw [hout x (fun w h => hx ⟨w, h⟩)]
        exact bot_le
    · rw [← hS w]
      exact Finset.le_sup (Finset.mem_univ (e w))
  obtain ⟨M, hM⟩ := top_real s hs w0 hw0
  have hre : max low (top s) = (M : EReal) := by rw [low_eq, hM]; exact max_eq_right bot_le
  choose g hg0 hg hgpos using fun w => weight_real (s w) (hs w) M
  have hsum : ∀ f : Fin N → EReal, (∀ x, (∀ w, e w ≠ x) → f x = 0) → ∑ x, f x = ∑ w, f (e w) := fun f hf => by
    refine (Finset.sum_of_injOn e he.injOn (by simp) (fun x _ hx => hf x fun w h => hx ⟨w, by simp, h⟩) (fun _ _ => rfl)).symm
  have hexp : ∀ x, (∀ w, e w ≠ x) → Ideal.exp (S x - (M : EReal)) = 0 := fun x hx => by
    rw [hout x hx]; simp [Ideal.exp_bot]
  unfold kerRow refRow
  rw [htop, hre, hM, hsum _ hexp, hsum (fun x => Ideal.exp (S x - (M : EReal)) * V x) (fun x hx => by show Ideal.exp _ * _ = 0; rw [hexp x hx, zero_mul])]
  simp only [hS, hV, hg]
  have hcoe : ∀ t : Finset (Fin n), ∑ w ∈ t, (g w : EReal) = ((∑ w ∈ t, g w : ℝ) : EReal) := fun t => by
    induction t using Finset.cons_induction with
    | empty => simp
    | cons a t ha ih => rw [Finset.sum_cons, Finset.sum_cons, ih, EReal.coe_add]
  have hpos : 0 < ∑ w, g w := lt_of_lt_of_le (hgpos w0 hw0) (Finset.single_le_sum (fun w _ => hg0 w) (Finset.mem_univ w0))
  rw [hcoe]
  generalize ∑ w, g w = G at hpos ⊢
  have hinv : (0 : ℝ) ≤ 1 / G := by positivity
  simp only [Ideal.div_coe hpos.ne', one_mul]
  generalize 1 / G = I at hinv ⊢
  have hmul : ∀ (t : Finset (Fin n)) (f : Fin n → EReal), (∑ w ∈ t, f w) * (I : EReal) = ∑ w ∈ t, f w * (I : EReal) := fun t f => by
    induction t using Finset.cons_induction with
    | empty => simp
    | cons a t ha ih =>
      rw [Finset.sum_cons, Finset.sum_cons, EReal.right_distrib_of_nonneg_of_ne_top (by exact_mod_cast hinv) (EReal.coe_ne_top _), ih]
  rw [hmul]
  refine Finset.sum_congr rfl fun w _ => ?_
  rw [mul_comm (g w : EReal) (v w), mul_assoc]

end Cert.BandSpec
-- ==== Proof.Proof.BandWords.lean ====
module

public import proofs.«01_k».proof.Proof.Proof.BandSpec
public import proofs.«01_k».proof.Proof.Gen.BandIdeal.Value

/-! The band kernel's stored values, read one entry at a time: words, lanes and rows. -/

@[expose] public section

set_option maxRecDepth 16384

noncomputable section

namespace Cert.BandKernel

open Idealize.ShloMosaic Idealize.ShloMosaic.TcCoe Idealize.SL.Sem Cert.BandIdeal Cert.BandIdeal.Gen Cert.BandSpec

/-- The named mask is minus infinity. -/
theorem mask_eq : (Named.named (F := Ideal) κ "mask" (φ := .f32) 4048155338#32 : EReal) = ⊥ := rfl

theorem sel_one (a b : EReal) : Scalar.select 1#1 a b = a := rfl

theorem sel_zero (a b : EReal) : Scalar.select 0#1 a b = b := rfl

/-- Lanes below 64 belong to the pair's first head. -/
theorem lane_lo : ∀ d : Fin 64, IntOp.cmpi .slt (BitVec.ofNat 32 d.val) 64#32 = 1#1 := by decide +kernel

/-- Lanes from 64 belong to the pair's second head. -/
theorem lane_hi : ∀ d : Fin 64, IntOp.cmpi .slt (BitVec.ofNat 32 (64 + d.val)) 64#32 = 0#1 := by decide +kernel

/-- A sum over the lanes with the second head's put to zero is the first head's sum. -/
theorem sum_lo (f : Fin 128 → EReal) : ∑ x : Fin 128, Scalar.select (IntOp.cmpi .slt (BitVec.ofNat 32 x.val) 64#32) (f x) 0 = ∑ d : Fin 64, f ⟨d.val, by omega⟩ := by
  rw [Fin.sum_univ_add (a := 64) (b := 64) (fun x : Fin 128 => Scalar.select (IntOp.cmpi .slt (BitVec.ofNat 32 x.val) 64#32) (f x) 0)]
  have h1 : ∀ d : Fin 64, Scalar.select (IntOp.cmpi .slt (BitVec.ofNat 32 (Fin.castAdd 64 d).val) 64#32) (f (Fin.castAdd 64 d)) 0 = f ⟨d.val, by omega⟩ := fun d => by
    rw [show (Fin.castAdd 64 d).val = d.val from rfl, lane_lo]; rfl
  have h2 : ∀ d : Fin 64, Scalar.select (IntOp.cmpi .slt (BitVec.ofNat 32 (Fin.natAdd 64 d).val) 64#32) (f (Fin.natAdd 64 d)) (0 : EReal) = 0 := fun d => by
    rw [show (Fin.natAdd 64 d).val = 64 + d.val from rfl, lane_hi]; rfl
  rw [Finset.sum_congr rfl fun d _ => h1 d, Finset.sum_congr rfl fun d _ => h2 d, Finset.sum_const_zero, add_zero]

/-- A sum over the lanes with the first head's put to zero is the second head's sum. -/
theorem sum_hi (f : Fin 128 → EReal) : ∑ x : Fin 128, Scalar.select (IntOp.cmpi .slt (BitVec.ofNat 32 x.val) 64#32) 0 (f x) = ∑ d : Fin 64, f ⟨64 + d.val, by omega⟩ := by
  rw [Fin.sum_univ_add (a := 64) (b := 64) (fun x : Fin 128 => Scalar.select (IntOp.cmpi .slt (BitVec.ofNat 32 x.val) 64#32) 0 (f x))]
  have h1 : ∀ d : Fin 64, Scalar.select (IntOp.cmpi .slt (BitVec.ofNat 32 (Fin.castAdd 64 d).val) 64#32) (0 : EReal) (f (Fin.castAdd 64 d)) = 0 := fun d => by
    rw [show (Fin.castAdd 64 d).val = d.val from rfl, lane_lo]; rfl
  have h2 : ∀ d : Fin 64, Scalar.select (IntOp.cmpi .slt (BitVec.ofNat 32 (Fin.natAdd 64 d).val) 64#32) 0 (f (Fin.natAdd 64 d)) = f ⟨64 + d.val, by omega⟩ := fun d => by
    rw [show (Fin.natAdd 64 d).val = 64 + d.val from rfl, lane_hi]; rfl
  rw [Finset.sum_congr rfl fun d _ => h1 d, Finset.sum_congr rfl fun d _ => h2 d, Finset.sum_const_zero, zero_add]

theorem ok_words : ∀ n : Fin 2560, IntOp.cmpi .slt (Scalar.select (IntOp.cmpi .sge (BitVec.ofNat 32 n.val) 512#32) (BitVec.ofNat 32 n.val) 2560#32) 2560#32
    = if 512 ≤ n.val then 1#1 else 0#1 := by decide +kernel

/-- A row counts from the 512th on. -/
theorem ok_row0 (j : Fin 8) (x : Fin 640) (e : EReal) : Scalar.select (IntOp.cmpi .slt (Scalar.select (IntOp.cmpi .sge (IntOp.addi (IntOp.muli (IntOp.addi (IntOp.muli (BitVec.ofNat 32 j.val) 2#32) 0#32) 128#32) (BitVec.ofNat 32 x.val)) 512#32) (IntOp.addi (IntOp.muli (IntOp.addi (IntOp.muli (BitVec.ofNat 32 j.val) 2#32) 0#32) 128#32) (BitVec.ofNat 32 x.val)) 2560#32) 2560#32) e (Named.named (F := Ideal) κ "mask" (φ := .f32) 4048155338#32)
    = if 512 ≤ 256 * j.val + 0 + x.val then e else ⊥ := by
  rw [show IntOp.addi (IntOp.muli (IntOp.addi (IntOp.muli (BitVec.ofNat 32 j.val) 2#32) 0#32) 128#32) (BitVec.ofNat 32 x.val) = BitVec.ofNat 32 (256 * j.val + 0 + x.val) from by
    have h : ∀ j : Fin 8, IntOp.muli (IntOp.addi (IntOp.muli (BitVec.ofNat 32 j.val) 2#32) 0#32) 128#32 = BitVec.ofNat 32 (256 * j.val + 0) := by decide +kernel
    rw [h j]
    exact (BitVec.ofNat_add _ _).symm, ok_words ⟨256 * j.val + 0 + x.val, by omega⟩, mask_eq]
  show Scalar.select (if 512 ≤ 256 * j.val + 0 + x.val then 1#1 else 0#1) e ⊥ = _
  by_cases h : 512 ≤ 256 * j.val + 0 + x.val
  · rw [if_pos h, if_pos h]; rfl
  · rw [if_neg h, if_neg h]; rfl

/-- A row counts from the 512th on. -/
theorem ok_row1 (j : Fin 8) (x : Fin 640) (e : EReal) : Scalar.select (IntOp.cmpi .slt (Scalar.select (IntOp.cmpi .sge (IntOp.addi (IntOp.muli (IntOp.addi (IntOp.muli (BitVec.ofNat 32 j.val) 2#32) 1#32) 128#32) (BitVec.ofNat 32 x.val)) 512#32) (IntOp.addi (IntOp.muli (IntOp.addi (IntOp.muli (BitVec.ofNat 32 j.val) 2#32) 1#32) 128#32) (BitVec.ofNat 32 x.val)) 2560#32) 2560#32) e (Named.named (F := Ideal) κ "mask" (φ := .f32) 4048155338#32)
    = if 512 ≤ 256 * j.val + 128 + x.val then e else ⊥ := by
  rw [show IntOp.addi (IntOp.muli (IntOp.addi (IntOp.muli (BitVec.ofNat 32 j.val) 2#32) 1#32) 128#32) (BitVec.ofNat 32 x.val) = BitVec.ofNat 32 (256 * j.val + 128 + x.val) from by
    have h : ∀ j : Fin 8, IntOp.muli (IntOp.addi (IntOp.muli (BitVec.ofNat 32 j.val) 2#32) 1#32) 128#32 = BitVec.ofNat 32 (256 * j.val + 128) := by decide +kernel
    rw [h j]
    exact (BitVec.ofNat_add _ _).symm, ok_words ⟨256 * j.val + 128 + x.val, by omega⟩, mask_eq]
  show Scalar.select (if 512 ≤ 256 * j.val + 128 + x.val then 1#1 else 0#1) e ⊥ = _
  by_cases h : 512 ≤ 256 * j.val + 128 + x.val
  · rw [if_pos h, if_pos h]; rfl
  · rw [if_neg h, if_neg h]; rfl

end Cert.BandKernel
-- ==== Proof.Proof.BandHost.lean ====
module

public import proofs.«01_k».proof.Proof.Proof.BandWords

/-! The arrays the host prepares for the band kernel, read one entry at a time: scaled queries, padded keys and values,
and the Toeplitz table of position biases. -/

@[expose] public section

set_option maxRecDepth 16384

noncomputable section

namespace Cert.BandHost

open Idealize.ShloMosaic Idealize.ShloMosaic.TcCoe Idealize.SL.Sem Cert.BandIdeal Cert.BandIdeal.Gen Cert.BandSpec

variable (m : (ℓ : Loc nD τ sig) → Buf (Elt Ideal) ℓ)

/-- Row `n` of an array with 512 rows of zeros before it. -/
abbrev padded (x : FVec Ideal S16x2048x8x64 .f32) (b : Fin 16) (n : Fin 2560) (h : Fin 8) (d : Fin 64) : EReal :=
  if hn : 512 ≤ n.val then x (ix4 b ⟨n.val - 512, by omega⟩ h d) else 0

theorem padded_pos (x : FVec Ideal S16x2048x8x64 .f32) (b : Fin 16) (n : Fin 2560) (h : Fin 8) (d : Fin 64) (hn : 512 ≤ n.val) :
    padded x b n h d = x (ix4 b ⟨n.val - 512, by omega⟩ h d) := dif_pos hn

theorem padded_neg (x : FVec Ideal S16x2048x8x64 .f32) (b : Fin 16) (n : Fin 2560) (h : Fin 8) (d : Fin 64) (hn : ¬ 512 ≤ n.val) :
    padded x b n h d = 0 := dif_neg hn

/-- The number 0 read as a float is 0. -/
theorem sitofp_zero : (FloatOps.sitofp (F := Ideal) FTy.bf16 0#32 : EReal) = 0 := by
  show (((0#32 : BitVec 32).toInt : ℝ) : EReal) = 0
  simp

/-- The keys as the kernel finds them. -/
theorem keys_at (c : Dev nD) (b : Fin 16) (n : Fin 2560) (h : Fin 8) (d : Fin 64) :
    V m c main_v8 (ix3 b n ⟨h.val * 64 + d.val, by omega⟩) = padded (m ((c : Thread nD τ).loc main_arg1)) b n h d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append]
  entry_read
  simp -implicitDefEqProofs only [StableHlo.TRef.toBuf, StableHlo.TRef.ofBuf, cast_cast, cast_eq]
  pointwise []
  by_cases hn : 512 ≤ n.val
  · refine (dif_pos ⟨⟨hn, by omega⟩, by omega⟩).trans (Eq.trans (congrArg (m ((c : Thread nD τ).loc main_arg1))
      (a₂ := ix4 b ⟨n.val - 512, by omega⟩ h d) ?_) (padded_pos _ b n h d hn).symm)
    blk_ext
  · exact (dif_neg (fun hc => hn hc.1.1)).trans (sitofp_zero.trans (padded_neg _ b n h d hn).symm)

/-- The values as the kernel finds them. -/
theorem values_at (c : Dev nD) (b : Fin 16) (n : Fin 2560) (h : Fin 8) (d : Fin 64) :
    V m c main_v9 (ix3 b n ⟨h.val * 64 + d.val, by omega⟩) = padded (m ((c : Thread nD τ).loc main_arg2)) b n h d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append]
  entry_read
  simp -implicitDefEqProofs only [StableHlo.TRef.toBuf, StableHlo.TRef.ofBuf, cast_cast, cast_eq]
  pointwise []
  by_cases hn : 512 ≤ n.val
  · refine (dif_pos ⟨⟨hn, by omega⟩, by omega⟩).trans (Eq.trans (congrArg (m ((c : Thread nD τ).loc main_arg2))
      (a₂ := ix4 b ⟨n.val - 512, by omega⟩ h d) ?_) (padded_pos _ b n h d hn).symm)
    blk_ext
  · exact (dif_neg (fun hc => hn hc.1.1)).trans (sitofp_zero.trans (padded_neg _ b n h d hn).symm)

/-- An eighth of a query entry. -/
abbrev eighth (x : FVec Ideal S16x2048x8x64 .f32) (b : Fin 16) (n : Fin 2048) (h : Fin 8) (d : Fin 64) : EReal :=
  x (ix4 b n h d) * Ideal.ofBits FTy.f32 1040187392#32

/-- The queries as the kernel finds them. -/
theorem queries_at (c : Dev nD) (b : Fin 16) (n : Fin 2048) (h : Fin 8) (d : Fin 64) :
    V m c main_v3 (ix3 b n ⟨h.val * 64 + d.val, by omega⟩) = eighth (m ((c : Thread nD τ).loc main_arg0)) b n h d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append]
  entry_read
  pointwise []
  unfold eighth
  refine congrArg (· * Ideal.ofBits FTy.f32 1040187392#32) (congrArg _ ?_)
  blk_ext

/-- The number 0 read as a float is 0. -/
theorem sitofp_zero' : (FloatOps.sitofp (F := Ideal) FTy.f32 0#32 : EReal) = 0 := by
  show (((0#32 : BitVec 32).toInt : ℝ) : EReal) = 0
  simp

/-- The gather of the diagonals' biases. -/
theorem gather_at {α : Type} (x : S8x257.Idx → α) (idx : IVec S767x1 32) (h : Fin 8) (j : Fin 767)
    (n : ℕ) (hn : n < 257) (hi : idx (ix2 j 0) = BitVec.ofNat 32 n) :
    Host.gather gather_S8x257_S767x1_S8x767_0_1_n_n_1_1_81 x idx (ix2 h j) = x (ix2 h ⟨n, hn⟩) := by
  unfold Host.gather
  refine congrArg x (funext fun a => Fin.ext ?_)
  match a with
  | ⟨0, _⟩ => exact (show _ = 0 + 0 + (h : ℕ) from rfl).trans (by show _ = (h : ℕ); omega)
  | ⟨1, _⟩ =>
    have hc : min (BitVec.ofNat 32 n).toInt.toNat (257 - 1) = n := by
      rw [WordCmp.toInt_ofNat_of_lt (by omega)]
      omega
    refine Eq.trans ?_ hc
    rw [← hi]
    refine (show _ = min (idx (gather_S8x257_S767x1_S8x767_0_1_n_n_1_1_81.siIdx (ix2 h j) ⟨0, by decide⟩)).toInt.toNat (257 - 1) + 0 + 0 from rfl).trans ?_
    refine congrArg (fun i => min (idx i).toInt.toNat (257 - 1)) (funext fun a => Fin.ext ?_)
    match a with
    | ⟨0, _⟩ => rfl
    | ⟨1, _⟩ => rfl

/-- The table of the diagonals' places. -/
theorem table_at : ∀ j : Fin 767, lit0 (S767.rowMajor (ix1 j)) = BitVec.ofNat 32 (min (767 - j.val) 256) := by decide +kernel

/-- The host's division by the chunk length, rounded down, on words. -/
def chunkOf (x : BitVec 32) : BitVec 32 :=
  Scalar.select
      (IntOp.andi
        (IntOp.cmpi CmpIPredicate.ne (if x = 0 then (0 : BitVec 32) else if BitVec.msb x = true then -1 else 1) (if 64#32 = 0 then (0 : BitVec 32) else if (64#32).msb = true then -1 else 1))
        (IntOp.cmpi CmpIPredicate.ne (IntOp.remsi ArithUnit.host x 64#32) 0#32))
      (IntOp.subi (IntOp.divsi ArithUnit.host x 64#32) 1#32)
      (IntOp.divsi ArithUnit.host x 64#32)

theorem chunkOf_at : ∀ n : Fin 640, chunkOf (BitVec.ofNat 32 n.val) = BitVec.ofNat 32 (n.val / 64) := by decide +kernel

theorem near_at : ∀ (x : Fin 10) (r : Fin 2), IntOp.andi (IntOp.cmpi .sge (BitVec.ofNat 32 x.val) (BitVec.ofNat 32 r.val))
    (IntOp.cmpi .sle (BitVec.ofNat 32 x.val) (IntOp.addi (BitVec.ofNat 32 r.val) 8#32)) = if r.val ≤ x.val ∧ x.val ≤ r.val + 8 then 1#1 else 0#1 := by decide +kernel

theorem pick (w : BitVec 1) (p : Prop) [Decidable p] (a b : EReal) (hw : w = if p then 1#1 else 0#1) : Scalar.select w a b = if p then a else b := by
  subst hw
  by_cases hp : p
  · rw [if_pos hp, if_pos hp]; rfl
  · rw [if_neg hp, if_neg hp]; rfl

/-- One entry of the bias table: a key in a query's chunk or the eight before it has its distance's bias, another minus infinity. -/
abbrev biasOf (x : FVec Ideal S8x257 .f32) (h : Fin 8) (r : Fin 128) (y : Fin 640) : EReal :=
  if r.val / 64 ≤ y.val / 64 ∧ y.val / 64 ≤ r.val / 64 + 8 then x (ix2 h ⟨min (r.val + 640 - y.val) 256, by omega⟩) else low

/-- The biases as the kernel finds them. -/
theorem bias_at (c : Dev nD) (h : Fin 8) (r : Fin 128) (x : Fin 640) :
    V m c main_v40 (ix3 h r x) = biasOf (m ((c : Thread nD τ).loc main_arg3)) h r x := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append]
  entry_read
  simp -implicitDefEqProofs only [StableHlo.TRef.toBuf, StableHlo.TRef.ofBuf, cast_cast, cast_eq]
  pointwise []
  have hmod : (r.val * 767 + (127 + x.val)) % 768 = 127 + x.val - r.val := by
    rw [show r.val * 767 + (127 + x.val) = 768 * r.val + (127 + x.val - r.val) from by omega, Nat.mul_add_mod, Nat.mod_eq_of_lt (by omega)]
  have hlt : (r.val * 767 + (127 + x.val)) % 768 < 767 := by omega
  rw [dif_pos hlt, gather_at _ _ h ⟨(r.val * 767 + (127 + x.val)) % 768, hlt⟩ (min (r.val + 640 - x.val) 256) (by omega) (by
    pointwise []
    refine Eq.trans ?_ ((table_at ⟨(r.val * 767 + (127 + x.val)) % 768, hlt⟩).trans (congrArg _ ?_))
    · rfl
    · show min (767 - (r.val * 767 + (127 + x.val)) % 768) 256 = _
      omega)]
  refine pick _ _ _ _ (show IntOp.andi (IntOp.cmpi .sge (chunkOf (BitVec.ofNat 32 x.val)) (chunkOf (BitVec.ofNat 32 r.val)))
    (IntOp.cmpi .sle (chunkOf (BitVec.ofNat 32 x.val)) (IntOp.addi (chunkOf (BitVec.ofNat 32 r.val)) 8#32)) = _ from ?_)
  rw [chunkOf_at x, chunkOf_at ⟨r.val, by omega⟩]
  exact near_at ⟨x.val / 64, by omega⟩ ⟨r.val / 64, by omega⟩

end Cert.BandHost
-- ==== Proof.Proof.BandTiles.lean ====
module

public import proofs.«01_k».proof.Proof.Proof.BandHost
public import proofs.«01_k».proof.Proof.Gen.BandIdeal.Value

/-! One tile of the band kernel, read over the arguments: the six key blocks and the six value blocks of a grid point
are 768 successive rows of the arrays with 512 rows of zeros before them. -/

@[expose] public section

set_option maxRecDepth 16384

noncomputable section

namespace Cert.BandTiles

open Idealize.ShloMosaic Idealize.ShloMosaic.TcCoe Idealize.SL.Sem Cert.BandIdeal Cert.BandIdeal.Gen Cert.BandHost
open Idealize.ShloMosaic.Pipeline (Dat)

variable (m : (ℓ : Loc nD τ sig) → Buf (Elt Ideal) ℓ)

/-- Every window's block at grid point `t`: batch row `t / 8`, query tile `t % 8`; the key and value windows start at twice the tile. -/
theorem idx : ∀ t : Fin cfg0.N, win0_0.index t = ![t.val / 8, t.val % 8, 0]
    ∧ win0_1.index t = ![t.val / 8, t.val % 8 * 2, 0]
    ∧ win0_2.index t = ![t.val / 8, t.val % 8 * 2 + 1, 0]
    ∧ win0_3.index t = ![t.val / 8, t.val % 8 * 2 + 2, 0]
    ∧ win0_4.index t = ![t.val / 8, t.val % 8 * 2 + 3, 0]
    ∧ win0_5.index t = ![t.val / 8, t.val % 8 * 2 + 4, 0]
    ∧ win0_6.index t = ![t.val / 8, t.val % 8 * 2 + 5, 0]
    ∧ win0_7.index t = ![t.val / 8, t.val % 8 * 2, 0]
    ∧ win0_8.index t = ![t.val / 8, t.val % 8 * 2 + 1, 0]
    ∧ win0_9.index t = ![t.val / 8, t.val % 8 * 2 + 2, 0]
    ∧ win0_10.index t = ![t.val / 8, t.val % 8 * 2 + 3, 0]
    ∧ win0_11.index t = ![t.val / 8, t.val % 8 * 2 + 4, 0]
    ∧ win0_12.index t = ![t.val / 8, t.val % 8 * 2 + 5, 0]
    ∧ win0_13.index t = ![0, 0, 0] ∧ win0_14.index t = ![t.val / 8, t.val % 8, 0] :=
  (by decide +kernel : ∀ t : Fin grid0.N, _)

theorem coord1 : ∀ t : Fin cfg0.N, (grid0.coords t 1).val = t.val % 8 := (by decide +kernel : ∀ t : Fin grid0.N, _)

theorem pt_lt (t : Fin cfg0.N) : t.val < 128 := lt_of_lt_of_eq t.isLt N_0

/-- Six blocks of 128 rows one below the other. -/
theorem keys_of (x0 x1 x2 x3 x4 x5 : Vec Ideal S1x128x512 .bf16) (f : Fin 768 → Fin 512 → EReal)
    (h0 : ∀ (r : Fin 128) (e : Fin 512), x0 (ix3 0 r e) = f ⟨0 + r.val, by omega⟩ e)
    (h1 : ∀ (r : Fin 128) (e : Fin 512), x1 (ix3 0 r e) = f ⟨128 + r.val, by omega⟩ e)
    (h2 : ∀ (r : Fin 128) (e : Fin 512), x2 (ix3 0 r e) = f ⟨256 + r.val, by omega⟩ e)
    (h3 : ∀ (r : Fin 128) (e : Fin 512), x3 (ix3 0 r e) = f ⟨384 + r.val, by omega⟩ e)
    (h4 : ∀ (r : Fin 128) (e : Fin 512), x4 (ix3 0 r e) = f ⟨512 + r.val, by omega⟩ e)
    (h5 : ∀ (r : Fin 128) (e : Fin 512), x5 (ix3 0 r e) = f ⟨640 + r.val, by omega⟩ e)
    (n : Fin 768) (e : Fin 512) : k0_pay2 (F := Ideal) x0 x1 x2 x3 x4 x5 (ix2 n e) = f n e := by
  pointwise [k0_pay2]
  by_cases c0 : n.val < 128
  · rw [dif_pos (by omega), h0]
    exact congrArg (fun i => f i e) (Fin.ext (by simp only []; omega))
  by_cases c1 : n.val < 256
  · rw [dif_neg (by omega), dif_pos (by omega), h1]
    exact congrArg (fun i => f i e) (Fin.ext (by simp only []; omega))
  by_cases c2 : n.val < 384
  · rw [dif_neg (by omega), dif_neg (by omega), dif_pos (by omega), h2]
    exact congrArg (fun i => f i e) (Fin.ext (by simp only []; omega))
  by_cases c3 : n.val < 512
  · rw [dif_neg (by omega), dif_neg (by omega), dif_neg (by omega), dif_pos (by omega), h3]
    exact congrArg (fun i => f i e) (Fin.ext (by simp only []; omega))
  by_cases c4 : n.val < 640
  · rw [dif_neg (by omega), dif_neg (by omega), dif_neg (by omega), dif_neg (by omega), dif_pos (by omega), h4]
    exact congrArg (fun i => f i e) (Fin.ext (by simp only []; omega))
  rw [dif_neg (by omega), dif_neg (by omega), dif_neg (by omega), dif_neg (by omega), dif_neg (by omega), h5]
  exact congrArg (fun i => f i e) (Fin.ext (by simp only []; omega))

/-- Six blocks of 128 rows one below the other. -/
theorem values_of (x0 x1 x2 x3 x4 x5 : Vec Ideal S1x128x512 .bf16) (f : Fin 768 → Fin 512 → EReal)
    (h0 : ∀ (r : Fin 128) (e : Fin 512), x0 (ix3 0 r e) = f ⟨0 + r.val, by omega⟩ e)
    (h1 : ∀ (r : Fin 128) (e : Fin 512), x1 (ix3 0 r e) = f ⟨128 + r.val, by omega⟩ e)
    (h2 : ∀ (r : Fin 128) (e : Fin 512), x2 (ix3 0 r e) = f ⟨256 + r.val, by omega⟩ e)
    (h3 : ∀ (r : Fin 128) (e : Fin 512), x3 (ix3 0 r e) = f ⟨384 + r.val, by omega⟩ e)
    (h4 : ∀ (r : Fin 128) (e : Fin 512), x4 (ix3 0 r e) = f ⟨512 + r.val, by omega⟩ e)
    (h5 : ∀ (r : Fin 128) (e : Fin 512), x5 (ix3 0 r e) = f ⟨640 + r.val, by omega⟩ e)
    (n : Fin 768) (e : Fin 512) : k0_pay8 (F := Ideal) (k0_pay3 x0) (k0_pay4 x1) (k0_pay5 x2) (k0_pay6 x3) (k0_pay7 x4) x5 (ix2 n e) = f n e := by
  pointwise [k0_pay8, k0_pay3, k0_pay4, k0_pay5, k0_pay6, k0_pay7]
  by_cases c0 : n.val < 128
  · rw [dif_pos (by omega), h0]
    exact congrArg (fun i => f i e) (Fin.ext (by simp only []; omega))
  by_cases c1 : n.val < 256
  · rw [dif_neg (by omega), dif_pos (by omega), h1]
    exact congrArg (fun i => f i e) (Fin.ext (by simp only []; omega))
  by_cases c2 : n.val < 384
  · rw [dif_neg (by omega), dif_neg (by omega), dif_pos (by omega), h2]
    exact congrArg (fun i => f i e) (Fin.ext (by simp only []; omega))
  by_cases c3 : n.val < 512
  · rw [dif_neg (by omega), dif_neg (by omega), dif_neg (by omega), dif_pos (by omega), h3]
    exact congrArg (fun i => f i e) (Fin.ext (by simp only []; omega))
  by_cases c4 : n.val < 640
  · rw [dif_neg (by omega), dif_neg (by omega), dif_neg (by omega), dif_neg (by omega), dif_pos (by omega), h4]
    exact congrArg (fun i => f i e) (Fin.ext (by simp only []; omega))
  rw [dif_neg (by omega), dif_neg (by omega), dif_neg (by omega), dif_neg (by omega), dif_neg (by omega), h5]
  exact congrArg (fun i => f i e) (Fin.ext (by simp only []; omega))

/-- The keys of a grid point. -/
theorem keys_tile (c : Dev nD) (t : Fin cfg0.N) (b : Fin 16) (hb : t.val / 8 = b.val) (n : Fin 768) (N : Fin 2560) (hN : N.val = 256 * (t.val % 8) + n.val)
    (h : Fin 8) (d : Fin 64) (e : Fin 512) (he : e.val = h.val * 64 + d.val) :
    k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 n e)
      = padded (m ((c : Thread nD τ).loc main_arg1)) b N h d := by
  have ht := pt_lt t
  have hX : k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 n e) = V m c main_v8 (ix3 b ⟨256 * (t.val % 8) + n.val, by omega⟩ e) := by
    unfold k0_pay34
    refine keys_of _ _ _ _ _ _ (fun n e => V m c main_v8 (ix3 b ⟨256 * (t.val % 8) + n.val, by omega⟩ e)) ?_ ?_ ?_ ?_ ?_ ?_ n e
    · intro r e
      blk_point [iblk, V, idx t]
    · intro r e
      blk_point [iblk, V, idx t]
    · intro r e
      blk_point [iblk, V, idx t]
    · intro r e
      blk_point [iblk, V, idx t]
    · intro r e
      blk_point [iblk, V, idx t]
    · intro r e
      blk_point [iblk, V, idx t]
  refine hX.trans (Eq.trans (congrArg (V m c main_v8) ?_) (keys_at m c b N h d))
  blk_ext

/-- The values of a grid point. -/
theorem values_tile (c : Dev nD) (t : Fin cfg0.N) (b : Fin 16) (hb : t.val / 8 = b.val) (n : Fin 768) (N : Fin 2560) (hN : N.val = 256 * (t.val % 8) + n.val)
    (h : Fin 8) (d : Fin 64) (e : Fin 512) (he : e.val = h.val * 64 + d.val) :
    k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 n e)
      = padded (m ((c : Thread nD τ).loc main_arg2)) b N h d := by
  have ht := pt_lt t
  have hX : k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 n e) = V m c main_v9 (ix3 b ⟨256 * (t.val % 8) + n.val, by omega⟩ e) := by
    unfold k0_pay35
    refine values_of _ _ _ _ _ _ (fun n e => V m c main_v9 (ix3 b ⟨256 * (t.val % 8) + n.val, by omega⟩ e)) ?_ ?_ ?_ ?_ ?_ ?_ n e
    · intro r e
      blk_point [iblk, V, idx t]
    · intro r e
      blk_point [iblk, V, idx t]
    · intro r e
      blk_point [iblk, V, idx t]
    · intro r e
      blk_point [iblk, V, idx t]
    · intro r e
      blk_point [iblk, V, idx t]
    · intro r e
      blk_point [iblk, V, idx t]
  refine hX.trans (Eq.trans (congrArg (V m c main_v9) ?_) (values_at m c b N h d))
  blk_ext

end Cert.BandTiles
-- ==== Proof.Proof.BandGather.lean ====
module

public import proofs.«01_k».proof.Proof.Gen.BandRefIdeal.Read
public import Idealize.ShloMosaic.Lib.Pointwise
public import Idealize.ShloMosaic.Lib.WordCmp

/-! The reference's gathers, read at an index whose start is a known number within the table. -/

@[expose] public section

set_option maxRecDepth 16384

noncomputable section

namespace Cert.BandGather

open Idealize.ShloMosaic Cert.BandRefIdeal Cert.BandRefIdeal.Gen

/-- A start word below the last position reads as its number. -/
theorem clamp_eq (n N : ℕ) (h : n < N) (hN : N < 2 ^ 31) : min (BitVec.ofNat 32 n).toInt.toNat (N - 1) = n := by
  rw [WordCmp.toInt_ofNat_of_lt (by omega)]
  omega

/-- The gather of key or value rows. -/
theorem rows_at {α : Type} (x : S16x2560x8x64.Idx → α) (idx : IVec S32x576x1 32) (b : Fin 16) (c : Fin 32) (w : Fin 576) (h : Fin 8) (d : Fin 64)
    (n : ℕ) (hn : n < 2560) (hi : idx (ix3 c w 0) = BitVec.ofNat 32 n) :
    Host.gather gather_S16x2560x8x64_S32x576x1_S16x32x576x8x64_034_1_n_n_1_2_161864 x idx (ix5 b c w h d) = x (ix4 b ⟨n, hn⟩ h d) := by
  unfold Host.gather
  refine congrArg x (funext fun a => Fin.ext ?_)
  match a with
  | ⟨0, _⟩ => exact (show _ = 0 + 0 + (b : ℕ) from rfl).trans (by show _ = (b : ℕ); omega)
  | ⟨1, _⟩ =>
    refine Eq.trans ?_ (clamp_eq n 2560 hn (by norm_num))
    rw [← hi]
    refine (show _ = min (idx (gather_S16x2560x8x64_S32x576x1_S16x32x576x8x64_034_1_n_n_1_2_161864.siIdx (ix5 b c w h d) ⟨0, by decide⟩)).toInt.toNat (2560 - 1) + 0 + 0 from rfl).trans ?_
    refine congrArg (fun i => min (idx i).toInt.toNat (2560 - 1)) (funext fun a => Fin.ext ?_)
    match a with
    | ⟨0, _⟩ => rfl
    | ⟨1, _⟩ => rfl
    | ⟨2, _⟩ => rfl
  | ⟨2, _⟩ => exact (show _ = 0 + 0 + (h : ℕ) from rfl).trans (by show _ = (h : ℕ); omega)
  | ⟨3, _⟩ => exact (show _ = 0 + 0 + (d : ℕ) from rfl).trans (by show _ = (d : ℕ); omega)

/-- The gather of the validity flags or of the key positions. -/
theorem flags_at {α : Type} (x : S2560.Idx → α) (idx : IVec S32x576x1 32) (c : Fin 32) (w : Fin 576)
    (n : ℕ) (hn : n < 2560) (hi : idx (ix3 c w 0) = BitVec.ofNat 32 n) :
    Host.gather gather_S2560_S32x576x1_S32x576_n_0_n_n_0_2_1 x idx (ix2 c w) = x (ix1 ⟨n, hn⟩) := by
  unfold Host.gather
  refine congrArg x (funext fun a => Fin.ext ?_)
  match a with
  | ⟨0, _⟩ =>
    refine Eq.trans ?_ (clamp_eq n 2560 hn (by norm_num))
    rw [← hi]
    refine (show _ = min (idx (gather_S2560_S32x576x1_S32x576_n_0_n_n_0_2_1.siIdx (ix2 c w) ⟨0, by decide⟩)).toInt.toNat (2560 - 1) + 0 + 0 from rfl).trans ?_
    refine congrArg (fun i => min (idx i).toInt.toNat (2560 - 1)) (funext fun a => Fin.ext ?_)
    match a with
    | ⟨0, _⟩ => rfl
    | ⟨1, _⟩ => rfl
    | ⟨2, _⟩ => rfl

/-- The gather of the position biases. -/
theorem bias_at {α : Type} (x : S8x257.Idx → α) (idx : IVec S32x64x576x1 32) (h : Fin 8) (c : Fin 32) (r : Fin 64) (w : Fin 576)
    (n : ℕ) (hn : n < 257) (hi : idx (ix4 c r w 0) = BitVec.ofNat 32 n) :
    Host.gather gather_S8x257_S32x64x576x1_S8x32x64x576_0_1_n_n_1_3_81 x idx (ix4 h c r w) = x (ix2 h ⟨n, hn⟩) := by
  unfold Host.gather
  refine congrArg x (funext fun a => Fin.ext ?_)
  match a with
  | ⟨0, _⟩ => exact (show _ = 0 + 0 + (h : ℕ) from rfl).trans (by show _ = (h : ℕ); omega)
  | ⟨1, _⟩ =>
    refine Eq.trans ?_ (clamp_eq n 257 hn (by norm_num))
    rw [← hi]
    refine (show _ = min (idx (gather_S8x257_S32x64x576x1_S8x32x64x576_0_1_n_n_1_3_81.siIdx (ix4 h c r w) ⟨0, by decide⟩)).toInt.toNat (257 - 1) + 0 + 0 from rfl).trans ?_
    refine congrArg (fun i => min (idx i).toInt.toNat (257 - 1)) (funext fun a => Fin.ext ?_)
    match a with
    | ⟨0, _⟩ => rfl
    | ⟨1, _⟩ => rfl
    | ⟨2, _⟩ => rfl
    | ⟨3, _⟩ => rfl

end Cert.BandGather
-- ==== Proof.Proof.BandReference.lean ====
module

public import proofs.«01_k».proof.Proof.Proof.BandGather

/-! The band reference's arrays, read one entry at a time. -/

@[expose] public section

set_option maxRecDepth 16384

noncomputable section

namespace Cert.BandReference

open Idealize.ShloMosaic Cert.BandRefIdeal Cert.BandRefIdeal.Gen Cert.BandRefIdeal.Read

/-- The number 0 read as a float is 0. -/
theorem sitofp_zero : (FloatOps.sitofp (F := Ideal) FTy.f32 0#32 : EReal) = 0 := by
  show (((0#32 : BitVec 32).toInt : ℝ) : EReal) = 0
  simp

/-- A word of sums is the sum's word. -/
theorem add_words (a b : ℕ) : IntOp.addi (BitVec.ofNat 32 a) (BitVec.ofNat 32 b) = BitVec.ofNat 32 (a + b) := by
  show BitVec.ofNat 32 a + BitVec.ofNat 32 b = _
  exact (BitVec.ofNat_add a b).symm

/-- Window position `w` of chunk `c` is padded row `64·c + w`. -/
theorem win_at (c : Fin 32) (w : Fin 576) : val_main_v22 (F := Ideal) (ix2 c w) = BitVec.ofNat 32 (c.val * 64 + w.val) := by
  pointwise [val_main_v22, val_main_v21, val_main_v20, val_main_v19, val_main_v18, val_main_v17, val_main_v16, val_main_v15, val_main_c_5, val_main_v14]
  rw [show IntOp.muli (BitVec.ofNat 32 ↑c) 64#32 = BitVec.ofNat 32 (c.val * 64) from (BitVec.ofNat_mul c.val 64).symm, add_words]

/-- Row `r` of chunk `c` is token `64·c + r`. -/
theorem qpos_at (c : Fin 32) (r : Fin 64) : val_main_v13 (F := Ideal) (ix2 c r) = BitVec.ofNat 32 (c.val * 64 + r.val) := by
  pointwise [val_main_v13, val_main_v12, val_main_v11, val_main_v10, val_main_v9, val_main_v8, val_main_v0]
  rw [add_words, Nat.zero_add]

/-- A padded row number is not negative, so it stays what it is. -/
theorem wrap_at : ∀ n : Fin 2560, Scalar.select (IntOp.cmpi .slt (BitVec.ofNat 32 n.val) 0#32) (IntOp.addi (BitVec.ofNat 32 n.val) 2560#32) (BitVec.ofNat 32 n.val)
    = BitVec.ofNat 32 n.val := by decide +kernel

theorem row28_at (c : Fin 32) (w : Fin 576) : val_main_v28 (F := Ideal) (ix3 c w 0) = BitVec.ofNat 32 (c.val * 64 + w.val) := by
  pointwise [val_main_v28, val_main_v27, val_main_v26, val_main_v25, val_main_c_7, val_main_v24, val_main_v23, val_main_c_6, win_at]
  exact wrap_at ⟨c.val * 64 + w.val, by omega⟩

theorem row35_at (c : Fin 32) (w : Fin 576) : val_main_v35 (F := Ideal) (ix3 c w 0) = BitVec.ofNat 32 (c.val * 64 + w.val) := by
  pointwise [val_main_v35, val_main_v34, val_main_v33, val_main_v32, val_main_c_9, val_main_v31, val_main_v30, val_main_c_8, win_at]
  exact wrap_at ⟨c.val * 64 + w.val, by omega⟩

theorem row42_at (c : Fin 32) (w : Fin 576) : val_main_v42 (F := Ideal) (ix3 c w 0) = BitVec.ofNat 32 (c.val * 64 + w.val) := by
  pointwise [val_main_v42, val_main_v41, val_main_v40, val_main_v39, val_main_c_11, val_main_v38, val_main_v37, val_main_c_10, win_at]
  exact wrap_at ⟨c.val * 64 + w.val, by omega⟩

theorem row49_at (c : Fin 32) (w : Fin 576) : val_main_v49 (F := Ideal) (ix3 c w 0) = BitVec.ofNat 32 (c.val * 64 + w.val) := by
  pointwise [val_main_v49, val_main_v48, val_main_v47, val_main_v46, val_main_c_13, val_main_v45, val_main_v44, val_main_c_12, win_at]
  exact wrap_at ⟨c.val * 64 + w.val, by omega⟩

/-- Row `n` of an array with 512 rows of zeros before it. -/
abbrev padded (x : FVec Ideal S16x2048x8x64 .f32) (b : Fin 16) (n : Fin 2560) (h : Fin 8) (d : Fin 64) : EReal :=
  if hn : 512 ≤ n.val then x (ix4 b ⟨n.val - 512, by omega⟩ h d) else 0

theorem padK_at (x : FVec Ideal S16x2048x8x64 .f32) (b : Fin 16) (n : Fin 2560) (h : Fin 8) (d : Fin 64) :
    val_main_v1 (F := Ideal) x (ix4 b n h d) = padded x b n h d := by
  pointwise [val_main_v1, val_main_call0_v0, val_main_c, padded]
  by_cases hn : 512 ≤ n.val
  · rw [dif_pos hn, dif_pos ⟨hn, by omega⟩]
  · rw [dif_neg hn, dif_neg (fun h => hn h.1)]; exact sitofp_zero

theorem padV_at (x : FVec Ideal S16x2048x8x64 .f32) (b : Fin 16) (n : Fin 2560) (h : Fin 8) (d : Fin 64) :
    val_main_v2 (F := Ideal) x (ix4 b n h d) = padded x b n h d := by
  pointwise [val_main_v2, val_main_call1_v0, val_main_c_0, padded]
  by_cases hn : 512 ≤ n.val
  · rw [dif_pos hn, dif_pos ⟨hn, by omega⟩]
  · rw [dif_neg hn, dif_neg (fun h => hn h.1)]; exact sitofp_zero

theorem kpos_at (n : Fin 2560) (hn : 512 ≤ n.val) : val_main_v5 (F := Ideal) (ix1 n) = BitVec.ofNat 32 (n.val - 512) := by
  pointwise [val_main_v5, val_main_call3_v0, val_main_c_3, val_main_v0]
  rw [dif_pos ⟨hn, by omega⟩]

theorem valid_at (n : Fin 2560) : val_main_v4 (F := Ideal) (ix1 n) = if 512 ≤ n.val then 1#1 else 0#1 := by
  pointwise [val_main_v4, val_main_call2_v2, val_main_call2_v1, val_main_call2_v0, val_main_call2_c, val_main_c_2, val_main_v3, val_main_c_1]
  by_cases hn : 512 ≤ n.val
  · rw [if_pos hn, dif_pos ⟨hn, by omega⟩]
  · rw [if_neg hn, dif_neg (fun h => hn h.1)]; rfl

theorem q_at (x : FVec Ideal S16x2048x8x64 .f32) (b : Fin 16) (c : Fin 32) (r : Fin 64) (h : Fin 8) (d : Fin 64) :
    val_main_v7 (F := Ideal) x (ix5 b c r h d) = x (ix4 b ⟨c.val * 64 + r.val, by omega⟩ h d) := by
  pointwise [val_main_v7, val_main_v6, val_main_call4_v0, val_main_c_4]
  rw [dif_pos (by omega)]

theorem winK_at (x : FVec Ideal S16x2048x8x64 .f32) (b : Fin 16) (c : Fin 32) (w : Fin 576) (h : Fin 8) (d : Fin 64) :
    val_main_v29 (F := Ideal) x (ix5 b c w h d) = padded x b ⟨c.val * 64 + w.val, by omega⟩ h d :=
  (BandGather.rows_at _ _ b c w h d _ (by omega) (row28_at c w)).trans (padK_at x b _ h d)

theorem winV_at (x : FVec Ideal S16x2048x8x64 .f32) (b : Fin 16) (c : Fin 32) (w : Fin 576) (h : Fin 8) (d : Fin 64) :
    val_main_v36 (F := Ideal) x (ix5 b c w h d) = padded x b ⟨c.val * 64 + w.val, by omega⟩ h d :=
  (BandGather.rows_at _ _ b c w h d _ (by omega) (row35_at c w)).trans (padV_at x b _ h d)

theorem winPos_at (c : Fin 32) (w : Fin 576) (hn : 512 ≤ c.val * 64 + w.val) :
    val_main_v43 (F := Ideal) (ix2 c w) = BitVec.ofNat 32 (c.val * 64 + w.val - 512) :=
  (BandGather.flags_at _ _ c w _ (by omega) (row42_at c w)).trans (kpos_at ⟨_, _⟩ hn)

theorem winValid_at (c : Fin 32) (w : Fin 576) :
    val_main_v50 (F := Ideal) (ix2 c w) = if 512 ≤ c.val * 64 + w.val then 1#1 else 0#1 :=
  (BandGather.flags_at _ _ c w _ (by omega) (row49_at c w)).trans (valid_at ⟨_, _⟩)

/-- The reference's division by the chunk length, rounded down, on words. -/
def chunkOf (x : BitVec 32) : BitVec 32 :=
  Scalar.select
      (IntOp.andi
        (IntOp.cmpi CmpIPredicate.ne (if x = 0 then 0 else if BitVec.msb x = true then -1 else 1) 1#32)
        (IntOp.cmpi CmpIPredicate.ne (IntOp.remsi ArithUnit.host x 64#32) 0#32))
      (IntOp.subi (IntOp.divsi ArithUnit.host x 64#32) 1#32)
      (IntOp.divsi ArithUnit.host x 64#32)

theorem chunkOf_at : ∀ n : Fin 2048, chunkOf (BitVec.ofNat 32 n.val) = BitVec.ofNat 32 (n.val / 64) := by decide +kernel

theorem cq_at (c : Fin 32) (r : Fin 64) : val_main_v70 (F := Ideal) (ix2 c r) = BitVec.ofNat 32 c.val := by
  pointwise [val_main_v70, val_main_call6_v13, val_main_call6_v12, val_main_call6_c_0, val_main_call6_v11, val_main_call6_v10, val_main_call6_v9, val_main_call6_c, val_main_call6_v8, val_main_call6_v7, val_main_call6_v6, val_main_call6_v5, val_main_call6_v4, val_main_call6_v3, val_main_call6_v2, val_main_call6_v1, val_main_call6_v0, val_main_c_19, qpos_at]
  refine Eq.trans ?_ ((chunkOf_at ⟨c.val * 64 + r.val, by omega⟩).trans (congrArg _ (by show (c.val * 64 + r.val) / 64 = c.val; omega)))
  rfl

theorem ck_at (c : Fin 32) (w : Fin 576) (hn : 512 ≤ c.val * 64 + w.val) :
    val_main_v72 (F := Ideal) (ix2 c w) = BitVec.ofNat 32 (c.val + w.val / 64 - 8) := by
  pointwise [val_main_v72, val_main_call7_v13, val_main_call7_v12, val_main_call7_c_0, val_main_call7_v11, val_main_call7_v10, val_main_call7_v9, val_main_call7_c, val_main_call7_v8, val_main_call7_v7, val_main_call7_v6, val_main_call7_v5, val_main_call7_v4, val_main_call7_v3, val_main_call7_v2, val_main_call7_v1, val_main_call7_v0, val_main_c_20]
  rw [winPos_at c w hn]
  refine Eq.trans ?_ ((chunkOf_at ⟨c.val * 64 + w.val - 512, by omega⟩).trans (congrArg _ (by show (c.val * 64 + w.val - 512) / 64 = _; omega)))
  rfl

/-- A key's chunk is at most the query's and at most eight before it. -/
theorem near_at : ∀ (c : Fin 32) (e : Fin 9), 8 ≤ c.val + e.val →
    IntOp.andi (IntOp.andi (IntOp.cmpi .sle (BitVec.ofNat 32 (c.val + e.val - 8)) (BitVec.ofNat 32 c.val))
      (IntOp.cmpi .sge (BitVec.ofNat 32 (c.val + e.val - 8)) (IntOp.subi (BitVec.ofNat 32 c.val) 8#32))) 1#1 = 1#1 := by decide +kernel

theorem ok_at (c : Fin 32) (r : Fin 64) (w : Fin 576) :
    val_main_v85 (F := Ideal) (ix3 c r w) = if 512 ≤ c.val * 64 + w.val then 1#1 else 0#1 := by
  pointwise [val_main_v85, val_main_v84, val_main_v83, val_main_v82, val_main_v81, val_main_v80, val_main_v79, val_main_v78, val_main_v77, val_main_c_21, val_main_v76, val_main_v75, val_main_v74, val_main_v73, val_main_v71, winValid_at, cq_at]
  by_cases hn : 512 ≤ c.val * 64 + w.val
  · rw [if_pos hn, ck_at c w hn]
    exact near_at c ⟨w.val / 64, by omega⟩ (by show 8 ≤ c.val + w.val / 64; omega)
  · rw [if_neg hn]
    exact (by decide : ∀ z : BitVec 1, IntOp.andi z 0#1 = 0#1) _

/-- The distance's place in the bias table, on words. -/
def relOf (x : BitVec 32) : BitVec 32 :=
  let y := IntOp.addi (IntOp.minsi 128#32 (IntOp.maxsi 4294967168#32 x)) 128#32
  Scalar.select (IntOp.cmpi .slt y 0#32) (IntOp.addi y 257#32) y

theorem relOf_at : ∀ j : Fin 639, relOf (BitVec.ofNat 32 j.val - 63#32) = BitVec.ofNat 32 (min (j.val + 65) 256) := by decide +kernel

theorem rel67_at (c : Fin 32) (r : Fin 64) (w : Fin 576) (hn : 512 ≤ c.val * 64 + w.val) :
    val_main_v67 (F := Ideal) (ix4 c r w 0) = BitVec.ofNat 32 (min (r.val + 640 - w.val) 256) := by
  pointwise [val_main_v67, val_main_v66, val_main_v65, val_main_v64, val_main_c_18, val_main_v63, val_main_v62, val_main_c_17, val_main_v61, val_main_v60, val_main_c_16, val_main_v59, val_main_call5_v4, val_main_call5_v3, val_main_call5_v2, val_main_call5_v1, val_main_call5_v0, val_main_c_15, val_main_c_14, val_main_v58, val_main_v57, val_main_v56, val_main_v55, val_main_v54, qpos_at]
  rw [winPos_at c w hn]
  have hd : IntOp.subi (BitVec.ofNat 32 (c.val * 64 + r.val)) (BitVec.ofNat 32 (c.val * 64 + w.val - 512)) = BitVec.ofNat 32 (r.val + 575 - w.val) - 63#32 := by
    show BitVec.ofNat 32 (c.val * 64 + r.val) - BitVec.ofNat 32 (c.val * 64 + w.val - 512) = _
    apply BitVec.eq_of_toNat_eq
    simp only [BitVec.toNat_sub, BitVec.toNat_ofNat]
    omega
  rw [hd]
  refine Eq.trans ?_ ((relOf_at ⟨r.val + 575 - w.val, by omega⟩).trans (congrArg _ (by show min (r.val + 575 - w.val + 65) 256 = _; omega)))
  rfl

theorem rel_at (x : FVec Ideal S8x257 .f32) (h : Fin 8) (c : Fin 32) (r : Fin 64) (w : Fin 576) (hn : 512 ≤ c.val * 64 + w.val) :
    val_main_v68 (F := Ideal) x (ix4 h c r w) = x (ix2 h ⟨min (r.val + 640 - w.val) 256, by omega⟩) :=
  BandGather.bias_at _ _ h c r w _ (by omega) (rel67_at c r w hn)

/-- One score: the query's product with the key, an eighth of it, and the bias. -/
theorem s_at (q k : FVec Ideal S16x2048x8x64 .f32) (rel : FVec Ideal S8x257 .f32) (b : Fin 16) (c : Fin 32) (h : Fin 8) (r : Fin 64) (w : Fin 576) :
    val_main_v90 (F := Ideal) q k rel (ix5 b c h r w) = if hn : 512 ≤ c.val * 64 + w.val then
      (∑ d : Fin 64, q (ix4 b ⟨c.val * 64 + r.val, by omega⟩ h d) * padded k b ⟨c.val * 64 + w.val, by omega⟩ h d) * Ideal.ofBits FTy.f32 1040187392#32
        + rel (ix2 h ⟨min (r.val + 640 - w.val) 256, by omega⟩)
      else Ideal.ofBits FTy.f32 4286578688#32 := by
  pointwise [val_main_v90, val_main_call8_v4, val_main_call8_v3, val_main_call8_v2, val_main_call8_v1, val_main_call8_v0, val_main_cst_22, val_main_v86, ok_at, val_main_v89, val_main_v88, val_main_v87, val_main_v69, val_main_v53, val_main_v52, val_main_cst, val_main_v51, q_at, winK_at]
  by_cases hn : 512 ≤ c.val * 64 + w.val
  · rw [dif_pos hn, if_pos hn, rel_at _ _ _ _ _ hn]
    rfl
  · rw [dif_neg hn, if_neg hn]
    rfl

end Cert.BandReference
-- ==== Proof.Proof.BandRefOut.lean ====
module

public import proofs.«01_k».proof.Proof.Proof.BandReference
public import proofs.«01_k».proof.Proof.Proof.BandSpec

/-! The band reference's result, one entry at a time: the softmax over a window's scores. -/

@[expose] public section

set_option maxRecDepth 16384

noncomputable section

namespace Cert.BandReference

open Idealize.ShloMosaic Cert.BandRefIdeal Cert.BandRefIdeal.Gen Cert.BandRefIdeal.Read Cert.BandSpec

variable (q k v : FVec Ideal S16x2048x8x64 .f32) (rel : FVec Ideal S8x257 .f32)

/-- The greatest score of a row, over any scores. -/
theorem max_at (x : FVec Ideal S16x32x8x64x576 .f32) (b : Fin 16) (c : Fin 32) (h : Fin 8) (r : Fin 64) :
    Host.reduce FloatOps.maximumf x (val_main_cst_23 (F := Ideal)) reducesTo_S16x32x8x64x576_S16x32x8x64_d4 h_S_ (ix4 b c h r) = top fun w => x (ix5 b c h r w) := by
  refine (Host.reduce_eq_fold (max : EReal → EReal → EReal) x (val_main_cst_23 (F := Ideal)) reducesTo_S16x32x8x64x576_S16x32x8x64_d4 h_S_ (ix4 b c h r)).trans ?_
  exact reducesTo_S16x32x8x64x576_S16x32x8x64_d4.fold_fiber_r5_a4 (ix4 b c h r) (max : EReal → EReal → EReal) _ x

/-- The greatest score of a row. -/
theorem top_at (b : Fin 16) (c : Fin 32) (h : Fin 8) (r : Fin 64) :
    val_main_v93 (F := Ideal) q k rel (ix4 b c h r) = max low (top fun w => val_main_v90 (F := Ideal) q k rel (ix5 b c h r w)) := by
  rw [val_main_v93_apply, val_main_v92_apply, val_main_cst_24_apply]
  exact congrArg (max low) (max_at _ b c h r)

/-- The weight of one score. -/
theorem weight_at (b : Fin 16) (c : Fin 32) (h : Fin 8) (r : Fin 64) (w : Fin 576) :
    val_main_v97 (F := Ideal) q k rel (ix5 b c h r w)
      = Ideal.exp (val_main_v90 (F := Ideal) q k rel (ix5 b c h r w) - max low (top fun w => val_main_v90 (F := Ideal) q k rel (ix5 b c h r w))) := by
  pointwise [val_main_v97, val_main_v96, val_main_v95, val_main_v94, top_at]

/-- A weight over the sum of the weights. -/
theorem share_at (b : Fin 16) (c : Fin 32) (h : Fin 8) (r : Fin 64) (w : Fin 576) :
    val_main_v101 (F := Ideal) q k rel (ix5 b c h r w)
      = Ideal.div (val_main_v97 (F := Ideal) q k rel (ix5 b c h r w)) (∑ y, val_main_v97 (F := Ideal) q k rel (ix5 b c h r y)) := by
  pointwise [val_main_v101, val_main_v100, val_main_v99, val_main_v98, val_main_cst_25]

/-- The attention of one row in one lane. -/
theorem row_at (b : Fin 16) (c : Fin 32) (h : Fin 8) (r d : Fin 64) :
    val_main_v102 (F := Ideal) q k v rel (ix5 b c h d r)
      = ∑ w, padded v b ⟨c.val * 64 + w.val, by omega⟩ h d * val_main_v101 (F := Ideal) q k rel (ix5 b c h r w) := by
  pointwise [val_main_v102, winV_at]

/-- The result's layout. -/
theorem layout_at (b : Fin 16) (t : Fin 2048) (h : Fin 8) (d : Fin 64) :
    val_main_v106 (F := Ideal) q k v rel (ix3 b t ⟨h.val * 64 + d.val, by omega⟩)
      = val_main_v102 (F := Ideal) q k v rel (ix5 b ⟨t.val / 64, by omega⟩ h d ⟨t.val % 64, by omega⟩) := by
  pointwise [val_main_v106, val_main_v105, val_main_v104, val_main_v103]

/-- The result: a row of attention over a window's scores and values. -/
theorem out_at (b : Fin 16) (t : Fin 2048) (h : Fin 8) (d : Fin 64) :
    val_main_v106 (F := Ideal) q k v rel (ix3 b t ⟨h.val * 64 + d.val, by omega⟩)
      = refRow (fun w : Fin 576 => val_main_v90 (F := Ideal) q k rel (ix5 b ⟨t.val / 64, by omega⟩ h ⟨t.val % 64, by omega⟩ w))
          (fun w => padded v b ⟨t.val / 64 * 64 + w.val, by omega⟩ h d) := by
  rw [layout_at, row_at]
  unfold refRow
  simp only [share_at, weight_at]

end Cert.BandReference
-- ==== Proof.Proof.BandRows.lean ====
module

public import proofs.«01_k».proof.Proof.Proof.BandHost
public import proofs.«01_k».proof.Proof.Proof.BandRefOut

/-! One row of the band kernel, over the arguments, is the reference's row: the kernel's 640 keys are the reference's 576
and 64 more, whose bias is minus infinity. -/

@[expose] public section

set_option maxRecDepth 16384

noncomputable section

namespace Cert.BandRows

open Idealize.ShloMosaic Cert.BandIdeal Cert.BandSpec Cert.BandHost

/-- The entry is a number. -/
def IsNum (x : EReal) : Prop := ∃ r : ℝ, x = (r : EReal)

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.sum {n : ℕ} (f : Fin n → EReal) (hf : ∀ i, IsNum (f i)) : IsNum (∑ i, f i) := by
  refine Finset.sum_induction f IsNum (fun _ _ => IsNum.add) ⟨0, rfl⟩ fun i _ => hf i

theorem IsNum.ne_top {x : EReal} (hx : IsNum x) : x ≠ ⊤ := by
  obtain ⟨a, rfl⟩ := hx
  exact EReal.coe_ne_top a

theorem IsNum.ne_bot {x : EReal} (hx : IsNum x) : x ≠ ⊥ := by
  obtain ⟨a, rfl⟩ := hx
  exact EReal.coe_ne_bot a

/-- An eighth, as both programs write it. -/
theorem eighth_eq : Ideal.ofBits FTy.f32 1040187392#32 = (((1 : ℝ) / 8 : ℝ) : EReal) := by
  simp [Ideal.ofBits, Ideal.ieee, -EReal.coe_mul]
  norm_num

/-- A number times a finite sum. -/
theorem sum_mul_num {n : ℕ} (f : Fin n → EReal) (e : ℝ) (he : 0 ≤ e) : (∑ i, f i) * (e : EReal) = ∑ i, f i * (e : EReal) := by
  induction n with
  | zero => simp
  | succ n ih =>
    rw [Fin.sum_univ_succ, Fin.sum_univ_succ, EReal.right_distrib_of_nonneg_of_ne_top (by exact_mod_cast he) (EReal.coe_ne_top e), ih]

/-- An eighth of every query entry is an eighth of the score. -/
theorem scaled (q k : Fin 64 → EReal) : (∑ d, q d * Ideal.ofBits FTy.f32 1040187392#32 * k d) = (∑ d, q d * k d) * Ideal.ofBits FTy.f32 1040187392#32 := by
  rw [eighth_eq, sum_mul_num _ _ (by norm_num)]
  exact Finset.sum_congr rfl fun d _ => mul_right_comm _ _ _

/-- One entry of the band kernel's result, over the arguments. -/
def entry (q k v : FVec Ideal S16x2048x8x64 .f32) (rel : FVec Ideal S8x257 .f32) (b : Fin 16) (t : Fin 2048) (h : Fin 8) (d : Fin 64) : EReal :=
  headRow (fun d => eighth q b t h d) (fun x d => padded k b ⟨t.val / 128 * 128 + x.val, by omega⟩ h d) (fun x => biasOf rel h ⟨t.val % 128, by omega⟩ x)
    (t.val / 128 * 128) (fun x => padded v b ⟨t.val / 128 * 128 + x.val, by omega⟩ h d)

theorem padded_num (k : FVec Ideal S16x2048x8x64 .f32) (hk : ∀ i, IsNum (k i)) (b : Fin 16) (n : Fin 2560) (h : Fin 8) (d : Fin 64) : IsNum (padded k b n h d) := by
  by_cases hn : 512 ≤ n.val
  · rw [padded_pos _ _ _ _ _ hn]; exact hk _
  · rw [padded_neg _ _ _ _ _ hn]; exact ⟨0, rfl⟩

/-- One score of the reference. -/
theorem score_at (q k : FVec Ideal S16x2048x8x64 .f32) (rel : FVec Ideal S8x257 .f32) (b : Fin 16) (c : Fin 32) (h : Fin 8) (r : Fin 64) (w : Fin 576)
    (hn : 512 ≤ c.val * 64 + w.val) :
    Cert.BandRefIdeal.Read.val_main_v90 (F := Ideal) q k rel (ix5 b c h r w) =
      (∑ d : Fin 64, q (ix4 b ⟨c.val * 64 + r.val, by omega⟩ h d) * padded k b ⟨c.val * 64 + w.val, by omega⟩ h d) * Ideal.ofBits FTy.f32 1040187392#32
        + rel (ix2 h ⟨min (r.val + 640 - w.val) 256, by omega⟩) :=
  (Cert.BandReference.s_at q k rel b c h r w).trans (dif_pos hn)

theorem score_low (q k : FVec Ideal S16x2048x8x64 .f32) (rel : FVec Ideal S8x257 .f32) (b : Fin 16) (c : Fin 32) (h : Fin 8) (r : Fin 64) (w : Fin 576)
    (hn : ¬ 512 ≤ c.val * 64 + w.val) : Cert.BandRefIdeal.Read.val_main_v90 (F := Ideal) q k rel (ix5 b c h r w) = ⊥ :=
  (Cert.BandReference.s_at q k rel b c h r w).trans (dif_neg hn)

/-- A score that counts is a number. -/
theorem score_num (q k : FVec Ideal S16x2048x8x64 .f32) (rel : FVec Ideal S8x257 .f32) (hq : ∀ i, IsNum (q i)) (hk : ∀ i, IsNum (k i)) (hr : ∀ i, IsNum (rel i))
    (b : Fin 16) (c : Fin 32) (h : Fin 8) (r : Fin 64) (w : Fin 576) (hn : 512 ≤ c.val * 64 + w.val) :
    IsNum (Cert.BandRefIdeal.Read.val_main_v90 (F := Ideal) q k rel (ix5 b c h r w)) := by
  rw [score_at q k rel b c h r w hn]
  exact ((IsNum.sum _ fun d => (hq _).mul (padded_num k hk _ _ _ _)).mul ⟨_, eighth_eq⟩).add (hr _)

/-- The kernel's row is the reference's. -/
theorem entry_eq (q k v : FVec Ideal S16x2048x8x64 .f32) (rel : FVec Ideal S8x257 .f32) (hq : ∀ i, IsNum (q i)) (hk : ∀ i, IsNum (k i)) (hr : ∀ i, IsNum (rel i))
    (b : Fin 16) (t : Fin 2048) (h : Fin 8) (d : Fin 64) :
    entry q k v rel b t h d = Cert.BandRefIdeal.Read.val_main_v106 (F := Ideal) q k v rel (ix3 b t ⟨h.val * 64 + d.val, by omega⟩) := by
  rw [Cert.BandReference.out_at]
  unfold entry headRow
  refine rows_agree _ _ _ _ (fun w : Fin 576 => (⟨w.val + 64 * (t.val % 128 / 64), by omega⟩ : Fin 640)) ?_ ?_ ?_ ?_ ?_ ⟨512 + t.val % 64, by omega⟩ ?_
  · intro w w' hw
    have := congrArg Fin.val hw
    simp only [] at this
    exact Fin.ext (by omega)
  · intro w
    by_cases hn : 512 ≤ t.val / 64 * 64 + w.val
    · refine Eq.trans ?_ (score_at q k rel b ⟨t.val / 64, by omega⟩ h ⟨t.val % 64, by omega⟩ w hn).symm
      refine (if_pos (show 512 ≤ t.val / 128 * 128 + (w.val + 64 * (t.val % 128 / 64)) by omega)).trans ?_
      refine congrArg₂ (· + ·) ?_ ?_
      · refine (scaled (fun d => q (ix4 b t h d)) (fun d => padded k b ⟨t.val / 128 * 128 + (w.val + 64 * (t.val % 128 / 64)), by omega⟩ h d)).trans ?_
        refine congrArg (· * Ideal.ofBits FTy.f32 1040187392#32) (Finset.sum_congr rfl fun d _ => ?_)
        refine congrArg₂ (· * ·) (congrArg (fun t => q (ix4 b t h d)) (Fin.ext ?_)) (congrArg (fun n => padded k b n h d) (Fin.ext ?_))
        · show t.val = t.val / 64 * 64 + t.val % 64
          omega
        · show t.val / 128 * 128 + (w.val + 64 * (t.val % 128 / 64)) = t.val / 64 * 64 + w.val
          omega
      · refine (if_pos (show t.val % 128 / 64 ≤ (w.val + 64 * (t.val % 128 / 64)) / 64 ∧ (w.val + 64 * (t.val % 128 / 64)) / 64 ≤ t.val % 128 / 64 + 8 by omega)).trans ?_
        refine congrArg (fun n => rel (ix2 h n)) (Fin.ext ?_)
        show min (t.val % 128 + 640 - (w.val + 64 * (t.val % 128 / 64))) 256 = min (t.val % 64 + 640 - w.val) 256
        omega
    · refine Eq.trans ?_ (score_low q k rel b ⟨t.val / 64, by omega⟩ h ⟨t.val % 64, by omega⟩ w hn).symm
      exact if_neg (show ¬ 512 ≤ t.val / 128 * 128 + (w.val + 64 * (t.val % 128 / 64)) by omega)
  · intro w
    refine congrArg (fun n => padded v b n h d) (Fin.ext ?_)
    show t.val / 128 * 128 + (w.val + 64 * (t.val % 128 / 64)) = t.val / 64 * 64 + w.val
    omega
  · intro x hx
    have hb : biasOf rel h ⟨t.val % 128, by omega⟩ x = ⊥ := by
      refine (if_neg fun hc => ?_).trans low_eq
      have h1 : t.val % 128 / 64 ≤ x.val / 64 := hc.1
      have h2 : x.val / 64 ≤ t.val % 128 / 64 + 8 := hc.2
      exact hx ⟨x.val - 64 * (t.val % 128 / 64), by omega⟩ (Fin.ext (by
        show x.val - 64 * (t.val % 128 / 64) + 64 * (t.val % 128 / 64) = x.val
        omega))
    simp only [hb]
    by_cases hn : 512 ≤ t.val / 128 * 128 + x.val
    · exact (if_pos hn).trans (EReal.add_bot _)
    · exact if_neg hn
  · intro w
    by_cases hn : 512 ≤ t.val / 64 * 64 + w.val
    · exact (score_num q k rel hq hk hr b ⟨t.val / 64, by omega⟩ h ⟨t.val % 64, by omega⟩ w hn).ne_top
    · rw [score_low q k rel b ⟨t.val / 64, by omega⟩ h ⟨t.val % 64, by omega⟩ w hn]
      exact bot_ne_top
  · exact (score_num q k rel hq hk hr b ⟨t.val / 64, by omega⟩ h ⟨t.val % 64, by omega⟩ ⟨512 + t.val % 64, by omega⟩ (by
      show 512 ≤ t.val / 64 * 64 + (512 + t.val % 64)
      omega)).ne_bot

end Cert.BandRows
-- ==== Proof.Proof.BandPlace.lean ====
module

public import proofs.«01_k».proof.Proof.Proof.BandTiles
public import proofs.«01_k».proof.Proof.Proof.BandRows

/-! A row of the kernel over equal queries, keys, biases and values. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows
open Idealize.ShloMosaic.Pipeline (Dat)

variable (m : (ℓ : Loc nD τ sig) → Buf (Elt Ideal) ℓ)

theorem headRow_congr {q q' : Fin 64 → EReal} {k k' : Fin 640 → Fin 64 → EReal} {b b' : Fin 640 → EReal} {base base' : ℕ} {v v' : Fin 640 → EReal}
    (hq : ∀ d, q d = q' d) (hk : ∀ x d, k x d = k' x d) (hb : ∀ x, b x = b' x) (hbase : base = base') (hv : ∀ x, v x = v' x) :
    headRow q k b base v = headRow q' k' b' base' v' := by
  rw [show q = q' from funext hq, show k = k' from funext fun x => funext fun d => hk x d, show b = b' from funext hb, hbase, show v = v' from funext hv]

end Cert.BandValue
-- ==== Proof.Proof.BandPiece00.lean ====
module

public import proofs.«01_k».proof.Proof.Proof.BandWords

/-! The band kernel's stored values, read one entry at a time: rows 0 to 127, heads 0 and 1. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece00_lo (K V : FVec Ideal S768x512 .bf16) (j : Fin 8) (q : Vec Ideal S1x128x128 .bf16) (b0 b1 : Vec Ideal S1x128x640 .f32) (r : Fin 128) (d : Fin 64) :
    k0_pay13 V k0_pay9 (k0_pay11 K q b0 b1) (Named.named κ "mask" 0xF149F2CA#32) (k0_pay12 (BitVec.ofNat 32 j.val)) (ix3 0 r ⟨d.val, by omega⟩)
      = headRow (fun d => q (ix3 0 r ⟨d.val, by omega⟩)) (fun x d => K (ix2 ⟨x.val, by omega⟩ ⟨d.val, by omega⟩)) (fun x => b0 (ix3 0 r x)) (256 * j.val + 0) (fun x => V (ix2 ⟨x.val, by omega⟩ ⟨d.val, by omega⟩)) := by
  pointwise [k0_pay13, k0_pay9, k0_pay11, k0_pay12, k0_pay10]
  simp only [Scalar.muli, Scalar.addi, lane_lo, sel_one, sel_zero, sum_lo, sum_hi, ok_row0]
  rfl

theorem piece00_hi (K V : FVec Ideal S768x512 .bf16) (j : Fin 8) (q : Vec Ideal S1x128x128 .bf16) (b0 b1 : Vec Ideal S1x128x640 .f32) (r : Fin 128) (d : Fin 64) :
    k0_pay13 V k0_pay9 (k0_pay11 K q b0 b1) (Named.named κ "mask" 0xF149F2CA#32) (k0_pay12 (BitVec.ofNat 32 j.val)) (ix3 0 r ⟨64 + d.val, by omega⟩)
      = headRow (fun d => q (ix3 0 r ⟨64 + d.val, by omega⟩)) (fun x d => K (ix2 ⟨x.val, by omega⟩ ⟨64 + d.val, by omega⟩)) (fun x => b1 (ix3 0 r x)) (256 * j.val + 0) (fun x => V (ix2 ⟨x.val, by omega⟩ ⟨64 + d.val, by omega⟩)) := by
  pointwise [k0_pay13, k0_pay9, k0_pay11, k0_pay12, k0_pay10]
  simp only [Scalar.muli, Scalar.addi, lane_hi, sel_one, sel_zero, sum_lo, sum_hi, ok_row0]
  rfl

end Cert.BandKernel
-- ==== Proof.Proof.BandPlace00.lean ====
module

public import proofs.«01_k».proof.Proof.Proof.BandPlace
public import proofs.«01_k».proof.Proof.Proof.BandPiece00

/-! The piece of a tile with rows 0 to 127 of heads 0 and 1, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile00 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (0 + r.val), by omega⟩ ⟨0 + e.val, by omega⟩))
    (hb0 : ∀ (r : Fin 128) (y : Fin 640), b0 (ix3 0 r y) = V m c main_v40 (ix3 0 r y))
    (hb1 : ∀ (r : Fin 128) (y : Fin 640), b1 (ix3 0 r y) = V m c main_v40 (ix3 1 r y))
    (x : S1x128x128.Idx) (T : Fin 2048) (hT : T.val = 256 * (t.val % 8) + 0 + (x 1 : ℕ)) (h : Fin 8) (d : Fin 64) (hd : 0 + (x 2 : ℕ) = h.val * 64 + d.val) :
    k0_pay13 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay11 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) q b0 b1) (Named.named κ "mask" 0xF149F2CA#32) (k0_pay12 (BitVec.ofNat 32 (grid0.coords t 1).val)) x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 0 := by omega
    have hdd : (x 2 : ℕ) = d.val := by omega
    refine (congrArg _ (show x = ix3 0 (x 1) ⟨d.val, by omega⟩ from by blk_ext)).trans ((piece00_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show (d'.val) = h.val * 64 + d'.val; omega)
    · refine (hb0 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show (d.val) = h.val * 64 + d.val; omega)
  · have hh : h.val = 1 := by omega
    have hdd : (x 2 : ℕ) = 64 + d.val := by omega
    refine (congrArg _ (show x = ix3 0 (x 1) ⟨64 + d.val, by omega⟩ from by blk_ext)).trans ((piece00_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show (64 + d.val) = h.val * 64 + d.val; omega)

end Cert.BandValue
-- ==== Proof.Proof.BandPiece01.lean ====
module

public import proofs.«01_k».proof.Proof.Proof.BandWords

/-! The band kernel's stored values, read one entry at a time: rows 0 to 127, heads 2 and 3. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece01_lo (K V : FVec Ideal S768x512 .bf16) (j : Fin 8) (q : Vec Ideal S1x128x128 .bf16) (b0 b1 : Vec Ideal S1x128x640 .f32) (r : Fin 128) (d : Fin 64) :
    k0_pay16 V k0_pay9 (k0_pay10 (BitVec.ofNat 32 j.val)) (k0_pay14 K k0_pay9 q) (k0_pay15 b0) b1 (ix3 0 r ⟨d.val, by omega⟩)
      = headRow (fun d => q (ix3 0 r ⟨d.val, by omega⟩)) (fun x d => K (ix2 ⟨x.val, by omega⟩ ⟨128 + d.val, by omega⟩)) (fun x => b0 (ix3 0 r x)) (256 * j.val + 0) (fun x => V (ix2 ⟨x.val, by omega⟩ ⟨128 + d.val, by omega⟩)) := by
  pointwise [k0_pay16, k0_pay9, k0_pay10, k0_pay14, k0_pay15]
  simp only [Scalar.muli, Scalar.addi, lane_lo, sel_one, sel_zero, sum_lo, sum_hi, ok_row0]
  rfl

theorem piece01_hi (K V : FVec Ideal S768x512 .bf16) (j : Fin 8) (q : Vec Ideal S1x128x128 .bf16) (b0 b1 : Vec Ideal S1x128x640 .f32) (r : Fin 128) (d : Fin 64) :
    k0_pay16 V k0_pay9 (k0_pay10 (BitVec.ofNat 32 j.val)) (k0_pay14 K k0_pay9 q) (k0_pay15 b0) b1 (ix3 0 r ⟨64 + d.val, by omega⟩)
      = headRow (fun d => q (ix3 0 r ⟨64 + d.val, by omega⟩)) (fun x d => K (ix2 ⟨x.val, by omega⟩ ⟨128 + (64 + d.val), by omega⟩)) (fun x => b1 (ix3 0 r x)) (256 * j.val + 0) (fun x => V (ix2 ⟨x.val, by omega⟩ ⟨128 + (64 + d.val), by omega⟩)) := by
  pointwise [k0_pay16, k0_pay9, k0_pay10, k0_pay14, k0_pay15]
  simp only [Scalar.muli, Scalar.addi, lane_hi, sel_one, sel_zero, sum_lo, sum_hi, ok_row0]
  rfl

end Cert.BandKernel
-- ==== Proof.Proof.BandPlace01.lean ====
module

public import proofs.«01_k».proof.Proof.Proof.BandPlace
public import proofs.«01_k».proof.Proof.Proof.BandPiece01

/-! The piece of a tile with rows 0 to 127 of heads 2 and 3, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile01 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (0 + r.val), by omega⟩ ⟨128 + e.val, by omega⟩))
    (hb0 : ∀ (r : Fin 128) (y : Fin 640), b0 (ix3 0 r y) = V m c main_v40 (ix3 2 r y))
    (hb1 : ∀ (r : Fin 128) (y : Fin 640), b1 (ix3 0 r y) = V m c main_v40 (ix3 3 r y))
    (x : S1x128x128.Idx) (T : Fin 2048) (hT : T.val = 256 * (t.val % 8) + 0 + (x 1 : ℕ)) (h : Fin 8) (d : Fin 64) (hd : 128 + (x 2 : ℕ) = h.val * 64 + d.val) :
    k0_pay16 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay10 (BitVec.ofNat 32 (grid0.coords t 1).val)) (k0_pay14 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 q) (k0_pay15 b0) b1 x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 2 := by omega
    have hdd : (x 2 : ℕ) = d.val := by omega
    refine (congrArg _ (show x = ix3 0 (x 1) ⟨d.val, by omega⟩ from by blk_ext)).trans ((piece01_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show 128 + (d'.val) = h.val * 64 + d'.val; omega)
    · refine (hb0 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show 128 + (d.val) = h.val * 64 + d.val; omega)
  · have hh : h.val = 3 := by omega
    have hdd : (x 2 : ℕ) = 64 + d.val := by omega
    refine (congrArg _ (show x = ix3 0 (x 1) ⟨64 + d.val, by omega⟩ from by blk_ext)).trans ((piece01_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show 128 + (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show 128 + (64 + d.val) = h.val * 64 + d.val; omega)

end Cert.BandValue
-- ==== Proof.Proof.BandPiece02.lean ====
module

public import proofs.«01_k».proof.Proof.Proof.BandWords

/-! The band kernel's stored values, read one entry at a time: rows 0 to 127, heads 4 and 5. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece02_lo (K V : FVec Ideal S768x512 .bf16) (j : Fin 8) (q : Vec Ideal S1x128x128 .bf16) (b0 b1 : Vec Ideal S1x128x640 .f32) (r : Fin 128) (d : Fin 64) :
    k0_pay18 V k0_pay9 (k0_pay10 (BitVec.ofNat 32 j.val)) (k0_pay17 K k0_pay9 q) b0 b1 (ix3 0 r ⟨d.val, by omega⟩)
      = headRow (fun d => q (ix3 0 r ⟨d.val, by omega⟩)) (fun x d => K (ix2 ⟨x.val, by omega⟩ ⟨256 + d.val, by omega⟩)) (fun x => b0 (ix3 0 r x)) (256 * j.val + 0) (fun x => V (ix2 ⟨x.val, by omega⟩ ⟨256 + d.val, by omega⟩)) := by
  pointwise [k0_pay18, k0_pay9, k0_pay10, k0_pay17]
  simp only [Scalar.muli, Scalar.addi, lane_lo, sel_one, sel_zero, sum_lo, sum_hi, ok_row0]
  rfl

theorem piece02_hi (K V : FVec Ideal S768x512 .bf16) (j : Fin 8) (q : Vec Ideal S1x128x128 .bf16) (b0 b1 : Vec Ideal S1x128x640 .f32) (r : Fin 128) (d : Fin 64) :
    k0_pay18 V k0_pay9 (k0_pay10 (BitVec.ofNat 32 j.val)) (k0_pay17 K k0_pay9 q) b0 b1 (ix3 0 r ⟨64 + d.val, by omega⟩)
      = headRow (fun d => q (ix3 0 r ⟨64 + d.val, by omega⟩)) (fun x d => K (ix2 ⟨x.val, by omega⟩ ⟨256 + (64 + d.val), by omega⟩)) (fun x => b1 (ix3 0 r x)) (256 * j.val + 0) (fun x => V (ix2 ⟨x.val, by omega⟩ ⟨256 + (64 + d.val), by omega⟩)) := by
  pointwise [k0_pay18, k0_pay9, k0_pay10, k0_pay17]
  simp only [Scalar.muli, Scalar.addi, lane_hi, sel_one, sel_zero, sum_lo, sum_hi, ok_row0]
  rfl

end Cert.BandKernel
-- ==== Proof.Proof.BandPlace02.lean ====
module

public import proofs.«01_k».proof.Proof.Proof.BandPlace
public import proofs.«01_k».proof.Proof.Proof.BandPiece02

/-! The piece of a tile with rows 0 to 127 of heads 4 and 5, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile02 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (0 + r.val), by omega⟩ ⟨256 + e.val, by omega⟩))
    (hb0 : ∀ (r : Fin 128) (y : Fin 640), b0 (ix3 0 r y) = V m c main_v40 (ix3 4 r y))
    (hb1 : ∀ (r : Fin 128) (y : Fin 640), b1 (ix3 0 r y) = V m c main_v40 (ix3 5 r y))
    (x : S1x128x128.Idx) (T : Fin 2048) (hT : T.val = 256 * (t.val % 8) + 0 + (x 1 : ℕ)) (h : Fin 8) (d : Fin 64) (hd : 256 + (x 2 : ℕ) = h.val * 64 + d.val) :
    k0_pay18 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay10 (BitVec.ofNat 32 (grid0.coords t 1).val)) (k0_pay17 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 q) b0 b1 x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 4 := by omega
    have hdd : (x 2 : ℕ) = d.val := by omega
    refine (congrArg _ (show x = ix3 0 (x 1) ⟨d.val, by omega⟩ from by blk_ext)).trans ((piece02_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show 256 + (d'.val) = h.val * 64 + d'.val; omega)
    · refine (hb0 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show 256 + (d.val) = h.val * 64 + d.val; omega)
  · have hh : h.val = 5 := by omega
    have hdd : (x 2 : ℕ) = 64 + d.val := by omega
    refine (congrArg _ (show x = ix3 0 (x 1) ⟨64 + d.val, by omega⟩ from by blk_ext)).trans ((piece02_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show 256 + (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show 256 + (64 + d.val) = h.val * 64 + d.val; omega)

end Cert.BandValue
-- ==== Proof.Proof.BandPiece03.lean ====
module

public import proofs.«01_k».proof.Proof.Proof.BandWords

/-! The band kernel's stored values, read one entry at a time: rows 0 to 127, heads 6 and 7. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece03_lo (K V : FVec Ideal S768x512 .bf16) (j : Fin 8) (q : Vec Ideal S1x128x128 .bf16) (b0 b1 : Vec Ideal S1x128x640 .f32) (r : Fin 128) (d : Fin 64) :
    k0_pay22 K V k0_pay9 (k0_pay10 (BitVec.ofNat 32 j.val)) (k0_pay19 q) (k0_pay20 k0_pay9 q) (Scalar.ofBits .bf16 0x0000#16) (k0_pay21 k0_pay9) b0 b1 (ix3 0 r ⟨d.val, by omega⟩)
      = headRow (fun d => q (ix3 0 r ⟨d.val, by omega⟩)) (fun x d => K (ix2 ⟨x.val, by omega⟩ ⟨384 + d.val, by omega⟩)) (fun x => b0 (ix3 0 r x)) (256 * j.val + 0) (fun x => V (ix2 ⟨x.val, by omega⟩ ⟨384 + d.val, by omega⟩)) := by
  pointwise [k0_pay22, k0_pay9, k0_pay10, k0_pay19, k0_pay20, k0_pay21]
  simp only [Scalar.muli, Scalar.addi, lane_lo, sel_one, sel_zero, sum_lo, sum_hi, ok_row0]
  rfl

theorem piece03_hi (K V : FVec Ideal S768x512 .bf16) (j : Fin 8) (q : Vec Ideal S1x128x128 .bf16) (b0 b1 : Vec Ideal S1x128x640 .f32) (r : Fin 128) (d : Fin 64) :
    k0_pay22 K V k0_pay9 (k0_pay10 (BitVec.ofNat 32 j.val)) (k0_pay19 q) (k0_pay20 k0_pay9 q) (Scalar.ofBits .bf16 0x0000#16) (k0_pay21 k0_pay9) b0 b1 (ix3 0 r ⟨64 + d.val, by omega⟩)
      = headRow (fun d => q (ix3 0 r ⟨64 + d.val, by omega⟩)) (fun x d => K (ix2 ⟨x.val, by omega⟩ ⟨384 + (64 + d.val), by omega⟩)) (fun x => b1 (ix3 0 r x)) (256 * j.val + 0) (fun x => V (ix2 ⟨x.val, by omega⟩ ⟨384 + (64 + d.val), by omega⟩)) := by
  pointwise [k0_pay22, k0_pay9, k0_pay10, k0_pay19, k0_pay20, k0_pay21]
  simp only [Scalar.muli, Scalar.addi, lane_hi, sel_one, sel_zero, sum_lo, sum_hi, ok_row0]
  rfl

end Cert.BandKernel
-- ==== Proof.Proof.BandPlace03.lean ====
module

public import proofs.«01_k».proof.Proof.Proof.BandPlace
public import proofs.«01_k».proof.Proof.Proof.BandPiece03

/-! The piece of a tile with rows 0 to 127 of heads 6 and 7, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile03 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (0 + r.val), by omega⟩ ⟨384 + e.val, by omega⟩))
    (hb0 : ∀ (r : Fin 128) (y : Fin 640), b0 (ix3 0 r y) = V m c main_v40 (ix3 6 r y))
    (hb1 : ∀ (r : Fin 128) (y : Fin 640), b1 (ix3 0 r y) = V m c main_v40 (ix3 7 r y))
    (x : S1x128x128.Idx) (T : Fin 2048) (hT : T.val = 256 * (t.val % 8) + 0 + (x 1 : ℕ)) (h : Fin 8) (d : Fin 64) (hd : 384 + (x 2 : ℕ) = h.val * 64 + d.val) :
    k0_pay22 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay10 (BitVec.ofNat 32 (grid0.coords t 1).val)) (k0_pay19 q) (k0_pay20 k0_pay9 q) (Scalar.ofBits .bf16 0x0000#16) (k0_pay21 k0_pay9) b0 b1 x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 6 := by omega
    have hdd : (x 2 : ℕ) = d.val := by omega
    refine (congrArg _ (show x = ix3 0 (x 1) ⟨d.val, by omega⟩ from by blk_ext)).trans ((piece03_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show 384 + (d'.val) = h.val * 64 + d'.val; omega)
    · refine (hb0 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show 384 + (d.val) = h.val * 64 + d.val; omega)
  · have hh : h.val = 7 := by omega
    have hdd : (x 2 : ℕ) = 64 + d.val := by omega
    refine (congrArg _ (show x = ix3 0 (x 1) ⟨64 + d.val, by omega⟩ from by blk_ext)).trans ((piece03_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + y.val; omega) h d' _ (by show 384 + (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 0 = T.val / 128 * 128
      omega
    · exact values_tile m c t b hb _ ⟨T.val / 128 * 128 + y.val, by omega⟩ (by show T.val / 128 * 128 + y.val = 256 * (t.val % 8) + y.val; omega) h d _ (by show 384 + (64 + d.val) = h.val * 64 + d.val; omega)

end Cert.BandValue
-- ==== Proof.Proof.BandPiece10.lean ====
module

public import proofs.«01_k».proof.Proof.Proof.BandWords

/-! The band kernel's stored values, read one entry at a time: rows 128 to 255, heads 0 and 1. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece10_lo (K V : FVec Ideal S768x512 .bf16) (j : Fin 8) (q : Vec Ideal S1x128x128 .bf16) (b0 b1 : Vec Ideal S1x128x640 .f32) (r : Fin 128) (d : Fin 64) :
    k0_pay26 V k0_pay9 (k0_pay24 K k0_pay9 (IntOp.muli (IntOp.addi (IntOp.muli (BitVec.ofNat 32 j.val) 2#32) 1#32) 128#32) q b0 b1) (k0_pay25 K k0_pay9 (IntOp.muli (IntOp.addi (IntOp.muli (BitVec.ofNat 32 j.val) 2#32) 1#32) 128#32) q b0 b1) (ix3 0 r ⟨d.val, by omega⟩)
      = headRow (fun d => q (ix3 0 r ⟨d.val, by omega⟩)) (fun x d => K (ix2 ⟨128 + x.val, by omega⟩ ⟨d.val, by omega⟩)) (fun x => b0 (ix3 0 r x)) (256 * j.val + 128) (fun x => V (ix2 ⟨128 + x.val, by omega⟩ ⟨d.val, by omega⟩)) := by
  pointwise [k0_pay26, k0_pay24, k0_pay25, k0_pay9, k0_pay23]
  simp only [Scalar.muli, Scalar.addi, lane_lo, sel_one, sel_zero, sum_lo, sum_hi, ok_row1]
  rfl

theorem piece10_hi (K V : FVec Ideal S768x512 .bf16) (j : Fin 8) (q : Vec Ideal S1x128x128 .bf16) (b0 b1 : Vec Ideal S1x128x640 .f32) (r : Fin 128) (d : Fin 64) :
    k0_pay26 V k0_pay9 (k0_pay24 K k0_pay9 (IntOp.muli (IntOp.addi (IntOp.muli (BitVec.ofNat 32 j.val) 2#32) 1#32) 128#32) q b0 b1) (k0_pay25 K k0_pay9 (IntOp.muli (IntOp.addi (IntOp.muli (BitVec.ofNat 32 j.val) 2#32) 1#32) 128#32) q b0 b1) (ix3 0 r ⟨64 + d.val, by omega⟩)
      = headRow (fun d => q (ix3 0 r ⟨64 + d.val, by omega⟩)) (fun x d => K (ix2 ⟨128 + x.val, by omega⟩ ⟨64 + d.val, by omega⟩)) (fun x => b1 (ix3 0 r x)) (256 * j.val + 128) (fun x => V (ix2 ⟨128 + x.val, by omega⟩ ⟨64 + d.val, by omega⟩)) := by
  pointwise [k0_pay26, k0_pay24, k0_pay25, k0_pay9, k0_pay23]
  simp only [Scalar.muli, Scalar.addi, lane_hi, sel_one, sel_zero, sum_lo, sum_hi, ok_row1]
  rfl

end Cert.BandKernel
-- ==== Proof.Proof.BandPlace10.lean ====
module

public import proofs.«01_k».proof.Proof.Proof.BandPlace
public import proofs.«01_k».proof.Proof.Proof.BandPiece10

/-! The piece of a tile with rows 128 to 255 of heads 0 and 1, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile10 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (128 + r.val), by omega⟩ ⟨0 + e.val, by omega⟩))
    (hb0 : ∀ (r : Fin 128) (y : Fin 640), b0 (ix3 0 r y) = V m c main_v40 (ix3 0 r y))
    (hb1 : ∀ (r : Fin 128) (y : Fin 640), b1 (ix3 0 r y) = V m c main_v40 (ix3 1 r y))
    (x : S1x128x128.Idx) (T : Fin 2048) (hT : T.val = 256 * (t.val % 8) + 128 + (x 1 : ℕ)) (h : Fin 8) (d : Fin 64) (hd : 0 + (x 2 : ℕ) = h.val * 64 + d.val) :
    k0_pay26 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay24 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (IntOp.muli (IntOp.addi (IntOp.muli (BitVec.ofNat 32 (grid0.coords t 1).val) 2#32) 1#32) 128#32) q b0 b1) (k0_pay25 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (IntOp.muli (IntOp.addi (IntOp.muli (BitVec.ofNat 32 (grid0.coords t 1).val) 2#32) 1#32) 128#32) q b0 b1) x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 0 := by omega
    have hdd : (x 2 : ℕ) = d.val := by omega
    refine (congrArg _ (show x = ix3 0 (x 1) ⟨d.val, by omega⟩ from by blk_ext)).trans ((piece10_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show (d'.val) = h.val * 64 + d'.val; omega)
    · refine (hb0 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show (d.val) = h.val * 64 + d.val; omega)
  · have hh : h.val = 1 := by omega
    have hdd : (x 2 : ℕ) = 64 + d.val := by omega
    refine (congrArg _ (show x = ix3 0 (x 1) ⟨64 + d.val, by omega⟩ from by blk_ext)).trans ((piece10_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show (64 + d.val) = h.val * 64 + d.val; omega)

end Cert.BandValue
-- ==== Proof.Proof.BandPiece11.lean ====
module

public import proofs.«01_k».proof.Proof.Proof.BandWords

/-! The band kernel's stored values, read one entry at a time: rows 128 to 255, heads 2 and 3. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece11_lo (K V : FVec Ideal S768x512 .bf16) (j : Fin 8) (q : Vec Ideal S1x128x128 .bf16) (b0 b1 : Vec Ideal S1x128x640 .f32) (r : Fin 128) (d : Fin 64) :
    k0_pay28 V k0_pay9 (k0_pay27 K k0_pay9 (k0_pay23 (IntOp.muli (IntOp.addi (IntOp.muli (BitVec.ofNat 32 j.val) 2#32) 1#32) 128#32)) q b0 b1) (ix3 0 r ⟨d.val, by omega⟩)
      = headRow (fun d => q (ix3 0 r ⟨d.val, by omega⟩)) (fun x d => K (ix2 ⟨128 + x.val, by omega⟩ ⟨128 + d.val, by omega⟩)) (fun x => b0 (ix3 0 r x)) (256 * j.val + 128) (fun x => V (ix2 ⟨128 + x.val, by omega⟩ ⟨128 + d.val, by omega⟩)) := by
  pointwise [k0_pay28, k0_pay9, k0_pay27, k0_pay23]
  simp only [Scalar.muli, Scalar.addi, lane_lo, sel_one, sel_zero, sum_lo, sum_hi, ok_row1]
  rfl

theorem piece11_hi (K V : FVec Ideal S768x512 .bf16) (j : Fin 8) (q : Vec Ideal S1x128x128 .bf16) (b0 b1 : Vec Ideal S1x128x640 .f32) (r : Fin 128) (d : Fin 64) :
    k0_pay28 V k0_pay9 (k0_pay27 K k0_pay9 (k0_pay23 (IntOp.muli (IntOp.addi (IntOp.muli (BitVec.ofNat 32 j.val) 2#32) 1#32) 128#32)) q b0 b1) (ix3 0 r ⟨64 + d.val, by omega⟩)
      = headRow (fun d => q (ix3 0 r ⟨64 + d.val, by omega⟩)) (fun x d => K (ix2 ⟨128 + x.val, by omega⟩ ⟨128 + (64 + d.val), by omega⟩)) (fun x => b1 (ix3 0 r x)) (256 * j.val + 128) (fun x => V (ix2 ⟨128 + x.val, by omega⟩ ⟨128 + (64 + d.val), by omega⟩)) := by
  pointwise [k0_pay28, k0_pay9, k0_pay27, k0_pay23]
  simp only [Scalar.muli, Scalar.addi, lane_hi, sel_one, sel_zero, sum_lo, sum_hi, ok_row1]
  rfl

end Cert.BandKernel
-- ==== Proof.Proof.BandPlace11.lean ====
module

public import proofs.«01_k».proof.Proof.Proof.BandPlace
public import proofs.«01_k».proof.Proof.Proof.BandPiece11

/-! The piece of a tile with rows 128 to 255 of heads 2 and 3, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile11 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (128 + r.val), by omega⟩ ⟨128 + e.val, by omega⟩))
    (hb0 : ∀ (r : Fin 128) (y : Fin 640), b0 (ix3 0 r y) = V m c main_v40 (ix3 2 r y))
    (hb1 : ∀ (r : Fin 128) (y : Fin 640), b1 (ix3 0 r y) = V m c main_v40 (ix3 3 r y))
    (x : S1x128x128.Idx) (T : Fin 2048) (hT : T.val = 256 * (t.val % 8) + 128 + (x 1 : ℕ)) (h : Fin 8) (d : Fin 64) (hd : 128 + (x 2 : ℕ) = h.val * 64 + d.val) :
    k0_pay28 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay27 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay23 (IntOp.muli (IntOp.addi (IntOp.muli (BitVec.ofNat 32 (grid0.coords t 1).val) 2#32) 1#32) 128#32)) q b0 b1) x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 2 := by omega
    have hdd : (x 2 : ℕ) = d.val := by omega
    refine (congrArg _ (show x = ix3 0 (x 1) ⟨d.val, by omega⟩ from by blk_ext)).trans ((piece11_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show 128 + (d'.val) = h.val * 64 + d'.val; omega)
    · refine (hb0 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show 128 + (d.val) = h.val * 64 + d.val; omega)
  · have hh : h.val = 3 := by omega
    have hdd : (x 2 : ℕ) = 64 + d.val := by omega
    refine (congrArg _ (show x = ix3 0 (x 1) ⟨64 + d.val, by omega⟩ from by blk_ext)).trans ((piece11_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show 128 + (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show 128 + (64 + d.val) = h.val * 64 + d.val; omega)

end Cert.BandValue
-- ==== Proof.Proof.BandPiece12.lean ====
module

public import proofs.«01_k».proof.Proof.Proof.BandWords

/-! The band kernel's stored values, read one entry at a time: rows 128 to 255, heads 4 and 5. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece12_lo (K V : FVec Ideal S768x512 .bf16) (j : Fin 8) (q : Vec Ideal S1x128x128 .bf16) (b0 b1 : Vec Ideal S1x128x640 .f32) (r : Fin 128) (d : Fin 64) :
    k0_pay31 V k0_pay9 (k0_pay29 K k0_pay9 q b0 b1) (Named.named κ "mask" 0xF149F2CA#32) (k0_pay30 (k0_pay23 (IntOp.muli (IntOp.addi (IntOp.muli (BitVec.ofNat 32 j.val) 2#32) 1#32) 128#32))) (ix3 0 r ⟨d.val, by omega⟩)
      = headRow (fun d => q (ix3 0 r ⟨d.val, by omega⟩)) (fun x d => K (ix2 ⟨128 + x.val, by omega⟩ ⟨256 + d.val, by omega⟩)) (fun x => b0 (ix3 0 r x)) (256 * j.val + 128) (fun x => V (ix2 ⟨128 + x.val, by omega⟩ ⟨256 + d.val, by omega⟩)) := by
  pointwise [k0_pay31, k0_pay9, k0_pay29, k0_pay30, k0_pay23]
  simp only [Scalar.muli, Scalar.addi, lane_lo, sel_one, sel_zero, sum_lo, sum_hi, ok_row1]
  rfl

theorem piece12_hi (K V : FVec Ideal S768x512 .bf16) (j : Fin 8) (q : Vec Ideal S1x128x128 .bf16) (b0 b1 : Vec Ideal S1x128x640 .f32) (r : Fin 128) (d : Fin 64) :
    k0_pay31 V k0_pay9 (k0_pay29 K k0_pay9 q b0 b1) (Named.named κ "mask" 0xF149F2CA#32) (k0_pay30 (k0_pay23 (IntOp.muli (IntOp.addi (IntOp.muli (BitVec.ofNat 32 j.val) 2#32) 1#32) 128#32))) (ix3 0 r ⟨64 + d.val, by omega⟩)
      = headRow (fun d => q (ix3 0 r ⟨64 + d.val, by omega⟩)) (fun x d => K (ix2 ⟨128 + x.val, by omega⟩ ⟨256 + (64 + d.val), by omega⟩)) (fun x => b1 (ix3 0 r x)) (256 * j.val + 128) (fun x => V (ix2 ⟨128 + x.val, by omega⟩ ⟨256 + (64 + d.val), by omega⟩)) := by
  pointwise [k0_pay31, k0_pay9, k0_pay29, k0_pay30, k0_pay23]
  simp only [Scalar.muli, Scalar.addi, lane_hi, sel_one, sel_zero, sum_lo, sum_hi, ok_row1]
  rfl

end Cert.BandKernel
-- ==== Proof.Proof.BandPlace12.lean ====
module

public import proofs.«01_k».proof.Proof.Proof.BandPlace
public import proofs.«01_k».proof.Proof.Proof.BandPiece12

/-! The piece of a tile with rows 128 to 255 of heads 4 and 5, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile12 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (128 + r.val), by omega⟩ ⟨256 + e.val, by omega⟩))
    (hb0 : ∀ (r : Fin 128) (y : Fin 640), b0 (ix3 0 r y) = V m c main_v40 (ix3 4 r y))
    (hb1 : ∀ (r : Fin 128) (y : Fin 640), b1 (ix3 0 r y) = V m c main_v40 (ix3 5 r y))
    (x : S1x128x128.Idx) (T : Fin 2048) (hT : T.val = 256 * (t.val % 8) + 128 + (x 1 : ℕ)) (h : Fin 8) (d : Fin 64) (hd : 256 + (x 2 : ℕ) = h.val * 64 + d.val) :
    k0_pay31 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay29 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 q b0 b1) (Named.named κ "mask" 0xF149F2CA#32) (k0_pay30 (k0_pay23 (IntOp.muli (IntOp.addi (IntOp.muli (BitVec.ofNat 32 (grid0.coords t 1).val) 2#32) 1#32) 128#32))) x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 4 := by omega
    have hdd : (x 2 : ℕ) = d.val := by omega
    refine (congrArg _ (show x = ix3 0 (x 1) ⟨d.val, by omega⟩ from by blk_ext)).trans ((piece12_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show 256 + (d'.val) = h.val * 64 + d'.val; omega)
    · refine (hb0 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show 256 + (d.val) = h.val * 64 + d.val; omega)
  · have hh : h.val = 5 := by omega
    have hdd : (x 2 : ℕ) = 64 + d.val := by omega
    refine (congrArg _ (show x = ix3 0 (x 1) ⟨64 + d.val, by omega⟩ from by blk_ext)).trans ((piece12_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show 256 + (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show 256 + (64 + d.val) = h.val * 64 + d.val; omega)

end Cert.BandValue
-- ==== Proof.Proof.BandPiece13.lean ====
module

public import proofs.«01_k».proof.Proof.Proof.BandWords

/-! The band kernel's stored values, read one entry at a time: rows 128 to 255, heads 6 and 7. -/

@[expose] public section

set_option maxRecDepth 16384

noncomputable section

namespace Cert.BandKernel

open Idealize.ShloMosaic Idealize.ShloMosaic.TcCoe Idealize.SL.Sem Cert.BandIdeal Cert.BandIdeal.Gen Cert.BandSpec

theorem piece13_lo (K V : FVec Ideal S768x512 .bf16) (j : Fin 8) (q : Vec Ideal S1x128x128 .bf16) (b0 b1 : Vec Ideal S1x128x640 .f32) (r : Fin 128) (d : Fin 64) :
    k0_pay1 V k0_pay9 (k0_pay23 (IntOp.muli (IntOp.addi (IntOp.muli (BitVec.ofNat 32 j.val) 2#32) 1#32) 128#32)) (k0_pay32 K k0_pay9 q) (k0_pay33 b0) b1 (ix3 0 r ⟨d.val, by omega⟩)
      = headRow (fun d => q (ix3 0 r ⟨d.val, by omega⟩)) (fun x d => K (ix2 ⟨128 + x.val, by omega⟩ ⟨384 + d.val, by omega⟩)) (fun x => b0 (ix3 0 r x)) (256 * j.val + 128) (fun x => V (ix2 ⟨128 + x.val, by omega⟩ ⟨384 + d.val, by omega⟩)) := by
  pointwise [k0_pay1, k0_pay9, k0_pay23, k0_pay32, k0_pay33]
  simp only [Scalar.muli, Scalar.addi, lane_lo, sel_one, sel_zero, sum_lo, sum_hi, ok_row1]
  rfl

theorem piece13_hi (K V : FVec Ideal S768x512 .bf16) (j : Fin 8) (q : Vec Ideal S1x128x128 .bf16) (b0 b1 : Vec Ideal S1x128x640 .f32) (r : Fin 128) (d : Fin 64) :
    k0_pay1 V k0_pay9 (k0_pay23 (IntOp.muli (IntOp.addi (IntOp.muli (BitVec.ofNat 32 j.val) 2#32) 1#32) 128#32)) (k0_pay32 K k0_pay9 q) (k0_pay33 b0) b1 (ix3 0 r ⟨64 + d.val, by omega⟩)
      = headRow (fun d => q (ix3 0 r ⟨64 + d.val, by omega⟩)) (fun x d => K (ix2 ⟨128 + x.val, by omega⟩ ⟨384 + (64 + d.val), by omega⟩)) (fun x => b1 (ix3 0 r x)) (256 * j.val + 128) (fun x => V (ix2 ⟨128 + x.val, by omega⟩ ⟨384 + (64 + d.val), by omega⟩)) := by
  pointwise [k0_pay1, k0_pay9, k0_pay23, k0_pay32, k0_pay33]
  simp only [Scalar.muli, Scalar.addi, lane_hi, sel_one, sel_zero, sum_lo, sum_hi, ok_row1]
  rfl

end Cert.BandKernel
-- ==== Proof.Proof.BandPlace13.lean ====
module

public import proofs.«01_k».proof.Proof.Proof.BandPlace
public import proofs.«01_k».proof.Proof.Proof.BandPiece13

/-! The piece of a tile with rows 128 to 255 of heads 6 and 7, over the arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

theorem tile13 (c : Dev nD) (t : Fin cfg0.N) (b : Fin 16) (hb : t.val / 8 = b.val) (q : Vec Ideal S1x128x128 .bf16) (b0 b1 : Vec Ideal S1x128x640 .f32)
    (hq : ∀ (r e : Fin 128), q (ix3 0 r e) = V m c main_v3 (ix3 b ⟨256 * (t.val % 8) + (128 + r.val), by omega⟩ ⟨384 + e.val, by omega⟩))
    (hb0 : ∀ (r : Fin 128) (y : Fin 640), b0 (ix3 0 r y) = V m c main_v40 (ix3 6 r y))
    (hb1 : ∀ (r : Fin 128) (y : Fin 640), b1 (ix3 0 r y) = V m c main_v40 (ix3 7 r y))
    (x : S1x128x128.Idx) (T : Fin 2048) (hT : T.val = 256 * (t.val % 8) + 128 + (x 1 : ℕ)) (h : Fin 8) (d : Fin 64) (hd : 384 + (x 2 : ℕ) = h.val * 64 + d.val) :
    k0_pay1 (k0_pay35 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 (k0_pay23 (IntOp.muli (IntOp.addi (IntOp.muli (BitVec.ofNat 32 (grid0.coords t 1).val) 2#32) 1#32) 128#32)) (k0_pay32 (k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) k0_pay9 q) (k0_pay33 b0) b1 x = entry (m ((c : Thread nD τ).loc main_arg0)) (m ((c : Thread nD τ).loc main_arg1)) (m ((c : Thread nD τ).loc main_arg2)) (m ((c : Thread nD τ).loc main_arg3)) b T h d := by
  have ht := pt_lt t
  have hj := coord1 t
  have hx0 : (x 0 : ℕ) < 1 := (x 0).isLt
  have hx1 : (x 1 : ℕ) < 128 := (x 1).isLt
  have hx2 : (x 2 : ℕ) < 128 := (x 2).isLt
  by_cases hx : (x 2 : ℕ) < 64
  · have hh : h.val = 6 := by omega
    have hdd : (x 2 : ℕ) = d.val := by omega
    refine (congrArg _ (show x = ix3 0 (x 1) ⟨d.val, by omega⟩ from by blk_ext)).trans ((piece13_lo _ _ (grid0.coords t 1) _ _ _ (x 1) d).trans ?_)
    unfold entry
    refine headRow_congr (fun d' => ?_) (fun y d' => ?_) (fun y => ?_) ?_ (fun y => ?_)
    · refine (hq (x 1) ⟨d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show 384 + (d'.val) = h.val * 64 + d'.val; omega)
    · refine (hb0 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show 384 + (d.val) = h.val * 64 + d.val; omega)
  · have hh : h.val = 7 := by omega
    have hdd : (x 2 : ℕ) = 64 + d.val := by omega
    refine (congrArg _ (show x = ix3 0 (x 1) ⟨64 + d.val, by omega⟩ from by blk_ext)).trans ((piece13_hi _ _ (grid0.coords t 1) _ _ _ (x 1) d).trans ?_)
    unfold entry
    refine headRow_congr (fun d' => ?_) (fun y d' => ?_) (fun y => ?_) ?_ (fun y => ?_)
    · refine (hq (x 1) ⟨64 + d'.val, by omega⟩).trans (Eq.trans (congrArg (V m c main_v3) ?_) (queries_at m c b T h d'))
      blk_ext
    · exact keys_tile m c t b hb _ ⟨T.val / 128 * 128 + y.val, by omega⟩ (by show T.val / 128 * 128 + y.val = 256 * (t.val % 8) + (128 + y.val); omega) h d' _ (by show 384 + (64 + d'.val) = h.val * 64 + d'.val; omega)
    · refine (hb1 (x 1) y).trans (Eq.trans (congrArg (V m c main_v40) ?_) (bias_at m c h ⟨T.val % 128, by omega⟩ y))
      blk_ext
    · show 256 * (grid0.coords t 1).val + 128 = T.val / 128 * 128
      omega
    · exact values_tile m c t b hb _ ⟨T.val / 128 * 128 + y.val, by omega⟩ (by show T.val / 128 * 128 + y.val = 256 * (t.val % 8) + (128 + y.val); omega) h d _ (by show 384 + (64 + d.val) = h.val * 64 + d.val; omega)

end Cert.BandValue
-- ==== Proof.Proof.BandValue.lean ====
module

public import proofs.«01_k».proof.Proof.Proof.BandPlace00
public import proofs.«01_k».proof.Proof.Proof.BandPlace01
public import proofs.«01_k».proof.Proof.Proof.BandPlace02
public import proofs.«01_k».proof.Proof.Proof.BandPlace03
public import proofs.«01_k».proof.Proof.Proof.BandPlace10
public import proofs.«01_k».proof.Proof.Proof.BandPlace11
public import proofs.«01_k».proof.Proof.Proof.BandPlace12
public import proofs.«01_k».proof.Proof.Proof.BandPlace13

/-! The band kernel's result array after the run is the reference's, over the same arguments. -/

@[expose] public section

set_option maxRecDepth 16384

noncomputable section

namespace Cert.BandValue

open Idealize.ShloMosaic Idealize.ShloMosaic.TcCoe Idealize.SL.Sem Cert.BandIdeal Cert.BandIdeal.Gen Cert.BandSpec Cert.BandHost Cert.BandTiles Cert.BandRows Cert.BandKernel
open Idealize.ShloMosaic.Pipeline (Dat)

variable (m : (ℓ : Loc nD τ sig) → Buf (Elt Ideal) ℓ)

/-- A tile of the result over the arguments. -/
theorem point (c : Dev nD) (t : Fin cfg0.N) (y : S1x256x512.Idx) (b : Fin 16) (hb : t.val / 8 = b.val) (T : Fin 2048) (hT : T.val = 256 * (t.val % 8) + (y 1 : ℕ))
    (hd : Fin 8) (d : Fin 64) (hy : (y 2 : ℕ) = hd.val * 64 + d.val) :
    out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = entry (m ((c : Thread nD τ).loc main_arg0)) (m ((c : Thread nD τ).loc main_arg1)) (m ((c : Thread nD τ).loc main_arg2)) (m ((c : Thread nD τ).loc main_arg3)) b T hd d := by
  have ht := pt_lt t
  unfold out0_14
  canon_tiles x h
  case piece0 =>
    unfold k0_pay36 k0_pay38 Scalar.muli Scalar.addi
    refine tile13 m c t b hb (View.ld (iblk m c 0 t) r0_16) (View.ld (iblk m c 13 t) r0_11) (View.ld (iblk m c 13 t) r0_12) ?_ ?_ ?_ x T (by omega) hd d (by omega)
    · intro r e
      show iblk m c 0 t (r0_16.emb (ix3 0 r e)) = _
      refine (congrArg (iblk m c 0 t) (show r0_16.emb (ix3 0 r e) = ix3 0 ⟨128 + r.val, by omega⟩ ⟨384 + e.val, by omega⟩ from by blk_ext)).trans ?_
      blk_point [iblk, V, idx t]
    · intro r e
      show iblk m c 13 t (r0_11.emb (ix3 0 r e)) = _
      refine (congrArg (iblk m c 13 t) (show r0_11.emb (ix3 0 r e) = ix3 6 r e from by blk_ext)).trans ?_
      blk_point [iblk, V, idx t]
    · intro r e
      show iblk m c 13 t (r0_12.emb (ix3 0 r e)) = _
      refine (congrArg (iblk m c 13 t) (show r0_12.emb (ix3 0 r e) = ix3 7 r e from by blk_ext)).trans ?_
      blk_point [iblk, V, idx t]
  case piece1 =>
    unfold k0_pay36 k0_pay38 Scalar.muli Scalar.addi
    refine tile12 m c t b hb (View.ld (iblk m c 0 t) r0_15) (View.ld (iblk m c 13 t) r0_8) (View.ld (iblk m c 13 t) r0_9) ?_ ?_ ?_ x T (by omega) hd d (by omega)
    · intro r e
      show iblk m c 0 t (r0_15.emb (ix3 0 r e)) = _
      refine (congrArg (iblk m c 0 t) (show r0_15.emb (ix3 0 r e) = ix3 0 ⟨128 + r.val, by omega⟩ ⟨256 + e.val, by omega⟩ from by blk_ext)).trans ?_
      blk_point [iblk, V, idx t]
    · intro r e
      show iblk m c 13 t (r0_8.emb (ix3 0 r e)) = _
      refine (congrArg (iblk m c 13 t) (show r0_8.emb (ix3 0 r e) = ix3 4 r e from by blk_ext)).trans ?_
      blk_point [iblk, V, idx t]
    · intro r e
      show iblk m c 13 t (r0_9.emb (ix3 0 r e)) = _
      refine (congrArg (iblk m c 13 t) (show r0_9.emb (ix3 0 r e) = ix3 5 r e from by blk_ext)).trans ?_
      blk_point [iblk, V, idx t]
  case piece2 =>
    unfold k0_pay36 k0_pay38 Scalar.muli Scalar.addi
    refine tile11 m c t b hb (View.ld (iblk m c 0 t) r0_14) (View.ld (iblk m c 13 t) r0_5) (View.ld (iblk m c 13 t) r0_6) ?_ ?_ ?_ x T (by omega) hd d (by omega)
    · intro r e
      show iblk m c 0 t (r0_14.emb (ix3 0 r e)) = _
      refine (congrArg (iblk m c 0 t) (show r0_14.emb (ix3 0 r e) = ix3 0 ⟨128 + r.val, by omega⟩ ⟨128 + e.val, by omega⟩ from by blk_ext)).trans ?_
      blk_point [iblk, V, idx t]
    · intro r e
      show iblk m c 13 t (r0_5.emb (ix3 0 r e)) = _
      refine (congrArg (iblk m c 13 t) (show r0_5.emb (ix3 0 r e) = ix3 2 r e from by blk_ext)).trans ?_
      blk_point [iblk, V, idx t]
    · intro r e
      show iblk m c 13 t (r0_6.emb (ix3 0 r e)) = _
      refine (congrArg (iblk m c 13 t) (show r0_6.emb (ix3 0 r e) = ix3 3 r e from by blk_ext)).trans ?_
      blk_point [iblk, V, idx t]
  case piece3 =>
    unfold k0_pay36 Scalar.muli Scalar.addi
    refine tile10 m c t b hb (View.ld (iblk m c 0 t) r0_13) (View.ld (iblk m c 13 t) r0_2) (View.ld (iblk m c 13 t) r0_3) ?_ ?_ ?_ x T (by omega) hd d (by omega)
    · intro r e
      show iblk m c 0 t (r0_13.emb (ix3 0 r e)) = _
      refine (congrArg (iblk m c 0 t) (show r0_13.emb (ix3 0 r e) = ix3 0 ⟨128 + r.val, by omega⟩ ⟨0 + e.val, by omega⟩ from by blk_ext)).trans ?_
      blk_point [iblk, V, idx t]
    · intro r e
      show iblk m c 13 t (r0_2.emb (ix3 0 r e)) = _
      refine (congrArg (iblk m c 13 t) (show r0_2.emb (ix3 0 r e) = ix3 0 r e from by blk_ext)).trans ?_
      blk_point [iblk, V, idx t]
    · intro r e
      show iblk m c 13 t (r0_3.emb (ix3 0 r e)) = _
      refine (congrArg (iblk m c 13 t) (show r0_3.emb (ix3 0 r e) = ix3 1 r e from by blk_ext)).trans ?_
      blk_point [iblk, V, idx t]
  case piece4 =>
    unfold k0_pay36 k0_pay37
    refine tile03 m c t b hb (View.ld (iblk m c 0 t) r0_10) (View.ld (iblk m c 13 t) r0_11) (View.ld (iblk m c 13 t) r0_12) ?_ ?_ ?_ x T (by omega) hd d (by omega)
    · intro r e
      show iblk m c 0 t (r0_10.emb (ix3 0 r e)) = _
      refine (congrArg (iblk m c 0 t) (show r0_10.emb (ix3 0 r e) = ix3 0 ⟨0 + r.val, by omega⟩ ⟨384 + e.val, by omega⟩ from by blk_ext)).trans ?_
      blk_point [iblk, V, idx t]
    · intro r e
      show iblk m c 13 t (r0_11.emb (ix3 0 r e)) = _
      refine (congrArg (iblk m c 13 t) (show r0_11.emb (ix3 0 r e) = ix3 6 r e from by blk_ext)).trans ?_
      blk_point [iblk, V, idx t]
    · intro r e
      show iblk m c 13 t (r0_12.emb (ix3 0 r e)) = _
      refine (congrArg (iblk m c 13 t) (show r0_12.emb (ix3 0 r e) = ix3 7 r e from by blk_ext)).trans ?_
      blk_point [iblk, V, idx t]
  case piece5 =>
    unfold k0_pay36 k0_pay37
    refine tile02 m c t b hb (View.ld (iblk m c 0 t) r0_7) (View.ld (iblk m c 13 t) r0_8) (View.ld (iblk m c 13 t) r0_9) ?_ ?_ ?_ x T (by omega) hd d (by omega)
    · intro r e
      show iblk m c 0 t (r0_7.emb (ix3 0 r e)) = _
      refine (congrArg (iblk m c 0 t) (show r0_7.emb (ix3 0 r e) = ix3 0 ⟨0 + r.val, by omega⟩ ⟨256 + e.val, by omega⟩ from by blk_ext)).trans ?_
      blk_point [iblk, V, idx t]
    · intro r e
      show iblk m c 13 t (r0_8.emb (ix3 0 r e)) = _
      refine (congrArg (iblk m c 13 t) (show r0_8.emb (ix3 0 r e) = ix3 4 r e from by blk_ext)).trans ?_
      blk_point [iblk, V, idx t]
    · intro r e
      show iblk m c 13 t (r0_9.emb (ix3 0 r e)) = _
      refine (congrArg (iblk m c 13 t) (show r0_9.emb (ix3 0 r e) = ix3 5 r e from by blk_ext)).trans ?_
      blk_point [iblk, V, idx t]
  case piece6 =>
    unfold k0_pay36 k0_pay37
    refine tile01 m c t b hb (View.ld (iblk m c 0 t) r0_4) (View.ld (iblk m c 13 t) r0_5) (View.ld (iblk m c 13 t) r0_6) ?_ ?_ ?_ x T (by omega) hd d (by omega)
    · intro r e
      show iblk m c 0 t (r0_4.emb (ix3 0 r e)) = _
      refine (congrArg (iblk m c 0 t) (show r0_4.emb (ix3 0 r e) = ix3 0 ⟨0 + r.val, by omega⟩ ⟨128 + e.val, by omega⟩ from by blk_ext)).trans ?_
      blk_point [iblk, V, idx t]
    · intro r e
      show iblk m c 13 t (r0_5.emb (ix3 0 r e)) = _
      refine (congrArg (iblk m c 13 t) (show r0_5.emb (ix3 0 r e) = ix3 2 r e from by blk_ext)).trans ?_
      blk_point [iblk, V, idx t]
    · intro r e
      show iblk m c 13 t (r0_6.emb (ix3 0 r e)) = _
      refine (congrArg (iblk m c 13 t) (show r0_6.emb (ix3 0 r e) = ix3 3 r e from by blk_ext)).trans ?_
      blk_point [iblk, V, idx t]
  case piece7 =>
    unfold k0_pay36
    refine tile00 m c t b hb (View.ld (iblk m c 0 t) r0_1) (View.ld (iblk m c 13 t) r0_2) (View.ld (iblk m c 13 t) r0_3) ?_ ?_ ?_ x T (by omega) hd d (by omega)
    · intro r e
      show iblk m c 0 t (r0_1.emb (ix3 0 r e)) = _
      refine (congrArg (iblk m c 0 t) (show r0_1.emb (ix3 0 r e) = ix3 0 ⟨0 + r.val, by omega⟩ ⟨0 + e.val, by omega⟩ from by blk_ext)).trans ?_
      blk_point [iblk, V, idx t]
    · intro r e
      show iblk m c 13 t (r0_2.emb (ix3 0 r e)) = _
      refine (congrArg (iblk m c 13 t) (show r0_2.emb (ix3 0 r e) = ix3 0 r e from by blk_ext)).trans ?_
      blk_point [iblk, V, idx t]
    · intro r e
      show iblk m c 13 t (r0_3.emb (ix3 0 r e)) = _
      refine (congrArg (iblk m c 13 t) (show r0_3.emb (ix3 0 r e) = ix3 1 r e from by blk_ext)).trans ?_
      blk_point [iblk, V, idx t]

/-- The result. -/
theorem final14 (c : Dev nD) (hq : ∀ i, IsNum (m ((c : Thread nD τ).loc main_arg0) i)) (hk : ∀ i, IsNum (m ((c : Thread nD τ).loc main_arg1) i)) (hr : ∀ i, IsNum (m ((c : Thread nD τ).loc main_arg3) i)) :
    (dats m 0 c).arrAt 14 cfg0.N = Cert.BandRefIdeal.Read.val_main_v106 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14]
  have ht := pt_lt t
  have h1 : (y 1 : ℕ) < 256 := (y 1).isLt
  have h2 : (y 2 : ℕ) < 512 := (y 2).isLt
  refine (point m c t y ⟨t.val / 8, by omega⟩ rfl ⟨256 * (t.val % 8) + (y 1 : ℕ), by omega⟩ rfl ⟨(y 2 : ℕ) / 64, by omega⟩ ⟨(y 2 : ℕ) % 64, by omega⟩
    (by show (y 2 : ℕ) = (y 2 : ℕ) / 64 * 64 + (y 2 : ℕ) % 64; omega)).trans ((entry_eq _ _ _ _ hq hk hr _ _ _ _).trans (congrArg _ ?_))
  blk_ext [idx t]

end Cert.BandValue
-- ==== Proof.Proof.BandFinite.lean ====
module

public import proofs.«01_k».proof.Defs
public import proofs.«01_k».proof.Proof.Proof.BandRows

/-! What the precondition says: every query, key and position bias is a number. -/

@[expose] public section

set_option maxRecDepth 16384

noncomputable section

namespace Cert.BandFinite

open Idealize.ShloMosaic Idealize.SL.Sem Cert.BandRows

theorem facts : Cert.Pre_finite.Facts := by
  constructor <;> decide

/-- An entry whose magnitude is below plus infinity is a number. -/
theorem num_of_lt (x : EReal) (hx : FloatOps.cmpf (F := Ideal) .olt (FloatOps.absf (F := Ideal) (φ := .f32) x) (FloatOps.ofBits (F := Ideal) .f32 0x7F800000#32) = 1#1) : IsNum x := by
  have ht : (FloatOps.ofBits (F := Ideal) .f32 0x7F800000#32 : EReal) = ⊤ := rfl
  rw [ht, Ideal.absf_def, Ideal.cmpf_def] at hx
  induction x using EReal.rec with
  | coe a => exact ⟨a, rfl⟩
  | bot => exact absurd hx (by simp [Ideal.cmp])
  | top => exact absurd hx (by simp [Ideal.cmp])

theorem nums [hP : Cert.Pre_finite.Facts] (m : (ℓ : Loc Cert.BandIdeal.nD Cert.BandIdeal.τ Cert.BandIdeal.sig) → Buf (Elt Ideal) ℓ) (hpre : Cert.Pre_BandIdeal_finite m) (c : Dev Cert.BandIdeal.nD) :
    (∀ i, IsNum (m ((c.tc : Thread Cert.BandIdeal.nD Cert.BandIdeal.τ).loc Cert.BandIdeal.main_arg0) i))
    ∧ (∀ i, IsNum (m ((c.tc : Thread Cert.BandIdeal.nD Cert.BandIdeal.τ).loc Cert.BandIdeal.main_arg1) i))
    ∧ (∀ i, IsNum (m ((c.tc : Thread Cert.BandIdeal.nD Cert.BandIdeal.τ).loc Cert.BandIdeal.main_arg3) i)) :=
  ⟨fun i => num_of_lt _ (congrFun (hpre c).1 i), fun i => num_of_lt _ (congrFun (hpre c).2.1 i), fun i => num_of_lt _ (congrFun (hpre c).2.2 i)⟩

end Cert.BandFinite
-- ==== Proof.Proof.BandClaim.lean ====
module

public import proofs.«01_k».proof.Defs
public import proofs.«01_k».proof.Proof.Proof.BandValue
public import proofs.«01_k».proof.Proof.Proof.BandFinite
public import proofs.«01_k».proof.Proof.Gen.BandIdeal.Value

/-! The value claim of the band call: where queries, keys and position biases are numbers, the kernel and the reference
end with the same array. -/

@[expose] public section

set_option maxRecDepth 16384

noncomputable section

namespace Cert.BandClaim

open Idealize.ShloMosaic Idealize.SL.Sem

theorem algebraic : Cert.algebraic_BandIdeal_BandRefIdeal_pre_finite (hBandIdeal := Cert.BandIdeal.Gen.facts)
    (hBandRefIdeal := Cert.BandRefIdeal.Gen.facts) (hPre_finite := Cert.BandFinite.facts) := by
  pair_intro
  · run_from Cert.BandIdeal.Value.run_blocks m g
  · run_from Cert.BandRefIdeal.Value.run m' g'
    · obtain ⟨h0, h1, h2, h3⟩ := hagree c
      obtain ⟨hq, hk, hr⟩ := Cert.BandFinite.nums (hP := Cert.BandFinite.facts) m hpre c
      rw [Cert.BandValue.final14 m c hq hk hr, ← h0, ← h1, ← h2, ← h3]
      exact Cert.BandRefIdeal.Read.val_main_v106_eq (F := Ideal) (StableHlo.launchContents m' c)

end Cert.BandClaim
-- ==== Proof.Proof.ProjSpec.lean ====
module

public import Idealize.ShloMosaic.Lib.Pointwise
public import Idealize.ShloMosaic.PureOps.Ideal.Laws

/-! The projection call's mathematics, one token at a time, over the extended reals: the row functions that both the
kernel's blocks and the reference's arrays are shown equal to. -/

@[expose] public section

set_option maxRecDepth 16384

noncomputable section

namespace Cert.ProjSpec

open Idealize.ShloMosaic

/-- The small number added to every mean. -/
abbrev eps : EReal := Ideal.ofBits .f32 0x358637BD#32

/-- RMS normalisation of one row of 1024 features. -/
def rms (x g : Fin 1024 → EReal) : Fin 1024 → EReal := fun d =>
  x d * Ideal.rsqrt (Ideal.div (∑ k, x k * x k) (Ideal.ofBits .f32 0x44800000#32) + eps) * g d

/-- One column of the fused projection of a normalised row. -/
def seg (x g : Fin 1024 → EReal) (w : Fin 1024 → Fin 5416 → EReal) (j : Fin 5416) : EReal := ∑ k, rms x g k * w k j

/-- RMS normalisation of one head. -/
def headNorm (y g : Fin 64 → EReal) (d : Fin 64) : EReal :=
  y d * Ideal.rsqrt (Ideal.div (∑ k, y k * y k) (Ideal.ofBits .f32 0x42800000#32) + eps) * g d

/-- RMS normalisation of the indexer's key. -/
def keyNorm (y g : Fin 32 → EReal) (d : Fin 32) : EReal :=
  y d * Ideal.rsqrt (Ideal.div (∑ k, y k * y k) (Ideal.ofBits .f32 0x42000000#32) + eps) * g d

/-- Rotary position of one head, the two halves 32 apart. -/
def turn64 (y : Fin 64 → EReal) (co si : Fin 32 → EReal) (d : Fin 64) : EReal :=
  if h : d.val < 32 then y d * co ⟨d.val, by omega⟩ - y ⟨32 + d.val, by omega⟩ * si ⟨d.val, by omega⟩
  else y d * co ⟨d.val - 32, by omega⟩ + y ⟨d.val - 32, by omega⟩ * si ⟨d.val - 32, by omega⟩

/-- Rotary position of one indexer head, the two halves 16 apart. -/
def turn32 (y : Fin 32 → EReal) (co si : Fin 16 → EReal) (d : Fin 32) : EReal :=
  if h : d.val < 16 then y d * co ⟨d.val, by omega⟩ - y ⟨16 + d.val, by omega⟩ * si ⟨d.val, by omega⟩
  else y d * co ⟨d.val - 16, by omega⟩ + y ⟨d.val - 16, by omega⟩ * si ⟨d.val - 16, by omega⟩

theorem turn64_lo (y : Fin 64 → EReal) (co si : Fin 32 → EReal) (d : Fin 64) (h : d.val < 32) :
    turn64 y co si d = y d * co ⟨d.val, by omega⟩ - y ⟨32 + d.val, by omega⟩ * si ⟨d.val, by omega⟩ := dif_pos h

theorem turn64_hi (y : Fin 64 → EReal) (co si : Fin 32 → EReal) (d : Fin 64) (h : ¬ d.val < 32) :
    turn64 y co si d = y d * co ⟨d.val - 32, by omega⟩ + y ⟨d.val - 32, by omega⟩ * si ⟨d.val - 32, by omega⟩ := dif_neg h

theorem turn32_lo (y : Fin 32 → EReal) (co si : Fin 16 → EReal) (d : Fin 32) (h : d.val < 16) :
    turn32 y co si d = y d * co ⟨d.val, by omega⟩ - y ⟨16 + d.val, by omega⟩ * si ⟨d.val, by omega⟩ := dif_pos h

theorem turn32_hi (y : Fin 32 → EReal) (co si : Fin 16 → EReal) (d : Fin 32) (h : ¬ d.val < 16) :
    turn32 y co si d = y d * co ⟨d.val - 16, by omega⟩ + y ⟨d.val - 16, by omega⟩ * si ⟨d.val - 16, by omega⟩ := dif_neg h

/-- The angle of lane e at place n, for heads of 64. -/
def ang64 (n : Fin 2048) (e : Fin 32) : EReal :=
  FloatOps.sitofp (F := Ideal) .f32 (BitVec.ofNat 32 n.val) * Ideal.pow (Ideal.ofBits .f32 0x461C4000#32)
    (Ideal.div (-(FloatOps.sitofp (F := Ideal) .f32 (BitVec.ofNat 32 e.val))) (Ideal.ofBits .f32 0x42000000#32))

/-- The angle of lane e at place n, for heads of 32. -/
def ang32 (n : Fin 2048) (e : Fin 16) : EReal :=
  FloatOps.sitofp (F := Ideal) .f32 (BitVec.ofNat 32 n.val) * Ideal.pow (Ideal.ofBits .f32 0x461C4000#32)
    (Ideal.div (-(FloatOps.sitofp (F := Ideal) .f32 (BitVec.ofNat 32 e.val))) (Ideal.ofBits .f32 0x41800000#32))

/-- The cosines and sines of a place. -/
def cos64 (n : Fin 2048) (e : Fin 32) : EReal := Ideal.cos (ang64 n e)
def sin64 (n : Fin 2048) (e : Fin 32) : EReal := Ideal.sin (ang64 n e)
def cos32 (n : Fin 2048) (e : Fin 16) : EReal := Ideal.cos (ang32 n e)
def sin32 (n : Fin 2048) (e : Fin 16) : EReal := Ideal.sin (ang32 n e)

/-- A sum times a number that is not negative. -/
theorem sum_mul_num {n : ℕ} (f : Fin n → EReal) (e : ℝ) (he : 0 ≤ e) : (∑ i, f i) * (e : EReal) = ∑ i, f i * (e : EReal) := by
  induction n with
  | zero => simp
  | succ n ih =>
    rw [Fin.sum_univ_succ, Fin.sum_univ_succ, EReal.right_distrib_of_nonneg_of_ne_top (by exact_mod_cast he) (EReal.coe_ne_top e), ih]

end Cert.ProjSpec
-- ==== Proof.Proof.ProjKernel.lean ====
module

public import proofs.«01_k».proof.Proof.Proof.ProjSpec
public import proofs.«01_k».proof.Proof.Gen.ProjIdeal.Skeleton

/-! What the projection kernel's body computes on one row tile, read at an index: the row functions of the specification. -/

@[expose] public section

set_option maxRecDepth 16384

noncomputable section
namespace Cert.ProjKernel

open Idealize.ShloMosaic Cert.ProjIdeal Cert.ProjIdeal.Gen Cert.ProjSpec

/-- A sixty-fourth, the kernel's averaging weight. -/
def frac64 : EReal := (((1 : ℝ) / 64 : ℝ) : EReal)

theorem mean64 (x : EReal) : Ideal.div x (Ideal.ofBits .f32 0x42800000#32) = x * frac64 := by
  rw [show Ideal.ofBits .f32 0x42800000#32 = ((64 : ℝ) : EReal) from by simp [Ideal.ofBits, Ideal.ieee, -EReal.coe_mul]; norm_num]
  exact Ideal.div_coe (show (64 : ℝ) ≠ 0 by norm_num) x

theorem mean32 (x : EReal) : Ideal.div x (Ideal.ofBits .f32 0x42000000#32) = x * Ideal.ofBits .f32 0x3D000000#32 := by
  rw [show Ideal.ofBits .f32 0x42000000#32 = ((32 : ℝ) : EReal) from by simp [Ideal.ofBits, Ideal.ieee, -EReal.coe_mul]; norm_num,
    show Ideal.ofBits .f32 0x3D000000#32 = ((1 / 32 : ℝ) : EReal) from by simp [Ideal.ofBits, Ideal.ieee, -EReal.coe_mul]; norm_num]
  exact Ideal.div_coe (show (32 : ℝ) ≠ 0 by norm_num) x

/-- The block-diagonal averaging matrix gives every lane its own head's mean. -/
theorem means (f : Fin 512 → EReal) (hd : Fin 512 → Fin 512 → EReal)
    (hhd : ∀ k c : Fin 512, hd k c = if k.val / 64 = c.val / 64 then frac64 else 0) (c : Fin 512) :
    (∑ k, f k * hd k c) = Ideal.div (∑ e : Fin 64, f ⟨c.val / 64 * 64 + e.val, by omega⟩) (Ideal.ofBits .f32 0x42800000#32) := by
  rw [mean64, frac64, sum_mul_num _ _ (by norm_num), Fin.sum_univ_tiles 8 64 (by norm_num)]
  rw [Finset.sum_eq_single (⟨c.val / 64, by omega⟩ : Fin 8)]
  · refine Finset.sum_congr rfl fun e _ => ?_
    rw [hhd, if_pos (by show (c.val / 64 * 64 + e.val) / 64 = c.val / 64; omega), frac64]
  · intro a _ ha
    refine Finset.sum_eq_zero fun e _ => ?_
    rw [hhd, if_neg (fun h => ha (Fin.ext (by have h' : (a.val * 64 + e.val) / 64 = c.val / 64 := h; show a.val = c.val / 64; omega))), mul_zero]
  · exact fun h => absurd (Finset.mem_univ _) h

/-- One lane of the normalised heads. -/
theorem head_of (Y g : Fin 512 → EReal) (hd : Fin 512 → Fin 512 → EReal) (q : Fin 64 → EReal)
    (hhd : ∀ k c : Fin 512, hd k c = if k.val / 64 = c.val / 64 then frac64 else 0)
    (hg : ∀ c : Fin 512, g c = q ⟨c.val % 64, by omega⟩) (c : Fin 512) :
    Y c * Ideal.rsqrt ((∑ k, Y k * Y k * hd k c) + eps) * g c
      = headNorm (fun e => Y ⟨c.val / 64 * 64 + e.val, by omega⟩) q ⟨c.val % 64, by omega⟩ := by
  rw [means (fun k => Y k * Y k) hd hhd c, hg c]
  refine congrArg (fun i => Y i * _ * _) (Fin.ext ?_)
  show c.val = c.val / 64 * 64 + c.val % 64
  omega

/-- A lane's partner, 32 lanes on or back. -/
def partner (y : Fin 512 → EReal) (j : Fin 512) : EReal :=
  if h : j.val % 64 < 32 then y ⟨j.val + 32, by omega⟩ else y ⟨j.val - 32, by omega⟩

/-- An indexer lane's partner, 16 lanes on or back. -/
def partner16 (y : Fin 384 → EReal) (j : Fin 384) : EReal :=
  if h : j.val % 32 < 16 then y ⟨j.val + 16, by omega⟩ else y ⟨j.val - 16, by omega⟩

/-- A row of turned heads. -/
theorem turned (Z co si : Fin 512 → EReal) (F : Fin 8 → Fin 64 → EReal) (c s : Fin 32 → EReal)
    (hz : ∀ j : Fin 512, Z j = F ⟨j.val / 64, by omega⟩ ⟨j.val % 64, by omega⟩)
    (hc : ∀ j : Fin 512, co j = if h : j.val % 64 < 32 then c ⟨j.val % 64, by omega⟩ else c ⟨j.val % 64 - 32, by omega⟩)
    (hs : ∀ j : Fin 512, si j = if h : j.val % 64 < 32 then -s ⟨j.val % 64, by omega⟩ else s ⟨j.val % 64 - 32, by omega⟩) (j : Fin 512) :
    Z j * co j + partner Z j * si j = turn64 (F ⟨j.val / 64, by omega⟩) c s ⟨j.val % 64, by omega⟩ := by
  unfold partner
  by_cases h : j.val % 64 < 32
  · rw [dif_pos h, hc, hs, dif_pos h, dif_pos h, turn64_lo _ _ _ _ h, mul_neg, ← sub_eq_add_neg, hz, hz]
    refine congrArg (fun v => _ - v * _) (congrArg₂ F (Fin.ext ?_) (Fin.ext ?_))
    · show (j.val + 32) / 64 = j.val / 64
      omega
    · show (j.val + 32) % 64 = 32 + j.val % 64
      omega
  · rw [dif_neg h, hc, hs, dif_neg h, dif_neg h, turn64_hi _ _ _ _ h, hz, hz]
    refine congrArg (fun v => _ + v * _) (congrArg₂ F (Fin.ext ?_) (Fin.ext ?_))
    · show (j.val - 32) / 64 = j.val / 64
      omega
    · show (j.val - 32) % 64 = j.val % 64 - 32
      omega

/-- A row of turned indexer heads. -/
theorem turned16 (Z co si : Fin 384 → EReal) (F : Fin 12 → Fin 32 → EReal) (c s : Fin 16 → EReal) (n : ℕ)
    (hz : ∀ j : Fin 384, j.val / 32 = n → Z j = F ⟨j.val / 32, by omega⟩ ⟨j.val % 32, by omega⟩)
    (hc : ∀ j : Fin 384, j.val / 32 = n → co j = if h : j.val % 32 < 16 then c ⟨j.val % 32, by omega⟩ else c ⟨j.val % 32 - 16, by omega⟩)
    (hs : ∀ j : Fin 384, j.val / 32 = n → si j = if h : j.val % 32 < 16 then -s ⟨j.val % 32, by omega⟩ else s ⟨j.val % 32 - 16, by omega⟩)
    (j : Fin 384) (hj : j.val / 32 = n) :
    Z j * co j + partner16 Z j * si j = turn32 (F ⟨j.val / 32, by omega⟩) c s ⟨j.val % 32, by omega⟩ := by
  unfold partner16
  by_cases h : j.val % 32 < 16
  · rw [dif_pos h, hc j hj, hs j hj, dif_pos h, dif_pos h, turn32_lo _ _ _ _ h, mul_neg, ← sub_eq_add_neg, hz j hj,
      hz ⟨j.val + 16, by omega⟩ (by show (j.val + 16) / 32 = n; omega)]
    refine congrArg (fun v => _ - v * _) (congrArg₂ F (Fin.ext ?_) (Fin.ext ?_))
    · show (j.val + 16) / 32 = j.val / 32
      omega
    · show (j.val + 16) % 32 = 16 + j.val % 32
      omega
  · rw [dif_neg h, hc j hj, hs j hj, dif_neg h, dif_neg h, turn32_hi _ _ _ _ h, hz j hj,
      hz ⟨j.val - 16, by omega⟩ (by show (j.val - 16) / 32 = n; omega)]
    refine congrArg (fun v => _ + v * _) (congrArg₂ F (Fin.ext ?_) (Fin.ext ?_))
    · show (j.val - 16) / 32 = j.val / 32
      omega
    · show (j.val - 16) % 32 = j.val % 32 - 16
      omega

theorem pick (w : BitVec 1) (p : Prop) [Decidable p] (a b : EReal) (hw : w = if p then 1#1 else 0#1) : Scalar.select w a b = if p then a else b := by
  subst hw
  by_cases hp : p
  · rw [if_pos hp, if_pos hp]; rfl
  · rw [if_neg hp, if_neg hp]; rfl

/-- The lane numbers of one register row. -/
abbrev lanes : IVec S1x128 32 := iota .tc S1x128 32 [1] iota_S1x128_d1_w32

/-- Lanes of the first half of their head. -/
theorem mask11_at (e : Fin 128) : k0_pay11 lanes 64#32 (ix2 0 e) = if e.val % 64 < 32 then 1#1 else 0#1 := by
  pointwise [k0_pay11]
  revert e
  decide +kernel

theorem mask19_at (e : Fin 128) : k0_pay19 lanes (Scalar.select (Scalar.cmpi .eq 64#32 0#32) 1#32 64#32) (ix2 0 e) = if e.val % 64 < 32 then 1#1 else 0#1 := by
  pointwise [k0_pay19]
  revert e
  decide +kernel

theorem mask39_at (e : Fin 128) : k0_pay39 (ix2 0 e) = if e.val % 32 < 16 then 1#1 else 0#1 := by
  pointwise [k0_pay39]
  revert e
  decide +kernel

theorem mask35_at (e : Fin 128) : k0_pay35 (ix2 0 e) = if e.val < 32 then 1#1 else 0#1 := by
  pointwise [k0_pay35]
  revert e
  decide +kernel

/-- The normalised tile. -/
theorem norm_at (x0 : FVec Ideal S512x1024 .f32) (x1 : FVec Ideal S1x1024 .f32) (r : Fin 512) (d : Fin 1024) :
    k0_pay7 (F := Ideal) x0 x1 (ix2 r d) = rms (fun k => x0 (ix2 r k)) (fun k => x1 (ix2 0 k)) d := by
  pointwise [k0_pay7, rms]

/-- One lane of one register row, turned by the kernel's rotations. -/
theorem chunk_of (y c s : Fin 512 → EReal) (j a p q : Fin 512) (n : ℕ) (ha : a.val = j.val) (hn : n % 64 = j.val % 64)
    (hp : j.val % 64 < 32 → p.val = j.val + 32) (hq : ¬ j.val % 64 < 32 → q.val = j.val - 32) :
    y a * c a + Scalar.select (if n % 64 < 32 then 1#1 else 0#1) (y p) (y q) * s a = y j * c j + partner y j * s j := by
  rw [Fin.ext ha, pick _ (n % 64 < 32) _ _ rfl, hn]
  unfold partner
  by_cases h : j.val % 64 < 32
  · rw [if_pos h, dif_pos h]
    exact congrArg (fun v => _ + y v * _) (Fin.ext (hp h))
  · rw [if_neg h, dif_neg h]
    exact congrArg (fun v => _ + y v * _) (Fin.ext (hq h))

theorem chunk16_of (y c s : Fin 384 → EReal) (j a p q : Fin 384) (n : ℕ) (ha : a.val = j.val) (hn : n % 32 = j.val % 32)
    (hp : j.val % 32 < 16 → p.val = j.val + 16) (hq : ¬ j.val % 32 < 16 → q.val = j.val - 16) :
    y a * c a + Scalar.select (if n % 32 < 16 then 1#1 else 0#1) (y p) (y q) * s a = y j * c j + partner16 y j * s j := by
  rw [Fin.ext ha, pick _ (n % 32 < 16) _ _ rfl, hn]
  unfold partner16
  by_cases h : j.val % 32 < 16
  · rw [if_pos h, dif_pos h]
    exact congrArg (fun v => _ + y v * _) (Fin.ext (hp h))
  · rw [if_neg h, dif_neg h]
    exact congrArg (fun v => _ + y v * _) (Fin.ext (hq h))

/-- The turned heads of the keys. -/
theorem keys_at (x6 x7 y : FVec Ideal S512x512 .f32) (r j : Fin 512) :
    k0_pay24 (F := Ideal) x6 x7 (k0_pay19 lanes (Scalar.select (Scalar.cmpi .eq 64#32 0#32) 1#32 64#32))
      (k0_pay20 x6 x7 y lanes (Scalar.select (Scalar.cmpi .eq 64#32 0#32) 1#32 64#32))
      (k0_pay21 x6 x7 y lanes (Scalar.select (Scalar.cmpi .eq 64#32 0#32) 1#32 64#32))
      (k0_pay22 x6 x7 y lanes (Scalar.select (Scalar.cmpi .eq 64#32 0#32) 1#32 64#32)) (k0_pay23 y) (ix2 r j)
      = y (ix2 r j) * x6 (ix2 r j) + partner (fun j => y (ix2 r j)) j * x7 (ix2 r j) := by
  pointwise [k0_pay24, k0_pay20, k0_pay21, k0_pay22, k0_pay23, mask19_at]
  by_cases c0 : j.val < 128
  · rw [dif_pos (by omega)]
    exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))
  by_cases c1 : j.val < 256
  · rw [dif_neg (by omega), dif_pos (by omega)]
    exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))
  by_cases c2 : j.val < 384
  · rw [dif_neg (by omega), dif_neg (by omega), dif_pos (by omega)]
    exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))
  rw [dif_neg (by omega), dif_neg (by omega), dif_neg (by omega)]
  exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))

/-- The turned heads of the queries, scaled, lanes by tokens. -/
theorem queries_at (x6 x7 y : FVec Ideal S512x512 .f32) (r j : Fin 512) :
    k0_pay17 (F := Ideal) x6 x7 y (k0_pay11 lanes 64#32) (k0_pay12 x6 x7 y lanes 64#32) (k0_pay13 x6 x7 y lanes 64#32)
      (k0_pay15 y lanes 64#32) (k0_pay16 x6 y) (ix3 0 j r)
      = (y (ix2 r j) * x6 (ix2 r j) + partner (fun j => y (ix2 r j)) j * x7 (ix2 r j)) * Ideal.ofBits .f32 0x3E000000#32 := by
  pointwise [k0_pay17, k0_pay12, k0_pay13, k0_pay14, k0_pay15, k0_pay16, mask11_at]
  refine congrArg (· * Ideal.ofBits .f32 0x3E000000#32) ?_
  by_cases c0 : j.val < 128
  · rw [dif_pos (by omega)]
    exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))
  by_cases c1 : j.val < 256
  · rw [dif_neg (by omega), dif_pos (by omega)]
    exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))
  by_cases c2 : j.val < 384
  · rw [dif_neg (by omega), dif_neg (by omega), dif_pos (by omega)]
    exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))
  rw [dif_neg (by omega), dif_neg (by omega), dif_neg (by omega)]
  exact chunk_of (fun j => y (ix2 r j)) (fun j => x6 (ix2 r j)) (fun j => x7 (ix2 r j)) j _ _ _ _ (by first | rfl | (dsimp only; omega)) (by omega) (by first | rfl | (dsimp only; omega)) (by first | rfl | (dsimp only; omega))

/-- The indexer's lanes, the queries as they are, the key normalised, the weights scaled. -/
def idxLanes (Y : Fin 384 → EReal) (g : Fin 128 → EReal) (j : Fin 384) : EReal :=
  if h : j.val < 256 then Y j
  else if h' : j.val < 288 then keyNorm (fun e => Y ⟨256 + e.val, by omega⟩) (fun e => g ⟨e.val, by omega⟩) ⟨j.val - 256, by omega⟩
  else Y j * g ⟨j.val - 256, by omega⟩

theorem idx_at (h : FVec Ideal S512x1024 .bf16) (w : FVec Ideal S1024x384 .bf16) (g : FVec Ideal S1x128 .f32) (r : Fin 512) (j : Fin 384) :
    k0_pay36 (F := Ideal) h w g (ix2 r j) = idxLanes (fun j => ∑ x, h (ix2 r x) * w (ix2 x j)) (fun e => g (ix2 0 e)) j := by
  pointwise [k0_pay36, mask35_at]
  unfold idxLanes
  by_cases h0 : j.val < 256
  · rw [dif_pos h0, dif_pos h0]
  rw [dif_neg h0, dif_neg h0]
  by_cases h1 : j.val < 288
  · rw [dif_pos h1]
    refine Eq.trans (congrArg (fun v => (∑ x, h (ix2 r x) * w (ix2 x ⟨256 + (j.val - 256), by omega⟩)) * v * g (ix2 0 ⟨j.val - 256, by omega⟩))
      ((pick _ (j.val - 256 < 32) _ _ rfl).trans (if_pos (show j.val - 256 < 32 by omega)))) ?_
    rw [keyNorm, mean32]
    simp only [Finset.sum_const_zero, add_zero]
  · rw [dif_neg h1]
    refine Eq.trans (congrArg (fun v => (∑ x, h (ix2 r x) * w (ix2 x ⟨256 + (j.val - 256), by omega⟩)) * v * g (ix2 0 ⟨j.val - 256, by omega⟩))
      ((pick _ (j.val - 256 < 32) _ _ rfl).trans (if_neg (show ¬ j.val - 256 < 32 by omega)))) ?_
    rw [mul_one]
    refine congrArg (fun v => (∑ x, h (ix2 r x) * w (ix2 x v)) * _) (Fin.ext ?_)
    show 256 + (j.val - 256) = j.val
    omega

theorem idxrow_at (Z x8 x9 : FVec Ideal S512x384 .f32) (r : Fin 512) (j : Fin 384) :
    k0_pay1 (F := Ideal) (k0_pay37 x8) (k0_pay38 x9) k0_pay39 (k0_pay40 Z x8 x9) (k0_pay41 Z x8 x9) (k0_pay42 Z) (ix2 r j)
      = Z (ix2 r j) * x8 (ix2 r j) + partner16 (fun j => Z (ix2 r j)) j * x9 (ix2 r j) := by
  pointwise [k0_pay1, k0_pay37, k0_pay38, k0_pay40, k0_pay41, k0_pay42, mask39_at]
  by_cases c0 : j.val < 128
  · rw [dif_pos (by omega)]
    exact chunk16_of (fun j => Z (ix2 r j)) (fun j => x8 (ix2 r j)) (fun j => x9 (ix2 r j)) j _ _ _ _ (by first | rfl | (dsimp only; omega)) (by omega) (by first | rfl | (dsimp only; omega)) (by first | rfl | (dsimp only; omega))
  by_cases c1 : j.val < 256
  · rw [dif_neg (by omega), dif_pos (by omega)]
    exact chunk16_of (fun j => Z (ix2 r j)) (fun j => x8 (ix2 r j)) (fun j => x9 (ix2 r j)) j _ _ _ _ (by first | rfl | (dsimp only; omega)) (by omega) (by first | rfl | (dsimp only; omega)) (by first | rfl | (dsimp only; omega))
  rw [dif_neg (by omega), dif_neg (by omega)]
  exact chunk16_of (fun j => Z (ix2 r j)) (fun j => x8 (ix2 r j)) (fun j => x9 (ix2 r j)) j _ _ _ _ (by first | rfl | (dsimp only; omega)) (by omega) (by first | rfl | (dsimp only; omega)) (by first | rfl | (dsimp only; omega))

theorem head10 (x0 : FVec Ideal S512x1024 .f32) (x1 : FVec Ideal S1x1024 .f32) (w : FVec Ideal S1024x512 .bf16) (hd : FVec Ideal S512x512 .bf16) (g : FVec Ideal S1x512 .f32) (q : Fin 64 → EReal)
    (hhd : ∀ k c : Fin 512, hd (ix2 k c) = if k.val / 64 = c.val / 64 then frac64 else 0)
    (hg : ∀ c : Fin 512, g (ix2 0 c) = q ⟨c.val % 64, by omega⟩) (r c : Fin 512) :
    k0_pay10 (F := Ideal) x0 x1 w hd g (ix2 r c) = headNorm (fun e => ∑ x, k0_pay7 (F := Ideal) x0 x1 (ix2 r x) * w (ix2 x ⟨c.val / 64 * 64 + e.val, by omega⟩)) q ⟨c.val % 64, by omega⟩ := by
  pointwise [k0_pay10]
  exact head_of (fun j => ∑ x, k0_pay7 (F := Ideal) x0 x1 (ix2 r x) * w (ix2 x j)) (fun c => g (ix2 0 c)) (fun k c => hd (ix2 k c)) q hhd hg c

theorem head18 (h : FVec Ideal S512x1024 .bf16) (w : FVec Ideal S1024x512 .bf16) (hd : FVec Ideal S512x512 .bf16) (g : FVec Ideal S1x512 .f32) (q : Fin 64 → EReal)
    (hhd : ∀ k c : Fin 512, hd (ix2 k c) = if k.val / 64 = c.val / 64 then frac64 else 0)
    (hg : ∀ c : Fin 512, g (ix2 0 c) = q ⟨c.val % 64, by omega⟩) (r c : Fin 512) :
    k0_pay18 (F := Ideal) h w hd g (ix2 r c) = headNorm (fun e => ∑ x, h (ix2 r x) * w (ix2 x ⟨c.val / 64 * 64 + e.val, by omega⟩)) q ⟨c.val % 64, by omega⟩ := by
  pointwise [k0_pay18]
  exact head_of (fun j => ∑ x, h (ix2 r x) * w (ix2 x j)) (fun c => g (ix2 0 c)) (fun k c => hd (ix2 k c)) q hhd hg c

theorem head30 (h : FVec Ideal S512x1024 .bf16) (w : FVec Ideal S1024x512 .bf16) (hd : FVec Ideal S512x512 .bf16) (g : FVec Ideal S1x512 .f32) (q : Fin 64 → EReal)
    (hhd : ∀ k c : Fin 512, hd (ix2 k c) = if k.val / 64 = c.val / 64 then frac64 else 0)
    (hg : ∀ c : Fin 512, g (ix2 0 c) = q ⟨c.val % 64, by omega⟩) (r c : Fin 512) :
    k0_pay30 (F := Ideal) (k0_pay29 h w) hd g (ix2 r c) = headNorm (fun e => ∑ x, h (ix2 r x) * w (ix2 x ⟨c.val / 64 * 64 + e.val, by omega⟩)) q ⟨c.val % 64, by omega⟩ * Ideal.ofBits .f32 0x3E000000#32 := by
  pointwise [k0_pay30, k0_pay29]
  refine congrArg (· * Ideal.ofBits .f32 0x3E000000#32) ?_
  exact head_of (fun j => ∑ x, h (ix2 r x) * w (ix2 x j)) (fun c => g (ix2 0 c)) (fun k c => hd (ix2 k c)) q hhd hg c

theorem head31 (h : FVec Ideal S512x1024 .bf16) (w : FVec Ideal S1024x512 .bf16) (hd : FVec Ideal S512x512 .bf16) (g : FVec Ideal S1x512 .f32) (q : Fin 64 → EReal)
    (hhd : ∀ k c : Fin 512, hd (ix2 k c) = if k.val / 64 = c.val / 64 then frac64 else 0)
    (hg : ∀ c : Fin 512, g (ix2 0 c) = q ⟨c.val % 64, by omega⟩) (r c : Fin 512) :
    k0_pay31 (F := Ideal) h w hd g (ix2 r c) = headNorm (fun e => ∑ x, h (ix2 r x) * w (ix2 x ⟨c.val / 64 * 64 + e.val, by omega⟩)) q ⟨c.val % 64, by omega⟩ := by
  pointwise [k0_pay31]
  exact head_of (fun j => ∑ x, h (ix2 r x) * w (ix2 x j)) (fun c => g (ix2 0 c)) (fun k c => hd (ix2 k c)) q hhd hg c

theorem head32 (h : FVec Ideal S512x1024 .bf16) (w : FVec Ideal S1024x512 .bf16) (hd : FVec Ideal S512x512 .bf16) (g : FVec Ideal S1x512 .f32) (q : Fin 64 → EReal)
    (hhd : ∀ k c : Fin 512, hd (ix2 k c) = if k.val / 64 = c.val / 64 then frac64 else 0)
    (hg : ∀ c : Fin 512, g (ix2 0 c) = q ⟨c.val % 64, by omega⟩) (r c : Fin 512) :
    k0_pay32 (F := Ideal) h w hd g (ix2 r c) = headNorm (fun e => ∑ x, h (ix2 r x) * w (ix2 x ⟨c.val / 64 * 64 + e.val, by omega⟩)) q ⟨c.val % 64, by omega⟩ := by
  pointwise [k0_pay32, k0_pay31]
  exact head_of (fun j => ∑ x, h (ix2 r x) * w (ix2 x j)) (fun c => g (ix2 0 c)) (fun k c => hd (ix2 k c)) q hhd hg c

end Cert.ProjKernel
-- ==== Proof.Proof.ProjLanes.lean ====
module

public import proofs.«01_k».proof.Proof.Proof.ProjKernel

/-! The projection kernel's remaining stores on one row tile, read at an index: the indexer's lanes, the values and the
plain products. -/

@[expose] public section

set_option maxRecDepth 16384

noncomputable section
namespace Cert.ProjKernel

open Idealize.ShloMosaic Cert.ProjIdeal Cert.ProjIdeal.Gen Cert.ProjSpec

/-- One turned lane of the indexer's row. -/
def idxOut (Y : Fin 384 → EReal) (g : Fin 128 → EReal) (co si : Fin 384 → EReal) (j : Fin 384) : EReal :=
  idxLanes Y g j * co j + partner16 (idxLanes Y g) j * si j

/-- The indexer's query lanes are turned heads. -/
theorem idxOut_query (Y : Fin 384 → EReal) (g : Fin 128 → EReal) (co si : Fin 384 → EReal) (c s : Fin 16 → EReal)
  (hc : ∀ j : Fin 384, co j = if h : j.val < 288 then if h : j.val % 32 < 16 then c ⟨j.val % 32, by omega⟩ else c ⟨j.val % 32 - 16, by omega⟩ else 1)
  (hs : ∀ j : Fin 384, si j = if h : j.val < 288 then if h : j.val % 32 < 16 then -s ⟨j.val % 32, by omega⟩ else s ⟨j.val % 32 - 16, by omega⟩ else 0) (j : Fin 256) :
    idxOut Y g co si ⟨j.val, by omega⟩ = turn32 (fun e => Y ⟨j.val / 32 * 32 + e.val, by omega⟩) c s ⟨j.val % 32, by omega⟩ := by
  refine turned16 (idxLanes Y g) co si (fun h e => Y ⟨h.val * 32 + e.val, by omega⟩) c s (j.val / 32) ?_ ?_ ?_ ⟨j.val, by omega⟩ rfl
  · intro i hi
    unfold idxLanes
    rw [dif_pos (by omega)]
    refine congrArg Y (Fin.ext ?_)
    show i.val = i.val / 32 * 32 + i.val % 32
    omega
  · intro i hi
    rw [hc i, dif_pos (by omega)]
  · intro i hi
    rw [hs i, dif_pos (by omega)]

/-- The indexer's key lanes are one turned, normalised head. -/
theorem idxOut_key (Y : Fin 384 → EReal) (g : Fin 128 → EReal) (co si : Fin 384 → EReal) (c s : Fin 16 → EReal)
  (hc : ∀ j : Fin 384, co j = if h : j.val < 288 then if h : j.val % 32 < 16 then c ⟨j.val % 32, by omega⟩ else c ⟨j.val % 32 - 16, by omega⟩ else 1)
  (hs : ∀ j : Fin 384, si j = if h : j.val < 288 then if h : j.val % 32 < 16 then -s ⟨j.val % 32, by omega⟩ else s ⟨j.val % 32 - 16, by omega⟩ else 0) (j : Fin 32) :
    idxOut Y g co si ⟨256 + j.val, by omega⟩
      = turn32 (keyNorm (fun e => Y ⟨256 + e.val, by omega⟩) (fun e => g ⟨e.val, by omega⟩)) c s j := by
  refine (turned16 (idxLanes Y g) co si (fun _ => keyNorm (fun e => Y ⟨256 + e.val, by omega⟩) (fun e => g ⟨e.val, by omega⟩)) c s 8
    ?_ ?_ ?_ ⟨256 + j.val, by omega⟩ (by show (256 + j.val) / 32 = 8; omega)).trans ?_
  · intro i hi
    unfold idxLanes
    rw [dif_neg (by omega), dif_pos (by omega)]
    refine congrArg _ (Fin.ext ?_)
    show i.val - 256 = i.val % 32
    omega
  · intro i hi
    rw [hc i, dif_pos (by omega)]
  · intro i hi
    rw [hs i, dif_pos (by omega)]
  · refine congrArg _ (Fin.ext ?_)
    show (256 + j.val) % 32 = j.val
    omega

/-- The indexer's weight lanes are only scaled. -/
theorem idxOut_weight (Y : Fin 384 → EReal) (g : Fin 128 → EReal) (co si : Fin 384 → EReal) (c s : Fin 16 → EReal)
  (hc : ∀ j : Fin 384, co j = if h : j.val < 288 then if h : j.val % 32 < 16 then c ⟨j.val % 32, by omega⟩ else c ⟨j.val % 32 - 16, by omega⟩ else 1)
  (hs : ∀ j : Fin 384, si j = if h : j.val < 288 then if h : j.val % 32 < 16 then -s ⟨j.val % 32, by omega⟩ else s ⟨j.val % 32 - 16, by omega⟩ else 0) (j : Fin 8) :
    idxOut Y g co si ⟨288 + j.val, by omega⟩ = Y ⟨288 + j.val, by omega⟩ * g ⟨32 + j.val, by omega⟩ := by
  unfold idxOut
  rw [hc, hs, dif_neg (by show ¬ 288 + j.val < 288; omega), dif_neg (by show ¬ 288 + j.val < 288; omega), mul_one, mul_zero, add_zero]
  unfold idxLanes
  rw [dif_neg (by show ¬ 288 + j.val < 256; omega), dif_neg (by show ¬ 288 + j.val < 288; omega)]
  refine congrArg (fun v => _ * g v) (Fin.ext ?_)
  show 288 + j.val - 256 = 32 + j.val
  omega

theorem store2_at (Z x8 x9 : FVec Ideal S512x384 .f32) (r : Fin 512) (j : Fin 256) :
    k0_pay2 (F := Ideal) (k0_pay37 x8) (k0_pay38 x9) k0_pay39 (k0_pay40 Z x8 x9) (k0_pay41 Z x8 x9) (k0_pay42 Z) (ix3 0 j r)
      = Z (ix2 r ⟨j.val, by omega⟩) * x8 (ix2 r ⟨j.val, by omega⟩) + partner16 (fun j => Z (ix2 r j)) ⟨j.val, by omega⟩ * x9 (ix2 r ⟨j.val, by omega⟩) := by
  refine Eq.trans ?_ (idxrow_at Z x8 x9 r ⟨j.val, by omega⟩)
  unfold k0_pay2
  generalize k0_pay1 (F := Ideal) (k0_pay37 x8) (k0_pay38 x9) k0_pay39 (k0_pay40 Z x8 x9) (k0_pay41 Z x8 x9) (k0_pay42 Z) = H
  pointwise []

theorem store4_at (Z x8 x9 : FVec Ideal S512x384 .f32) (r : Fin 512) (j : Fin 32) :
    k0_pay4 (F := Ideal) (k0_pay37 x8) (k0_pay38 x9) k0_pay39 (k0_pay40 Z x8 x9) (k0_pay41 Z x8 x9) (k0_pay42 Z) (ix2 r j)
      = Z (ix2 r ⟨256 + j.val, by omega⟩) * x8 (ix2 r ⟨256 + j.val, by omega⟩) + partner16 (fun j => Z (ix2 r j)) ⟨256 + j.val, by omega⟩ * x9 (ix2 r ⟨256 + j.val, by omega⟩) := by
  refine Eq.trans ?_ (idxrow_at Z x8 x9 r ⟨256 + j.val, by omega⟩)
  unfold k0_pay4 k0_pay3
  generalize k0_pay1 (F := Ideal) (k0_pay37 x8) (k0_pay38 x9) k0_pay39 (k0_pay40 Z x8 x9) (k0_pay41 Z x8 x9) (k0_pay42 Z) = H
  pointwise []

theorem store5_at (Z x8 x9 : FVec Ideal S512x384 .f32) (r : Fin 512) (j : Fin 128) :
    k0_pay5 (F := Ideal) k0_pay35 (k0_pay37 x8) (k0_pay38 x9) k0_pay39 (k0_pay40 Z x8 x9) (k0_pay41 Z x8 x9) (k0_pay42 Z) (ix2 r j)
      = if j.val < 32 then Z (ix2 r ⟨256 + j.val, by omega⟩) * x8 (ix2 r ⟨256 + j.val, by omega⟩) + partner16 (fun j => Z (ix2 r j)) ⟨256 + j.val, by omega⟩ * x9 (ix2 r ⟨256 + j.val, by omega⟩) else 0 := by
  rw [← idxrow_at Z x8 x9 r ⟨256 + j.val, by omega⟩]
  unfold k0_pay5 k0_pay3
  generalize k0_pay1 (F := Ideal) (k0_pay37 x8) (k0_pay38 x9) k0_pay39 (k0_pay40 Z x8 x9) (k0_pay41 Z x8 x9) (k0_pay42 Z) = H
  pointwise [mask35_at]
  exact pick _ (j.val < 32) _ _ rfl

theorem store6_at (Z x8 x9 : FVec Ideal S512x384 .f32) (r : Fin 512) (j : Fin 8) :
    k0_pay6 (F := Ideal) (k0_pay37 x8) (k0_pay38 x9) k0_pay39 (k0_pay40 Z x8 x9) (k0_pay41 Z x8 x9) (k0_pay42 Z) (ix3 0 j r)
      = Z (ix2 r ⟨288 + j.val, by omega⟩) * x8 (ix2 r ⟨288 + j.val, by omega⟩) + partner16 (fun j => Z (ix2 r j)) ⟨288 + j.val, by omega⟩ * x9 (ix2 r ⟨288 + j.val, by omega⟩) := by
  refine Eq.trans ?_ (idxrow_at Z x8 x9 r ⟨288 + j.val, by omega⟩)
  unfold k0_pay6 k0_pay3
  generalize k0_pay1 (F := Ideal) (k0_pay37 x8) (k0_pay38 x9) k0_pay39 (k0_pay40 Z x8 x9) (k0_pay41 Z x8 x9) (k0_pay42 Z) = H
  pointwise []
  exact congrArg (fun i => H (ix2 r i)) (Fin.ext (by show 256 + (32 + j.val) = 288 + j.val; omega))

theorem keys16_at (x6 x7 y : FVec Ideal S512x512 .f32) (r j : Fin 512) :
    k0_pay25 (F := Ideal) x6 x7 (k0_pay19 lanes (Scalar.select (Scalar.cmpi .eq 64#32 0#32) 1#32 64#32))
      (k0_pay20 x6 x7 y lanes (Scalar.select (Scalar.cmpi .eq 64#32 0#32) 1#32 64#32))
      (k0_pay21 x6 x7 y lanes (Scalar.select (Scalar.cmpi .eq 64#32 0#32) 1#32 64#32))
      (k0_pay22 x6 x7 y lanes (Scalar.select (Scalar.cmpi .eq 64#32 0#32) 1#32 64#32)) (k0_pay23 y) (ix2 r j)
      = y (ix2 r j) * x6 (ix2 r j) + partner (fun j => y (ix2 r j)) j * x7 (ix2 r j) :=
  keys_at x6 x7 y r j

theorem plain26 (h : FVec Ideal S512x1024 .bf16) (w : FVec Ideal S1024x512 .bf16) (r j : Fin 512) :
    k0_pay26 (F := Ideal) h w (ix2 r j) = ∑ x, h (ix2 r x) * w (ix2 x j) := by
  pointwise [k0_pay26]

theorem plain33 (h : FVec Ideal S512x1024 .bf16) (w : FVec Ideal S1024x512 .bf16) (r j : Fin 512) :
    k0_pay33 (F := Ideal) h w (ix2 r j) = ∑ x, h (ix2 r x) * w (ix2 x j) := by
  pointwise [k0_pay33]

theorem plain34 (h : FVec Ideal S512x1024 .bf16) (w : FVec Ideal S1024x512 .bf16) (r j : Fin 512) :
    k0_pay34 (F := Ideal) h w (ix2 r j) = ∑ x, h (ix2 r x) * w (ix2 x j) := by
  pointwise [k0_pay34, k0_pay33]

theorem flip27 (h : FVec Ideal S512x1024 .bf16) (w : FVec Ideal S1024x512 .bf16) (j : Fin 512) (n : Fin 256) :
    k0_pay27 (F := Ideal) h w (ix4 0 0 j n) = ∑ x, h (ix2 ⟨n.val, by omega⟩ x) * w (ix2 x j) := by
  pointwise [k0_pay27, k0_pay26]

theorem flip28 (h : FVec Ideal S512x1024 .bf16) (w : FVec Ideal S1024x512 .bf16) (j : Fin 512) (n : Fin 256) :
    k0_pay28 (F := Ideal) h w (ix4 0 0 j n) = ∑ x, h (ix2 ⟨256 + n.val, by omega⟩ x) * w (ix2 x j) := by
  pointwise [k0_pay28, k0_pay26]

end Cert.ProjKernel
-- ==== Proof.Proof.ProjBlocks.lean ====
module

public import proofs.«01_k».proof.Proof.Proof.ProjLanes
public import proofs.«01_k».proof.Proof.Proof.ProjIdealBody
public import Idealize.ShloMosaic.Lib.Pipeline.ValueKit

/-! What one grid point of the projection kernel leaves in its output blocks, over variable input blocks. -/

@[expose] public section

set_option maxRecDepth 16384

noncomputable section

namespace Cert.ProjBlocks

open Idealize.ShloMosaic Cert.ProjIdeal Cert.ProjIdeal.Gen Cert.ProjIdeal.Body Cert.ProjSpec Cert.ProjKernel

variable (x0 : FVec Ideal S512x1024 .f32) (x1 : FVec Ideal S1x1024 .f32) (x2 : FVec Ideal S1024x3456 .bf16) (x3 : FVec Ideal S512x512 .bf16)
  (x4 : FVec Ideal S4x512 .f32) (x5 : FVec Ideal S1x128 .f32) (x6 : FVec Ideal S512x512 .f32) (x7 : FVec Ideal S512x512 .f32)
  (x8 : FVec Ideal S512x384 .f32) (x9 : FVec Ideal S512x384 .f32)

/-- One column of the projection of a tile's row, the weight's columns in the kernel's order. -/
def T (r : Fin 512) (j : Fin 3456) : EReal := ∑ k, rms (fun k => x0 (ix2 r k)) (fun k => x1 (ix2 0 k)) k * x2 (ix2 k j)

/-- A product of the normalised tile with 512 of the weight's columns. -/
theorem T_of (o : ℕ) (ho : o + 512 ≤ 3456) (h : FVec Ideal S512x1024 .bf16) (w : FVec Ideal S1024x512 .bf16) (r : Fin 512)
    (hh : ∀ k : Fin 1024, h (ix2 r k) = rms (fun k => x0 (ix2 r k)) (fun k => x1 (ix2 0 k)) k)
    (hw : ∀ (k : Fin 1024) (e : Fin 512), w (ix2 k e) = x2 (ix2 k ⟨o + e.val, by omega⟩)) (e : Fin 512) :
    (∑ x, h (ix2 r x) * w (ix2 x e)) = T x0 x1 x2 r ⟨o + e.val, by omega⟩ :=
  Finset.sum_congr rfl fun x _ => congrArg₂ (· * ·) (hh x) (hw x e)

/-- The normalised tile. -/
theorem normed (r : Fin 512) (k : Fin 1024) :
    k0_pay44 (F := Ideal) x0 x1 (ix2 r k) = rms (fun k => x0 (ix2 r k)) (fun k => x1 (ix2 0 k)) k := by
  unfold k0_pay44
  refine (norm_at _ _ r k).trans (congrArg₂ (fun a b => rms a b k) (funext fun k => ?_) (funext fun k => ?_))
  · show x0 (r0_0.emb (ix2 r k)) = _
    exact congrArg x0 (by blk_ext)
  · show x1 (r0_1.emb (ix2 0 k)) = _
    exact congrArg x1 (by blk_ext)

/-- A row of normalised heads. -/
theorem heads47 (q : Fin 64 → EReal) (r : Fin 512)
    (hhd : ∀ k c : Fin 512, x3 (ix2 k c) = if k.val / 64 = c.val / 64 then frac64 else 0)
    (hg : ∀ c : Fin 512, x4 (ix2 0 c) = q ⟨c.val % 64, by omega⟩) (j : Fin 512) :
    k0_pay47 (F := Ideal) x0 x1 x2 x3 x4 (ix2 r j) = headNorm (fun e => T x0 x1 x2 r ⟨0 + (j.val / 64 * 64 + e.val), by omega⟩) q ⟨j.val % 64, by omega⟩ := by
  unfold k0_pay47
  refine (head10 _ _ _ _ _ q (fun k e => by show x3 (r0_2.emb (ix2 k e)) = _; exact (congrArg x3 (by blk_ext)).trans (hhd k e)) (fun e => by show x4 (r0_4.emb (ix2 0 e)) = _; exact (congrArg x4 (by blk_ext)).trans (hg e)) r j).trans ?_
  refine congrArg (fun f => headNorm f q _) (funext fun e => ?_)
  exact T_of x0 x1 x2 0 (by omega) _ _ r (fun k => normed x0 x1 r k) (fun k e => by show x2 (r0_3.emb (ix2 k e)) = _; exact congrArg x2 (by blk_ext)) ⟨j.val / 64 * 64 + e.val, by omega⟩

/-- A row of normalised heads. -/
theorem heads49 (q : Fin 64 → EReal) (r : Fin 512)
    (hhd : ∀ k c : Fin 512, x3 (ix2 k c) = if k.val / 64 = c.val / 64 then frac64 else 0)
    (hg : ∀ c : Fin 512, x4 (ix2 1 c) = q ⟨c.val % 64, by omega⟩) (j : Fin 512) :
    k0_pay49 (F := Ideal) x0 x1 x2 x3 x4 (ix2 r j) = headNorm (fun e => T x0 x1 x2 r ⟨512 + (j.val / 64 * 64 + e.val), by omega⟩) q ⟨j.val % 64, by omega⟩ := by
  unfold k0_pay49
  refine (head18 _ _ _ _ q (fun k e => by show x3 (r0_2.emb (ix2 k e)) = _; exact (congrArg x3 (by blk_ext)).trans (hhd k e)) (fun e => by show x4 (r0_7.emb (ix2 0 e)) = _; exact (congrArg x4 (by blk_ext)).trans (hg e)) r j).trans ?_
  refine congrArg (fun f => headNorm f q _) (funext fun e => ?_)
  exact T_of x0 x1 x2 512 (by omega) _ _ r (fun k => normed x0 x1 r k) (fun k e => by show x2 (r0_6.emb (ix2 k e)) = _; exact congrArg x2 (by blk_ext)) ⟨j.val / 64 * 64 + e.val, by omega⟩

/-- The rotation tables as the body reads them. -/
theorem table45 (r j : Fin 512) : k0_pay45 (F := Ideal) x6 (ix2 r j) = x6 (ix2 r j) := by
  unfold k0_pay45
  pointwise [k0_pay8]

theorem table46 (r j : Fin 512) : k0_pay46 (F := Ideal) x7 (ix2 r j) = x7 (ix2 r j) := by
  unfold k0_pay46
  pointwise [k0_pay9]

/-- The queries. -/
theorem out10_at (q : Fin 64 → EReal) (c s : Fin 32 → EReal) (r : Fin 512)
    (hhd : ∀ k c : Fin 512, x3 (ix2 k c) = if k.val / 64 = c.val / 64 then frac64 else 0)
    (hg : ∀ c : Fin 512, x4 (ix2 0 c) = q ⟨c.val % 64, by omega⟩)
    (hc : ∀ j : Fin 512, x6 (ix2 r j) = if h : j.val % 64 < 32 then c ⟨j.val % 64, by omega⟩ else c ⟨j.val % 64 - 32, by omega⟩)
    (hs : ∀ j : Fin 512, x7 (ix2 r j) = if h : j.val % 64 < 32 then -s ⟨j.val % 64, by omega⟩ else s ⟨j.val % 64 - 32, by omega⟩) (j : Fin 512) :
    out0_10 (F := Ideal) x0 x1 x2 x3 x4 x5 x6 x7 x8 x9 (ix3 0 j r)
      = turn64 (headNorm (fun e => T x0 x1 x2 r ⟨j.val / 64 * 64 + e.val, by omega⟩) q) c s ⟨j.val % 64, by omega⟩ * Ideal.ofBits .f32 0x3E000000#32 := by
  unfold out0_10
  frame_out
  unfold k0_pay43
  refine (queries_at _ _ _ r j).trans (congrArg (· * Ideal.ofBits .f32 0x3E000000#32) ?_)
  refine (turned (fun j => k0_pay47 (F := Ideal) x0 x1 x2 x3 x4 (ix2 r j)) (fun j => k0_pay45 (F := Ideal) x6 (ix2 r j)) (fun j => k0_pay46 (F := Ideal) x7 (ix2 r j))
    (fun h => headNorm (fun e => T x0 x1 x2 r ⟨0 + (h.val * 64 + e.val), by omega⟩) q) c s (fun j => heads47 x0 x1 x2 x3 x4 q r hhd hg j)
    (fun j => (table45 x6 r j).trans (hc j)) (fun j => (table46 x7 r j).trans (hs j)) j).trans ?_
  refine congrArg (fun f => turn64 (headNorm f q) c s _) (funext fun e => congrArg _ (Fin.ext ?_))
  exact Nat.zero_add _

/-- The keys. -/
theorem out11_at (q : Fin 64 → EReal) (c s : Fin 32 → EReal) (r : Fin 512)
    (hhd : ∀ k c : Fin 512, x3 (ix2 k c) = if k.val / 64 = c.val / 64 then frac64 else 0)
    (hg : ∀ c : Fin 512, x4 (ix2 1 c) = q ⟨c.val % 64, by omega⟩)
    (hc : ∀ j : Fin 512, x6 (ix2 r j) = if h : j.val % 64 < 32 then c ⟨j.val % 64, by omega⟩ else c ⟨j.val % 64 - 32, by omega⟩)
    (hs : ∀ j : Fin 512, x7 (ix2 r j) = if h : j.val % 64 < 32 then -s ⟨j.val % 64, by omega⟩ else s ⟨j.val % 64 - 32, by omega⟩) (j : Fin 512) :
    out0_11 (F := Ideal) x0 x1 x2 x3 x4 x5 x6 x7 x8 x9 (ix2 r j)
      = turn64 (headNorm (fun e => T x0 x1 x2 r ⟨512 + (j.val / 64 * 64 + e.val), by omega⟩) q) c s ⟨j.val % 64, by omega⟩ := by
  unfold out0_11
  frame_out
  unfold k0_pay50 k0_pay51 k0_pay52 k0_pay53 k0_pay54 k0_pay48
  refine (keys_at _ _ _ r j).trans ?_
  exact turned (fun j => k0_pay49 (F := Ideal) x0 x1 x2 x3 x4 (ix2 r j)) (fun j => k0_pay45 (F := Ideal) x6 (ix2 r j)) (fun j => k0_pay46 (F := Ideal) x7 (ix2 r j))
    (fun h => headNorm (fun e => T x0 x1 x2 r ⟨512 + (h.val * 64 + e.val), by omega⟩) q) c s (fun j => heads49 x0 x1 x2 x3 x4 q r hhd hg j)
    (fun j => (table45 x6 r j).trans (hc j)) (fun j => (table46 x7 r j).trans (hs j)) j

/-- The keys. -/
theorem out12_at (q : Fin 64 → EReal) (c s : Fin 32 → EReal) (r : Fin 512)
    (hhd : ∀ k c : Fin 512, x3 (ix2 k c) = if k.val / 64 = c.val / 64 then frac64 else 0)
    (hg : ∀ c : Fin 512, x4 (ix2 1 c) = q ⟨c.val % 64, by omega⟩)
    (hc : ∀ j : Fin 512, x6 (ix2 r j) = if h : j.val % 64 < 32 then c ⟨j.val % 64, by omega⟩ else c ⟨j.val % 64 - 32, by omega⟩)
    (hs : ∀ j : Fin 512, x7 (ix2 r j) = if h : j.val % 64 < 32 then -s ⟨j.val % 64, by omega⟩ else s ⟨j.val % 64 - 32, by omega⟩) (j : Fin 512) :
    out0_12 (F := Ideal) x0 x1 x2 x3 x4 x5 x6 x7 x8 x9 (ix2 r j)
      = turn64 (headNorm (fun e => T x0 x1 x2 r ⟨512 + (j.val / 64 * 64 + e.val), by omega⟩) q) c s ⟨j.val % 64, by omega⟩ := by
  unfold out0_12
  frame_out
  unfold k0_pay50 k0_pay51 k0_pay52 k0_pay53 k0_pay54 k0_pay48
  refine (keys16_at _ _ _ r j).trans ?_
  exact turned (fun j => k0_pay49 (F := Ideal) x0 x1 x2 x3 x4 (ix2 r j)) (fun j => k0_pay45 (F := Ideal) x6 (ix2 r j)) (fun j => k0_pay46 (F := Ideal) x7 (ix2 r j))
    (fun h => headNorm (fun e => T x0 x1 x2 r ⟨512 + (h.val * 64 + e.val), by omega⟩) q) c s (fun j => heads49 x0 x1 x2 x3 x4 q r hhd hg j)
    (fun j => (table45 x6 r j).trans (hc j)) (fun j => (table46 x7 r j).trans (hs j)) j

/-- A plain product. -/
theorem out13_at (r j : Fin 512) :
    out0_13 (F := Ideal) x0 x1 x2 x3 x4 x5 x6 x7 x8 x9 (ix2 r j) = T x0 x1 x2 r ⟨1024 + j.val, by omega⟩ := by
  unfold out0_13
  frame_out
  refine (plain26 _ _ r j).trans ?_
  exact T_of x0 x1 x2 1024 (by omega) _ _ r (fun k => normed x0 x1 r k) (fun k e => by show x2 (r0_8.emb (ix2 k e)) = _; exact congrArg x2 (by blk_ext)) j

/-- A plain product. -/
theorem out22_at (r j : Fin 512) :
    out0_22 (F := Ideal) x0 x1 x2 x3 x4 x5 x6 x7 x8 x9 (ix2 r j) = T x0 x1 x2 r ⟨2560 + j.val, by omega⟩ := by
  unfold out0_22
  frame_out
  refine (plain33 _ _ r j).trans ?_
  exact T_of x0 x1 x2 2560 (by omega) _ _ r (fun k => normed x0 x1 r k) (fun k e => by show x2 (r0_15.emb (ix2 k e)) = _; exact congrArg x2 (by blk_ext)) j

/-- A plain product. -/
theorem out23_at (r j : Fin 512) :
    out0_23 (F := Ideal) x0 x1 x2 x3 x4 x5 x6 x7 x8 x9 (ix2 r j) = T x0 x1 x2 r ⟨2560 + j.val, by omega⟩ := by
  unfold out0_23
  frame_out
  refine (plain34 _ _ r j).trans ?_
  exact T_of x0 x1 x2 2560 (by omega) _ _ r (fun k => normed x0 x1 r k) (fun k e => by show x2 (r0_15.emb (ix2 k e)) = _; exact congrArg x2 (by blk_ext)) j

/-- The values, turned on their side, in two halves of the tile. -/
theorem out14_at (y : S1x2x512x256.Idx) :
    out0_14 (F := Ideal) x0 x1 x2 x3 x4 x5 x6 x7 x8 x9 y = T x0 x1 x2 ⟨256 * (y 1 : ℕ) + (y 3 : ℕ), by have := (y 1).isLt; have := (y 3).isLt; simp at *; omega⟩ ⟨1024 + (y 2 : ℕ), by have := (y 2).isLt; simp at *; omega⟩ := by
  unfold out0_14
  canon_tiles x h
  case piece0 =>
    refine Eq.trans (congrArg _ (show x = ix4 0 0 (x 2) (x 3) from by blk_ext)) ((flip28 _ _ (x 2) (x 3)).trans ?_)
    refine (T_of x0 x1 x2 1024 (by omega) _ _ _ (fun k => normed x0 x1 _ k) (fun k e => by show x2 (r0_8.emb (ix2 k e)) = _; exact congrArg x2 (by blk_ext)) (x 2)).trans ?_
    congr 1
    all_goals refine Fin.ext ?_
    all_goals dsimp only
    all_goals omega
  case piece1 =>
    refine Eq.trans (congrArg _ (show x = ix4 0 0 (x 2) (x 3) from by blk_ext)) ((flip27 _ _ (x 2) (x 3)).trans ?_)
    refine (T_of x0 x1 x2 1024 (by omega) _ _ _ (fun k => normed x0 x1 _ k) (fun k e => by show x2 (r0_8.emb (ix2 k e)) = _; exact congrArg x2 (by blk_ext)) (x 2)).trans ?_
    congr 1
    all_goals refine Fin.ext ?_
    all_goals dsimp only
    all_goals omega

/-- A row of normalised heads. -/
theorem out19_at (q : Fin 64 → EReal) (r : Fin 512)
    (hhd : ∀ k c : Fin 512, x3 (ix2 k c) = if k.val / 64 = c.val / 64 then frac64 else 0)
    (hg : ∀ c : Fin 512, x4 (ix2 2 c) = q ⟨c.val % 64, by omega⟩) (j : Fin 512) :
    out0_19 (F := Ideal) x0 x1 x2 x3 x4 x5 x6 x7 x8 x9 (ix2 r j)
      = headNorm (fun e => T x0 x1 x2 r ⟨1536 + (j.val / 64 * 64 + e.val), by omega⟩) q ⟨j.val % 64, by omega⟩ * Ideal.ofBits .f32 0x3E000000#32 := by
  unfold out0_19
  frame_out
  refine (head30 _ _ _ _ q hhd (fun e => by show x4 (r0_12.emb (ix2 0 e)) = _; exact (congrArg x4 (by blk_ext)).trans (hg e)) r j).trans ?_
  refine congrArg (fun f => headNorm f q _ * Ideal.ofBits .f32 0x3E000000#32) (funext fun e => ?_)
  exact T_of x0 x1 x2 1536 (by omega) _ _ r (fun k => normed x0 x1 r k) (fun k e => by show x2 (r0_11.emb (ix2 k e)) = _; exact congrArg x2 (by blk_ext)) ⟨j.val / 64 * 64 + e.val, by omega⟩

/-- A row of normalised heads. -/
theorem out20_at (q : Fin 64 → EReal) (r : Fin 512)
    (hhd : ∀ k c : Fin 512, x3 (ix2 k c) = if k.val / 64 = c.val / 64 then frac64 else 0)
    (hg : ∀ c : Fin 512, x4 (ix2 3 c) = q ⟨c.val % 64, by omega⟩) (j : Fin 512) :
    out0_20 (F := Ideal) x0 x1 x2 x3 x4 x5 x6 x7 x8 x9 (ix2 r j)
      = headNorm (fun e => T x0 x1 x2 r ⟨2048 + (j.val / 64 * 64 + e.val), by omega⟩) q ⟨j.val % 64, by omega⟩ := by
  unfold out0_20
  frame_out
  refine (head31 _ _ _ _ q hhd (fun e => by show x4 (r0_14.emb (ix2 0 e)) = _; exact (congrArg x4 (by blk_ext)).trans (hg e)) r j).trans ?_
  refine congrArg (fun f => headNorm f q _) (funext fun e => ?_)
  exact T_of x0 x1 x2 2048 (by omega) _ _ r (fun k => normed x0 x1 r k) (fun k e => by show x2 (r0_13.emb (ix2 k e)) = _; exact congrArg x2 (by blk_ext)) ⟨j.val / 64 * 64 + e.val, by omega⟩

/-- A row of normalised heads. -/
theorem out21_at (q : Fin 64 → EReal) (r : Fin 512)
    (hhd : ∀ k c : Fin 512, x3 (ix2 k c) = if k.val / 64 = c.val / 64 then frac64 else 0)
    (hg : ∀ c : Fin 512, x4 (ix2 3 c) = q ⟨c.val % 64, by omega⟩) (j : Fin 512) :
    out0_21 (F := Ideal) x0 x1 x2 x3 x4 x5 x6 x7 x8 x9 (ix2 r j)
      = headNorm (fun e => T x0 x1 x2 r ⟨2048 + (j.val / 64 * 64 + e.val), by omega⟩) q ⟨j.val % 64, by omega⟩ := by
  unfold out0_21
  frame_out
  refine (head32 _ _ _ _ q hhd (fun e => by show x4 (r0_14.emb (ix2 0 e)) = _; exact (congrArg x4 (by blk_ext)).trans (hg e)) r j).trans ?_
  refine congrArg (fun f => headNorm f q _) (funext fun e => ?_)
  exact T_of x0 x1 x2 2048 (by omega) _ _ r (fun k => normed x0 x1 r k) (fun k e => by show x2 (r0_13.emb (ix2 k e)) = _; exact congrArg x2 (by blk_ext)) ⟨j.val / 64 * 64 + e.val, by omega⟩

/-- The indexer's lanes before turning. -/
theorem lanes55 (r : Fin 512) (j : Fin 384) :
    k0_pay55 (F := Ideal) x0 x1 x2 x5 (ix2 r j) = idxLanes (fun j => T x0 x1 x2 r ⟨3072 + j.val, by omega⟩) (fun e => x5 (ix2 0 e)) j := by
  unfold k0_pay55
  refine (idx_at _ _ _ r j).trans (congrArg₂ (fun a b => idxLanes a b j) (funext fun j => ?_) (funext fun e => ?_))
  · refine Finset.sum_congr rfl fun x _ => congrArg₂ (· * ·) (normed x0 x1 r x) ?_
    show x2 (r0_16.emb (ix2 x j)) = _
    exact congrArg x2 (by blk_ext)
  · show x5 (r0_17.emb (ix2 0 e)) = _
    exact congrArg x5 (by blk_ext)

/-- One turned lane of the indexer's row in a tile. -/
theorem lane_of (Z w8 w9 : FVec Ideal S512x384 .f32) (r : Fin 512)
    (hz : ∀ j : Fin 384, Z (ix2 r j) = idxLanes (fun j => T x0 x1 x2 r ⟨3072 + j.val, by omega⟩) (fun e => x5 (ix2 0 e)) j)
    (h8 : ∀ j : Fin 384, w8 (ix2 r j) = x8 (ix2 r j)) (h9 : ∀ j : Fin 384, w9 (ix2 r j) = x9 (ix2 r j)) (j : Fin 384) :
    Z (ix2 r j) * w8 (ix2 r j) + partner16 (fun j => Z (ix2 r j)) j * w9 (ix2 r j)
      = idxOut (fun j => T x0 x1 x2 r ⟨3072 + j.val, by omega⟩) (fun e => x5 (ix2 0 e)) (fun j => x8 (ix2 r j)) (fun j => x9 (ix2 r j)) j := by
  rw [h8, h9, hz, show (fun j => Z (ix2 r j)) = idxLanes (fun j => T x0 x1 x2 r ⟨3072 + j.val, by omega⟩) (fun e => x5 (ix2 0 e)) from funext hz]
  rfl

/-- The indexer's lanes of a tile, as stored. -/
theorem out15_at (r : Fin 512) (j : Fin 256) :
    out0_15 (F := Ideal) x0 x1 x2 x3 x4 x5 x6 x7 x8 x9 (ix3 0 j r)
      = idxOut (fun j => T x0 x1 x2 r ⟨3072 + j.val, by omega⟩) (fun e => x5 (ix2 0 e)) (fun j => x8 (ix2 r j)) (fun j => x9 (ix2 r j)) ⟨j.val, by omega⟩ := by
  unfold out0_15
  frame_out
  unfold k0_pay56 k0_pay57 k0_pay58 k0_pay59 k0_pay60 k0_pay61
  refine (store2_at _ _ _ r j).trans ?_
  exact lane_of x0 x1 x2 x5 x8 x9 _ _ _ r (fun j => lanes55 x0 x1 x2 x5 r j) (fun j => by show x8 (r0_18.emb (ix2 r j)) = _; exact congrArg x8 (by blk_ext)) (fun j => by show x9 (r0_18.emb (ix2 r j)) = _; exact congrArg x9 (by blk_ext)) ⟨j.val, by omega⟩

/-- The indexer's lanes of a tile, as stored. -/
theorem out16_at (r : Fin 512) (j : Fin 32) :
    out0_16 (F := Ideal) x0 x1 x2 x3 x4 x5 x6 x7 x8 x9 (ix2 r j)
      = idxOut (fun j => T x0 x1 x2 r ⟨3072 + j.val, by omega⟩) (fun e => x5 (ix2 0 e)) (fun j => x8 (ix2 r j)) (fun j => x9 (ix2 r j)) ⟨256 + j.val, by omega⟩ := by
  unfold out0_16
  frame_out
  unfold k0_pay56 k0_pay57 k0_pay58 k0_pay59 k0_pay60 k0_pay61
  refine (store4_at _ _ _ r j).trans ?_
  exact lane_of x0 x1 x2 x5 x8 x9 _ _ _ r (fun j => lanes55 x0 x1 x2 x5 r j) (fun j => by show x8 (r0_18.emb (ix2 r j)) = _; exact congrArg x8 (by blk_ext)) (fun j => by show x9 (r0_18.emb (ix2 r j)) = _; exact congrArg x9 (by blk_ext)) ⟨256 + j.val, by omega⟩

/-- The indexer's lanes of a tile, as stored. -/
theorem out17_at (r : Fin 512) (j : Fin 128) :
    out0_17 (F := Ideal) x0 x1 x2 x3 x4 x5 x6 x7 x8 x9 (ix2 r j)
      = if j.val < 32 then idxOut (fun j => T x0 x1 x2 r ⟨3072 + j.val, by omega⟩) (fun e => x5 (ix2 0 e)) (fun j => x8 (ix2 r j)) (fun j => x9 (ix2 r j)) ⟨256 + j.val, by omega⟩ else 0 := by
  unfold out0_17
  frame_out
  unfold k0_pay56 k0_pay57 k0_pay58 k0_pay59 k0_pay60 k0_pay61
  refine (store5_at _ _ _ r j).trans ?_
  exact congrArg (fun v => if j.val < 32 then v else 0) (lane_of x0 x1 x2 x5 x8 x9 _ _ _ r (fun j => lanes55 x0 x1 x2 x5 r j) (fun j => by show x8 (r0_18.emb (ix2 r j)) = _; exact congrArg x8 (by blk_ext)) (fun j => by show x9 (r0_18.emb (ix2 r j)) = _; exact congrArg x9 (by blk_ext)) ⟨256 + j.val, by omega⟩)

/-- The indexer's lanes of a tile, as stored. -/
theorem out18_at (r : Fin 512) (j : Fin 8) :
    out0_18 (F := Ideal) x0 x1 x2 x3 x4 x5 x6 x7 x8 x9 (ix3 0 j r)
      = idxOut (fun j => T x0 x1 x2 r ⟨3072 + j.val, by omega⟩) (fun e => x5 (ix2 0 e)) (fun j => x8 (ix2 r j)) (fun j => x9 (ix2 r j)) ⟨288 + j.val, by omega⟩ := by
  unfold out0_18
  frame_out
  unfold k0_pay56 k0_pay57 k0_pay58 k0_pay59 k0_pay60 k0_pay61
  refine (store6_at _ _ _ r j).trans ?_
  exact lane_of x0 x1 x2 x5 x8 x9 _ _ _ r (fun j => lanes55 x0 x1 x2 x5 r j) (fun j => by show x8 (r0_18.emb (ix2 r j)) = _; exact congrArg x8 (by blk_ext)) (fun j => by show x9 (r0_18.emb (ix2 r j)) = _; exact congrArg x9 (by blk_ext)) ⟨288 + j.val, by omega⟩

end Cert.ProjBlocks
-- ==== Proof.Proof.ProjHost.lean ====
module

public import proofs.«01_k».proof.Proof.Proof.ProjKernel
public import proofs.«01_k».proof.Proof.Proof.ProjIdealBody
public import Idealize.ShloMosaic.Lib.StableHlo.ReadAt

/-! The arrays the host prepares for the projection kernel, read one entry at a time. -/

@[expose] public section

set_option maxRecDepth 16384

noncomputable section

namespace Cert.ProjHost

open Idealize.ShloMosaic Idealize.ShloMosaic.TcCoe Idealize.SL.Sem Cert.ProjIdeal Cert.ProjIdeal.Gen Cert.ProjIdeal.Body Cert.ProjSpec

variable (m : (ℓ : Loc nD τ sig) → Buf (Elt Ideal) ℓ)

/-- The token rows, one after another. -/
theorem rows_at (c : Dev nD) (r : Fin 32768) (k : Fin 1024) :
    V m c main_v88 (ix2 r k) = m ((c : Thread nD τ).loc main_arg0) (ix3 ⟨r.val / 2048, by omega⟩ ⟨r.val % 2048, by omega⟩ k) := by
  unfold V
  simp only [hostOps0, hostOps0_1, hostOps0_2, List.flatten_cons, List.flatten_nil, List.append_nil, List.cons_append,
    List.nil_append]
  entry_read
  pointwise []

/-- The layer's normalisation gain. -/
theorem gain_at (c : Dev nD) (k : Fin 1024) :
    V m c main_v38 (ix2 0 k) = m ((c : Thread nD τ).loc main_arg1) (ix1 k) := by
  unfold V
  simp only [hostOps0, hostOps0_1, hostOps0_2, List.flatten_cons, List.flatten_nil, List.append_nil, List.cons_append,
    List.nil_append]
  entry_read
  pointwise []

/-- The weight's columns, in the kernel's order. -/
theorem w_at (c : Dev nD) (k : Fin 1024) (j : Fin 3456) :
    V m c main_v5 (ix2 k j) = if h : j.val < 1536 then m ((c : Thread nD τ).loc main_arg2) (ix2 k ⟨j.val, by omega⟩)
      else if h : j.val - 1536 < 1536 then m ((c : Thread nD τ).loc main_arg2) (ix2 k ⟨1832 + (j.val - 1536), by omega⟩)
      else if h : j.val - 1536 - 1536 < 296 then m ((c : Thread nD τ).loc main_arg2) (ix2 k ⟨1536 + (j.val - 1536 - 1536), by omega⟩)
      else (0 : EReal) := by
  unfold V
  simp only [hostOps0, hostOps0_1, hostOps0_2, List.flatten_cons, List.flatten_nil, List.append_nil, List.cons_append,
    List.nil_append]
  repeat after_reads_at

theorem same_head (w : BitVec 1) (p : Prop) [Decidable p] (hw : w = if p then 1#1 else 0#1) :
    Ideal.div (FloatOps.uitofp (F := Ideal) .f32 w) (Ideal.ofBits .f32 1115684864#32) = if p then Cert.ProjKernel.frac64 else 0 := by
  subst hw
  rw [Cert.ProjKernel.mean64]
  by_cases hp : p
  · rw [if_pos hp, if_pos hp]
    have e : FloatOps.uitofp (F := Ideal) .f32 (1#1) = (1 : EReal) := by
      show (((1#1 : BitVec 1).toNat : ℝ) : EReal) = 1
      simp
    exact (congrArg (· * _) e).trans (one_mul _)
  · rw [if_neg hp, if_neg hp]
    have e : FloatOps.uitofp (F := Ideal) .f32 (0#1) = (0 : EReal) := by
      show (((0#1 : BitVec 1).toNat : ℝ) : EReal) = 0
      simp
    exact (congrArg (· * _) e).trans (zero_mul _)

theorem head_bit : ∀ a b : Fin 8, IntOp.cmpi .eq (IntOp.addi (BitVec.ofNat 32 a.val) 0#32) (BitVec.ofNat 32 b.val) = if a.val = b.val then 1#1 else 0#1 := by
  decide +kernel

/-- The averaging matrix: a sixty-fourth within a head, nothing between heads. -/
theorem hd_at (c : Dev nD) (k : Fin 512) (j : Fin 512) :
    V m c main_v16 (ix2 k j) = if k.val / 64 = j.val / 64 then Cert.ProjKernel.frac64 else 0 := by
  unfold V
  simp only [hostOps0, hostOps0_1, hostOps0_2, List.flatten_cons, List.flatten_nil, List.append_nil, List.cons_append,
    List.nil_append]
  entry_read
  simp -implicitDefEqProofs only [StableHlo.TRef.toBuf, StableHlo.TRef.ofBuf, cast_cast, cast_eq]
  pointwise []
  exact same_head _ _ (head_bit ⟨k.val / 64, by omega⟩ ⟨j.val / 64, by omega⟩)

/-- The four head gains, each repeated for the eight heads. -/
theorem gains_at (c : Dev nD) (a : Fin 4) (j : Fin 512) :
    V m c main_v33 (ix2 a j) = if h : a.val < 1 then m ((c : Thread nD τ).loc main_arg3) (ix1 ⟨j.val % 64, by omega⟩)
      else if h : a.val - 1 < 1 then m ((c : Thread nD τ).loc main_arg4) (ix1 ⟨j.val % 64, by omega⟩)
      else if h : a.val - 1 - 1 < 1 then m ((c : Thread nD τ).loc main_arg6) (ix1 ⟨j.val % 64, by omega⟩)
      else m ((c : Thread nD τ).loc main_arg7) (ix1 ⟨j.val % 64, by omega⟩) := by
  unfold V
  simp only [hostOps0, hostOps0_1, hostOps0_2, List.flatten_cons, List.flatten_nil, List.append_nil, List.cons_append,
    List.nil_append]
  repeat after_reads_at

/-- The indexer's gain, then the scale of its weights. -/
theorem gidx_at (c : Dev nD) (j : Fin 128) :
    V m c main_v37 (ix2 0 j) = if h : j.val < 32 then m ((c : Thread nD τ).loc main_arg5) (ix1 ⟨j.val, by omega⟩)
      else if h : j.val - 32 < 8 then Ideal.ofBits .f32 1052050675#32 else (1 : EReal) := by
  unfold V
  simp only [hostOps0, hostOps0_1, hostOps0_2, List.flatten_cons, List.flatten_nil, List.append_nil, List.cons_append,
    List.nil_append]
  repeat after_reads_at

/-- The rotation tables of the heads. -/
theorem cos_at (c : Dev nD) (n : Fin 2048) (j : Fin 512) :
    V m c main_v57 (ix2 n j) = if h : j.val % 64 < 32 then cos64 n ⟨j.val % 64, by omega⟩ else cos64 n ⟨j.val % 64 - 32, by omega⟩ := by
  unfold cos64 ang64
  unfold V
  simp only [hostOps0, hostOps0_1, hostOps0_2, List.flatten_cons, List.flatten_nil, List.append_nil, List.cons_append,
    List.nil_append]
  repeat after_reads_at

/-- The rotation tables of the heads. -/
theorem sin_at (c : Dev nD) (n : Fin 2048) (j : Fin 512) :
    V m c main_v62 (ix2 n j) = if h : j.val % 64 < 32 then -sin64 n ⟨j.val % 64, by omega⟩ else sin64 n ⟨j.val % 64 - 32, by omega⟩ := by
  unfold sin64 ang64
  unfold V
  simp only [hostOps0, hostOps0_1, hostOps0_2, List.flatten_cons, List.flatten_nil, List.append_nil, List.cons_append,
    List.nil_append]
  repeat after_reads_at

/-- The rotation tables of the indexer, its weights left as they are. -/
theorem icos_at (c : Dev nD) (n : Fin 2048) (j : Fin 384) :
    V m c main_v85 (ix2 n j) = if h : j.val < 288 then if h : j.val % 32 < 16 then cos32 n ⟨j.val % 32, by omega⟩ else cos32 n ⟨j.val % 32 - 16, by omega⟩ else (1 : EReal) := by
  unfold cos32 ang32
  unfold V
  simp only [hostOps0, hostOps0_1, hostOps0_2, List.flatten_cons, List.flatten_nil, List.append_nil, List.cons_append,
    List.nil_append]
  repeat after_reads_at

/-- The rotation tables of the indexer, its weights left as they are. -/
theorem isin_at (c : Dev nD) (n : Fin 2048) (j : Fin 384) :
    V m c main_v87 (ix2 n j) = if h : j.val < 288 then if h : j.val % 32 < 16 then -sin32 n ⟨j.val % 32, by omega⟩ else sin32 n ⟨j.val % 32 - 16, by omega⟩ else (0 : EReal) := by
  unfold sin32 ang32
  unfold V
  simp only [hostOps0, hostOps0_1, hostOps0_2, List.flatten_cons, List.flatten_nil, List.append_nil, List.cons_append,
    List.nil_append]
  repeat after_reads_at

end Cert.ProjHost
-- ==== Proof.Proof.ProjReference.lean ====
module

public import proofs.«01_k».proof.Proof.Proof.ProjSpec
public import proofs.«01_k».proof.Proof.Gen.ProjRefIdeal.Read

/-! The projection reference's arrays, read one entry at a time. -/

@[expose] public section

set_option maxRecDepth 16384

noncomputable section

namespace Cert.ProjReference

open Idealize.ShloMosaic Cert.ProjRefIdeal Cert.ProjRefIdeal.Gen Cert.ProjRefIdeal.Read Cert.ProjSpec

variable (x0 : FVec Ideal S16x2048x1024 .f32) (x1 : FVec Ideal S1024 .f32) (x2 : FVec Ideal S1024x5416 .f32)

/-- One entry of the fused projection of token n of batch row b. -/
def S (b : Fin 16) (n : Fin 2048) (j : Fin 5416) : EReal := seg (fun k => x0 (ix3 b n k)) (fun k => x1 (ix1 k)) (fun k j => x2 (ix2 k j)) j

theorem v14_at (b : Fin 16) (n : Fin 2048) (j : Fin 5416) : val_main_v14 (F := Ideal) x0 x1 x2 (ix3 b n j) = S x0 x1 x2 b n j := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, S, seg, rms]

theorem a_cos (n : Fin 2048) (e : Fin 32) : val_main_v51 (F := Ideal) (ix2 n e) = cos64 n e := by
  pointwise [val_main_v51, val_main_v50, val_main_v49, val_main_v48, val_main_v47, val_main_v46, val_main_v45, val_main_v44, val_main_v43, val_main_v42, val_main_v41, val_main_v40, val_main_v39, val_main_v0, val_main_cst_5, val_main_cst_6, cos64, ang64]

theorem a_sin (n : Fin 2048) (e : Fin 32) : val_main_v53 (F := Ideal) (ix2 n e) = sin64 n e := by
  pointwise [val_main_v53, val_main_v50, val_main_v49, val_main_v48, val_main_v47, val_main_v46, val_main_v45, val_main_v44, val_main_v43, val_main_v42, val_main_v41, val_main_v40, val_main_v39, val_main_v0, val_main_cst_5, val_main_cst_6, sin64, ang64]

theorem b_cos (n : Fin 2048) (e : Fin 32) : val_main_v98 (F := Ideal) (ix2 n e) = cos64 n e := by
  pointwise [val_main_v98, val_main_v97, val_main_v96, val_main_v95, val_main_v94, val_main_v93, val_main_v92, val_main_v91, val_main_v90, val_main_v89, val_main_v88, val_main_v87, val_main_v86, val_main_v0, val_main_cst_10, val_main_cst_11, cos64, ang64]

theorem b_sin (n : Fin 2048) (e : Fin 32) : val_main_v100 (F := Ideal) (ix2 n e) = sin64 n e := by
  pointwise [val_main_v100, val_main_v97, val_main_v96, val_main_v95, val_main_v94, val_main_v93, val_main_v92, val_main_v91, val_main_v90, val_main_v89, val_main_v88, val_main_v87, val_main_v86, val_main_v0, val_main_cst_10, val_main_cst_11, sin64, ang64]

theorem c_cos (n : Fin 2048) (e : Fin 16) : val_main_v133 (F := Ideal) (ix2 n e) = cos32 n e := by
  pointwise [val_main_v133, val_main_v132, val_main_v131, val_main_v130, val_main_v129, val_main_v128, val_main_v127, val_main_v126, val_main_v125, val_main_v124, val_main_v123, val_main_v122, val_main_v121, val_main_v0, val_main_cst_12, val_main_cst_13, cos32, ang32]

theorem c_sin (n : Fin 2048) (e : Fin 16) : val_main_v135 (F := Ideal) (ix2 n e) = sin32 n e := by
  pointwise [val_main_v135, val_main_v132, val_main_v131, val_main_v130, val_main_v129, val_main_v128, val_main_v127, val_main_v126, val_main_v125, val_main_v124, val_main_v123, val_main_v122, val_main_v121, val_main_v0, val_main_cst_12, val_main_cst_13, sin32, ang32]

theorem d_cos (n : Fin 2048) (e : Fin 16) : val_main_v180 (F := Ideal) (ix2 n e) = cos32 n e := by
  pointwise [val_main_v180, val_main_v179, val_main_v178, val_main_v177, val_main_v176, val_main_v175, val_main_v174, val_main_v173, val_main_v172, val_main_v171, val_main_v170, val_main_v169, val_main_v168, val_main_v0, val_main_cst_17, val_main_cst_18, cos32, ang32]

theorem d_sin (n : Fin 2048) (e : Fin 16) : val_main_v182 (F := Ideal) (ix2 n e) = sin32 n e := by
  pointwise [val_main_v182, val_main_v179, val_main_v178, val_main_v177, val_main_v176, val_main_v175, val_main_v174, val_main_v173, val_main_v172, val_main_v171, val_main_v170, val_main_v169, val_main_v168, val_main_v0, val_main_cst_17, val_main_cst_18, sin32, ang32]

theorem v38_at (g : FVec Ideal S64 .f32) (b : Fin 16) (n : Fin 2048) (h : Fin 8) (d : Fin 64) : val_main_v38 (F := Ideal) x0 x1 x2 g (ix4 b n h d)
    = headNorm (fun e => S x0 x1 x2 b n ⟨h.val * 64 + e.val, by omega⟩) (fun e => g (ix1 e)) d := by
  pointwise [val_main_v38, val_main_v37, val_main_v36, val_main_v35, val_main_v34, val_main_v33, val_main_v32, val_main_v31, val_main_v30, val_main_v29, val_main_v28, val_main_v27, val_main_v26, val_main_v25, val_main_v15, val_main_cst_2, val_main_cst_3, val_main_cst_4, v14_at, headNorm]

theorem v85_at (g : FVec Ideal S64 .f32) (b : Fin 16) (n : Fin 2048) (h : Fin 8) (d : Fin 64) : val_main_v85 (F := Ideal) x0 x1 x2 g (ix4 b n h d)
    = headNorm (fun e => S x0 x1 x2 b n ⟨512 + (h.val * 64 + e.val), by omega⟩) (fun e => g (ix1 e)) d := by
  pointwise [val_main_v85, val_main_v84, val_main_v83, val_main_v82, val_main_v81, val_main_v80, val_main_v79, val_main_v78, val_main_v77, val_main_v76, val_main_v75, val_main_v74, val_main_v73, val_main_v72, val_main_v16, val_main_cst_7, val_main_cst_8, val_main_cst_9, v14_at, headNorm]

theorem v217_at (g : FVec Ideal S64 .f32) (b : Fin 16) (n : Fin 2048) (h : Fin 8) (d : Fin 64) : val_main_v217 (F := Ideal) x0 x1 x2 g (ix4 b n h d)
    = headNorm (fun e => S x0 x1 x2 b n ⟨1832 + (h.val * 64 + e.val), by omega⟩) (fun e => g (ix1 e)) d := by
  pointwise [val_main_v217, val_main_v216, val_main_v215, val_main_v214, val_main_v213, val_main_v212, val_main_v211, val_main_v210, val_main_v209, val_main_v208, val_main_v207, val_main_v206, val_main_v205, val_main_v204, val_main_v21, val_main_cst_20, val_main_cst_21, val_main_cst_22, v14_at, headNorm]

theorem v231_at (g : FVec Ideal S64 .f32) (b : Fin 16) (n : Fin 2048) (h : Fin 8) (d : Fin 64) : val_main_v231 (F := Ideal) x0 x1 x2 g (ix4 b n h d)
    = headNorm (fun e => S x0 x1 x2 b n ⟨2344 + (h.val * 64 + e.val), by omega⟩) (fun e => g (ix1 e)) d := by
  pointwise [val_main_v231, val_main_v230, val_main_v229, val_main_v228, val_main_v227, val_main_v226, val_main_v225, val_main_v224, val_main_v223, val_main_v222, val_main_v221, val_main_v220, val_main_v219, val_main_v218, val_main_v22, val_main_cst_23, val_main_cst_24, val_main_cst_25, v14_at, headNorm]

theorem v71_at (g : FVec Ideal S64 .f32) (b : Fin 16) (n : Fin 2048) (h : Fin 8) (d : Fin 64) : val_main_v71 (F := Ideal) x0 x1 x2 g (ix4 b n h d)
    = turn64 (headNorm (fun e => S x0 x1 x2 b n ⟨h.val * 64 + e.val, by omega⟩) (fun e => g (ix1 e))) (cos64 n) (sin64 n) d := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v52, v38_at, a_cos, a_sin]
  by_cases hd : d.val < 32
  · rw [dif_pos hd, turn64_lo _ _ _ _ hd]
  · rw [dif_neg hd, turn64_hi _ _ _ _ hd]
    refine congrArg (fun i => headNorm _ _ i * _ + _) (Fin.ext ?_)
    show 32 + (d.val - 32) = d.val
    omega

theorem v118_at (g : FVec Ideal S64 .f32) (b : Fin 16) (n : Fin 2048) (h : Fin 8) (d : Fin 64) : val_main_v118 (F := Ideal) x0 x1 x2 g (ix4 b n h d)
    = turn64 (headNorm (fun e => S x0 x1 x2 b n ⟨512 + (h.val * 64 + e.val), by omega⟩) (fun e => g (ix1 e))) (cos64 n) (sin64 n) d := by
  pointwise [val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v99, v85_at, b_cos, b_sin]
  by_cases hd : d.val < 32
  · rw [dif_pos hd, turn64_lo _ _ _ _ hd]
  · rw [dif_neg hd, turn64_hi _ _ _ _ hd]
    refine congrArg (fun i => headNorm _ _ i * _ + _) (Fin.ext ?_)
    show 32 + (d.val - 32) = d.val
    omega

theorem v153_at (b : Fin 16) (n : Fin 2048) (h : Fin 8) (d : Fin 32) : val_main_v153 (F := Ideal) x0 x1 x2 (ix4 b n h d)
    = turn32 (fun e => S x0 x1 x2 b n ⟨1536 + (h.val * 32 + e.val), by omega⟩) (cos32 n) (sin32 n) d := by
  pointwise [val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v134, val_main_v120, val_main_v18, v14_at, c_cos, c_sin]
  by_cases hd : d.val < 16
  · rw [dif_pos hd, turn32_lo _ _ _ _ hd]
  · rw [dif_neg hd, turn32_hi _ _ _ _ hd]
    refine congrArg (fun i => S x0 x1 x2 b n i * _ + _) (Fin.ext ?_)
    show 1536 + (h.val * 32 + (16 + (d.val - 16))) = 1536 + (h.val * 32 + d.val)
    omega

theorem v166_at (g : FVec Ideal S32 .f32) (b : Fin 16) (n : Fin 2048) (d : Fin 32) : val_main_v166 (F := Ideal) x0 x1 x2 g (ix3 b n d)
    = keyNorm (fun e => S x0 x1 x2 b n ⟨1792 + e.val, by omega⟩) (fun e => g (ix1 e)) d := by
  pointwise [val_main_v166, val_main_v165, val_main_v164, val_main_v163, val_main_v162, val_main_v161, val_main_v160, val_main_v159, val_main_v158, val_main_v157, val_main_v156, val_main_v155, val_main_v154, val_main_v19, val_main_cst_14, val_main_cst_15, val_main_cst_16, v14_at, keyNorm]

theorem v200_at (g : FVec Ideal S32 .f32) (b : Fin 16) (n : Fin 2048) (d : Fin 32) : val_main_v200 (F := Ideal) x0 x1 x2 g (ix4 b n 0 d)
    = turn32 (keyNorm (fun e => S x0 x1 x2 b n ⟨1792 + e.val, by omega⟩) (fun e => g (ix1 e))) (cos32 n) (sin32 n) d := by
  pointwise [val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v181, val_main_v167, v166_at, d_cos, d_sin]
  by_cases hd : d.val < 16
  · rw [dif_pos hd, turn32_lo _ _ _ _ hd]
  · rw [dif_neg hd, turn32_hi _ _ _ _ hd]
    refine congrArg (fun i => keyNorm _ _ i * _ + _) (Fin.ext ?_)
    show 16 + (d.val - 16) = d.val
    omega

/-- The number 0 read as a float is 0. -/
theorem sitofp_zero : (FloatOps.sitofp (F := Ideal) FTy.f32 0#32 : EReal) = 0 := by
  show (((0#32 : BitVec 32).toInt : ℝ) : EReal) = 0
  simp

theorem v241_at (g : FVec Ideal S64 .f32) (b : Fin 16) (j : Fin 512) (n : Fin 2048) : val_main_v241 (F := Ideal) x0 x1 x2 g (ix3 b j n)
    = turn64 (headNorm (fun e => S x0 x1 x2 b n ⟨j.val / 64 * 64 + e.val, by omega⟩) (fun e => g (ix1 e))) (cos64 n) (sin64 n) ⟨j.val % 64, by omega⟩ * Ideal.ofBits .f32 0x3E000000#32 := by
  pointwise [val_main_v241, val_main_v240, val_main_v239, val_main_v238, val_main_v237, val_main_cst_26, v71_at]

theorem v242_at (g : FVec Ideal S64 .f32) (r : Fin 32768) (j : Fin 512) : val_main_v242 (F := Ideal) x0 x1 x2 g (ix2 r j)
    = turn64 (headNorm (fun e => S x0 x1 x2 ⟨r.val / 2048, by omega⟩ ⟨r.val % 2048, by omega⟩ ⟨512 + (j.val / 64 * 64 + e.val), by omega⟩) (fun e => g (ix1 e))) (cos64 ⟨r.val % 2048, by omega⟩) (sin64 ⟨r.val % 2048, by omega⟩) ⟨j.val % 64, by omega⟩ := by
  pointwise [val_main_v242, v118_at]

theorem v244_at (g : FVec Ideal S64 .f32) (r : Fin 32768) (j : Fin 512) : val_main_v244 (F := Ideal) x0 x1 x2 g (ix2 r j)
    = turn64 (headNorm (fun e => S x0 x1 x2 ⟨r.val / 2048, by omega⟩ ⟨r.val % 2048, by omega⟩ ⟨512 + (j.val / 64 * 64 + e.val), by omega⟩) (fun e => g (ix1 e))) (cos64 ⟨r.val % 2048, by omega⟩) (sin64 ⟨r.val % 2048, by omega⟩) ⟨j.val % 64, by omega⟩ := by
  pointwise [val_main_v244, val_main_v243, v118_at]

theorem cols (o : ℕ) (ho : o + 512 ≤ 5416) (b : Fin 16) (n : Fin 2048) (j : Fin 512) :
    S x0 x1 x2 b n ⟨o + (j.val / 64 * 64 + j.val % 64), by omega⟩ = S x0 x1 x2 b n ⟨o + j.val, by omega⟩ :=
  congrArg _ (Fin.ext (by show o + (j.val / 64 * 64 + j.val % 64) = o + j.val; omega))

theorem v245_at (r : Fin 32768) (j : Fin 512) : val_main_v245 (F := Ideal) x0 x1 x2 (ix2 r j)
    = S x0 x1 x2 ⟨r.val / 2048, by omega⟩ ⟨r.val % 2048, by omega⟩ ⟨1024 + j.val, by omega⟩ := by
  pointwise [val_main_v245, val_main_v119, val_main_v17, v14_at]
  try exact cols x0 x1 x2 1024 (by omega) _ _ j

theorem v246_at (b : Fin 16) (i : Fin 8) (j : Fin 512) (n : Fin 256) : val_main_v246 (F := Ideal) x0 x1 x2 (ix4 b i j n)
    = S x0 x1 x2 b ⟨i.val * 256 + n.val, by omega⟩ ⟨1024 + j.val, by omega⟩ := by
  pointwise [val_main_v246, val_main_v234, val_main_v233, val_main_v119, val_main_v17, v14_at]

theorem v249_at (b : Fin 16) (j : Fin 256) (n : Fin 2048) : val_main_v249 (F := Ideal) x0 x1 x2 (ix3 b j n)
    = turn32 (fun e => S x0 x1 x2 b n ⟨1536 + (j.val / 32 * 32 + e.val), by omega⟩) (cos32 n) (sin32 n) ⟨j.val % 32, by omega⟩ := by
  pointwise [val_main_v249, val_main_v248, val_main_v247, v153_at]

theorem v250_at (g : FVec Ideal S32 .f32) (r : Fin 32768) (j : Fin 32) : val_main_v250 (F := Ideal) x0 x1 x2 g (ix2 r j)
    = turn32 (keyNorm (fun e => S x0 x1 x2 ⟨r.val / 2048, by omega⟩ ⟨r.val % 2048, by omega⟩ ⟨1792 + e.val, by omega⟩) (fun e => g (ix1 e))) (cos32 ⟨r.val % 2048, by omega⟩) (sin32 ⟨r.val % 2048, by omega⟩) j := by
  pointwise [val_main_v250, val_main_v201, v200_at]

theorem v251_at (g : FVec Ideal S32 .f32) (r : Fin 32768) (j : Fin 128) : val_main_v251 (F := Ideal) x0 x1 x2 g (ix2 r j)
    = if h : j.val < 32 then turn32 (keyNorm (fun e => S x0 x1 x2 ⟨r.val / 2048, by omega⟩ ⟨r.val % 2048, by omega⟩ ⟨1792 + e.val, by omega⟩) (fun e => g (ix1 e))) (cos32 ⟨r.val % 2048, by omega⟩) (sin32 ⟨r.val % 2048, by omega⟩) ⟨j.val, by omega⟩ else 0 := by
  pointwise [val_main_v251, val_main_v236, val_main_v235, val_main_v201, val_main_call0_v0, val_main_c, v200_at, sitofp_zero]

theorem v252_at (b : Fin 16) (j : Fin 8) (n : Fin 2048) : val_main_v252 (F := Ideal) x0 x1 x2 (ix3 b j n)
    = S x0 x1 x2 b n ⟨1824 + j.val, by omega⟩ * Ideal.ofBits .f32 0x3EB504F3#32 := by
  pointwise [val_main_v252, val_main_v203, val_main_v202, val_main_cst_19, val_main_v20, v14_at]

theorem v256_at (g : FVec Ideal S64 .f32) (r : Fin 32768) (j : Fin 512) : val_main_v256 (F := Ideal) x0 x1 x2 g (ix2 r j)
    = headNorm (fun e => S x0 x1 x2 ⟨r.val / 2048, by omega⟩ ⟨r.val % 2048, by omega⟩ ⟨1832 + (j.val / 64 * 64 + e.val), by omega⟩) (fun e => g (ix1 e)) ⟨j.val % 64, by omega⟩ * Ideal.ofBits .f32 0x3E000000#32 := by
  pointwise [val_main_v256, val_main_v255, val_main_v254, val_main_v253, val_main_cst_27, v217_at]

theorem v257_at (g : FVec Ideal S64 .f32) (r : Fin 32768) (j : Fin 512) : val_main_v257 (F := Ideal) x0 x1 x2 g (ix2 r j)
    = headNorm (fun e => S x0 x1 x2 ⟨r.val / 2048, by omega⟩ ⟨r.val % 2048, by omega⟩ ⟨2344 + (j.val / 64 * 64 + e.val), by omega⟩) (fun e => g (ix1 e)) ⟨j.val % 64, by omega⟩ := by
  pointwise [val_main_v257, v231_at]

theorem v259_at (g : FVec Ideal S64 .f32) (r : Fin 32768) (j : Fin 512) : val_main_v259 (F := Ideal) x0 x1 x2 g (ix2 r j)
    = headNorm (fun e => S x0 x1 x2 ⟨r.val / 2048, by omega⟩ ⟨r.val % 2048, by omega⟩ ⟨2344 + (j.val / 64 * 64 + e.val), by omega⟩) (fun e => g (ix1 e)) ⟨j.val % 64, by omega⟩ := by
  pointwise [val_main_v259, val_main_v258, v231_at]

theorem v260_at (r : Fin 32768) (j : Fin 512) : val_main_v260 (F := Ideal) x0 x1 x2 (ix2 r j)
    = S x0 x1 x2 ⟨r.val / 2048, by omega⟩ ⟨r.val % 2048, by omega⟩ ⟨2856 + j.val, by omega⟩ := by
  pointwise [val_main_v260, val_main_v232, val_main_v23, v14_at]
  try exact cols x0 x1 x2 2856 (by omega) _ _ j

theorem v262_at (r : Fin 32768) (j : Fin 512) : val_main_v262 (F := Ideal) x0 x1 x2 (ix2 r j)
    = S x0 x1 x2 ⟨r.val / 2048, by omega⟩ ⟨r.val % 2048, by omega⟩ ⟨2856 + j.val, by omega⟩ := by
  pointwise [val_main_v262, val_main_v261, val_main_v232, val_main_v23, v14_at]
  try exact cols x0 x1 x2 2856 (by omega) _ _ j

end Cert.ProjReference
-- ==== Proof.Proof.ProjTiles.lean ====
module

public import proofs.«01_k».proof.Proof.Proof.ProjBlocks
public import proofs.«01_k».proof.Proof.Proof.ProjHost
public import proofs.«01_k».proof.Proof.Proof.ProjReference

/-! One row tile of the projection kernel, read over the arguments: the blocks a grid point stages are slices of the
prepared arrays, so the tile's rows are the reference's rows. -/

@[expose] public section

set_option maxRecDepth 16384

noncomputable section

namespace Cert.ProjTiles

open Idealize.ShloMosaic Idealize.ShloMosaic.TcCoe Idealize.SL.Sem Cert.ProjIdeal Cert.ProjIdeal.Gen Cert.ProjIdeal.Body Cert.ProjSpec Cert.ProjHost
open Idealize.ShloMosaic.Pipeline (Dat)

variable (m : (ℓ : Loc nD τ sig) → Buf (Elt Ideal) ℓ)

/-- Every window's block at grid point `t`: the token tiles move with `t`, the rotation tables with `t % 4`, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val % 4, 0] ∧ win0_7.index t = ![t.val % 4, 0] ∧ win0_8.index t = ![t.val % 4, 0] ∧ win0_9.index t = ![t.val % 4, 0]
    ∧ win0_10.index t = ![t.val / 4, 0, t.val % 4] ∧ win0_11.index t = ![t.val, 0] ∧ win0_12.index t = ![t.val, 0] ∧ win0_13.index t = ![t.val, 0]
    ∧ win0_14.index t = ![t.val / 4, t.val % 4, 0, 0] ∧ win0_15.index t = ![t.val / 4, 0, t.val % 4] ∧ win0_16.index t = ![t.val, 0]
    ∧ win0_17.index t = ![t.val, 0] ∧ win0_18.index t = ![t.val / 4, 0, t.val % 4] ∧ win0_19.index t = ![t.val, 0] ∧ win0_20.index t = ![t.val, 0]
    ∧ win0_21.index t = ![t.val, 0] ∧ win0_22.index t = ![t.val, 0] ∧ win0_23.index t = ![t.val, 0] :=
  (by decide +kernel : ∀ t : Fin grid0.N, _)

theorem pt_lt (t : Fin cfg0.N) : t.val < 64 := lt_of_lt_of_eq t.isLt N_0

theorem rows (c : Dev nD) (t : Fin cfg0.N) (r : Fin 512) (k : Fin 1024) :
    iblk m c 0 t (ix2 r k) = V m c main_v88 (ix2 ⟨512 * t.val + r.val, by have := pt_lt t; omega⟩ k) := by
  have ht := pt_lt t
  blk_point [iblk, idx t]

theorem gain (c : Dev nD) (t : Fin cfg0.N) (k : Fin 1024) : iblk m c 1 t (ix2 0 k) = V m c main_v38 (ix2 0 k) := by
  blk_point [iblk, idx t]

theorem weight (c : Dev nD) (t : Fin cfg0.N) (k : Fin 1024) (j : Fin 3456) : iblk m c 2 t (ix2 k j) = V m c main_v5 (ix2 k j) := by
  blk_point [iblk, idx t]

theorem average (c : Dev nD) (t : Fin cfg0.N) (k j : Fin 512) : iblk m c 3 t (ix2 k j) = V m c main_v16 (ix2 k j) := by
  blk_point [iblk, idx t]

theorem gains (c : Dev nD) (t : Fin cfg0.N) (a : Fin 4) (j : Fin 512) : iblk m c 4 t (ix2 a j) = V m c main_v33 (ix2 a j) := by
  blk_point [iblk, idx t]

theorem igain (c : Dev nD) (t : Fin cfg0.N) (j : Fin 128) : iblk m c 5 t (ix2 0 j) = V m c main_v37 (ix2 0 j) := by
  blk_point [iblk, idx t]

theorem cosines (c : Dev nD) (t : Fin cfg0.N) (r j : Fin 512) :
    iblk m c 6 t (ix2 r j) = V m c main_v57 (ix2 ⟨512 * (t.val % 4) + r.val, by omega⟩ j) := by
  blk_point [iblk, idx t]

theorem sines (c : Dev nD) (t : Fin cfg0.N) (r j : Fin 512) :
    iblk m c 7 t (ix2 r j) = V m c main_v62 (ix2 ⟨512 * (t.val % 4) + r.val, by omega⟩ j) := by
  blk_point [iblk, idx t]

theorem icosines (c : Dev nD) (t : Fin cfg0.N) (r : Fin 512) (j : Fin 384) :
    iblk m c 8 t (ix2 r j) = V m c main_v85 (ix2 ⟨512 * (t.val % 4) + r.val, by omega⟩ j) := by
  blk_point [iblk, idx t]

theorem isines (c : Dev nD) (t : Fin cfg0.N) (r : Fin 512) (j : Fin 384) :
    iblk m c 9 t (ix2 r j) = V m c main_v87 (ix2 ⟨512 * (t.val % 4) + r.val, by omega⟩ j) := by
  blk_point [iblk, idx t]

end Cert.ProjTiles
-- ==== Proof.Proof.ProjPoints.lean ====
module

public import proofs.«01_k».proof.Proof.Proof.ProjTiles

/-! A grid point's blocks of the projection kernel hold the reference's entries of the same tokens. -/

@[expose] public section

set_option maxRecDepth 16384

noncomputable section

namespace Cert.ProjPoints

open Idealize.ShloMosaic Idealize.ShloMosaic.TcCoe Idealize.SL.Sem Cert.ProjIdeal Cert.ProjIdeal.Gen Cert.ProjIdeal.Body Cert.ProjSpec Cert.ProjHost Cert.ProjTiles
open Idealize.ShloMosaic.Pipeline (Dat)

variable (m : (ℓ : Loc nD τ sig) → Buf (Elt Ideal) ℓ)

/-- A projected entry of a tile is the reference's, its column looked up. -/
theorem T_tile (c : Dev nD) (t : Fin cfg0.N) (r : Fin 512) (b : Fin 16) (p : Fin 2048) (hb : b.val = t.val / 4) (hp : p.val = 512 * (t.val % 4) + r.val) (j : Fin 3456) (k : Fin 5416)
    (hk : (j.val < 1536 ∧ k.val = j.val) ∨ (1536 ≤ j.val ∧ j.val < 3072 ∧ k.val = j.val + 296) ∨ (3072 ≤ j.val ∧ j.val < 3368 ∧ k.val = j.val - 1536)) :
    ProjBlocks.T (iblk m c 0 t) (iblk m c 1 t) (iblk m c 2 t) r j = ProjReference.S (m ((c : Thread nD τ).loc main_arg0)) (m ((c : Thread nD τ).loc main_arg1)) (m ((c : Thread nD τ).loc main_arg2)) b p k := by
  have ht := pt_lt t
  unfold ProjBlocks.T ProjReference.S seg
  refine Finset.sum_congr rfl fun x _ => congrArg₂ (· * ·) (congrArg₂ (fun f g => rms f g x) (funext fun k => ?_) (funext fun k => ?_)) ?_
  · refine (rows m c t r k).trans ((rows_at m c _ k).trans (congrArg₂ (fun a d => (m ((c : Thread nD τ).loc main_arg0)) (ix3 a d k)) (Fin.ext ?_) (Fin.ext ?_)))
    · show (512 * t.val + r.val) / 2048 = b.val
      omega
    · show (512 * t.val + r.val) % 2048 = p.val
      omega
  · exact (gain m c t k).trans (gain_at m c k)
  · refine (weight m c t x j).trans ((w_at m c x j).trans ?_)
    rcases hk with ⟨h, e⟩ | ⟨h, h', e⟩ | ⟨h, h', e⟩
    · rw [dif_pos h]
      exact congrArg (fun i => (m ((c : Thread nD τ).loc main_arg2)) (ix2 x i)) (Fin.ext (by show j.val = k.val; omega))
    · rw [dif_neg (by omega), dif_pos (by omega)]
      exact congrArg (fun i => (m ((c : Thread nD τ).loc main_arg2)) (ix2 x i)) (Fin.ext (by show 1832 + (j.val - 1536) = k.val; omega))
    · rw [dif_neg (by omega), dif_neg (by omega), dif_pos (by omega)]
      exact congrArg (fun i => (m ((c : Thread nD τ).loc main_arg2)) (ix2 x i)) (Fin.ext (by show 1536 + (j.val - 1536 - 1536) = k.val; omega))

theorem avg (c : Dev nD) (t : Fin cfg0.N) (k j : Fin 512) : iblk m c 3 t (ix2 k j) = if k.val / 64 = j.val / 64 then Cert.ProjKernel.frac64 else 0 :=
  (average m c t k j).trans (hd_at m c k j)

theorem co (c : Dev nD) (t : Fin cfg0.N) (r : Fin 512) (p : Fin 2048) (hp : p.val = 512 * (t.val % 4) + r.val) (j : Fin 512) :
    iblk m c 6 t (ix2 r j) = if h : j.val % 64 < 32 then cos64 p ⟨j.val % 64, by omega⟩ else cos64 p ⟨j.val % 64 - 32, by omega⟩ := by
  exact (cosines m c t r j).trans ((congrArg (fun n => V m c main_v57 (ix2 n j)) (Fin.ext hp.symm)).trans (cos_at m c p j))

theorem si (c : Dev nD) (t : Fin cfg0.N) (r : Fin 512) (p : Fin 2048) (hp : p.val = 512 * (t.val % 4) + r.val) (j : Fin 512) :
    iblk m c 7 t (ix2 r j) = if h : j.val % 64 < 32 then -sin64 p ⟨j.val % 64, by omega⟩ else sin64 p ⟨j.val % 64 - 32, by omega⟩ := by
  exact (sines m c t r j).trans ((congrArg (fun n => V m c main_v62 (ix2 n j)) (Fin.ext hp.symm)).trans (sin_at m c p j))

theorem ico (c : Dev nD) (t : Fin cfg0.N) (r : Fin 512) (p : Fin 2048) (hp : p.val = 512 * (t.val % 4) + r.val) (j : Fin 384) :
    iblk m c 8 t (ix2 r j) = if h : j.val < 288 then if h : j.val % 32 < 16 then cos32 p ⟨j.val % 32, by omega⟩ else cos32 p ⟨j.val % 32 - 16, by omega⟩ else 1 := by
  exact (icosines m c t r j).trans ((congrArg (fun n => V m c main_v85 (ix2 n j)) (Fin.ext hp.symm)).trans (icos_at m c p j))

theorem isi (c : Dev nD) (t : Fin cfg0.N) (r : Fin 512) (p : Fin 2048) (hp : p.val = 512 * (t.val % 4) + r.val) (j : Fin 384) :
    iblk m c 9 t (ix2 r j) = if h : j.val < 288 then if h : j.val % 32 < 16 then -sin32 p ⟨j.val % 32, by omega⟩ else sin32 p ⟨j.val % 32 - 16, by omega⟩ else 0 := by
  exact (isines m c t r j).trans ((congrArg (fun n => V m c main_v87 (ix2 n j)) (Fin.ext hp.symm)).trans (isin_at m c p j))

theorem gain0 (c : Dev nD) (t : Fin cfg0.N) (j : Fin 512) : iblk m c 4 t (ix2 0 j) = (m ((c : Thread nD τ).loc main_arg3)) (ix1 ⟨j.val % 64, by omega⟩) :=
  (gains m c t 0 j).trans ((gains_at m c 0 j).trans (by rfl))

theorem gain1 (c : Dev nD) (t : Fin cfg0.N) (j : Fin 512) : iblk m c 4 t (ix2 1 j) = (m ((c : Thread nD τ).loc main_arg4)) (ix1 ⟨j.val % 64, by omega⟩) :=
  (gains m c t 1 j).trans ((gains_at m c 1 j).trans (by rfl))

theorem gain2 (c : Dev nD) (t : Fin cfg0.N) (j : Fin 512) : iblk m c 4 t (ix2 2 j) = (m ((c : Thread nD τ).loc main_arg6)) (ix1 ⟨j.val % 64, by omega⟩) :=
  (gains m c t 2 j).trans ((gains_at m c 2 j).trans (by rfl))

theorem gain3 (c : Dev nD) (t : Fin cfg0.N) (j : Fin 512) : iblk m c 4 t (ix2 3 j) = (m ((c : Thread nD τ).loc main_arg7)) (ix1 ⟨j.val % 64, by omega⟩) :=
  (gains m c t 3 j).trans ((gains_at m c 3 j).trans (by rfl))

theorem igain_lo (c : Dev nD) (t : Fin cfg0.N) (j : Fin 32) : iblk m c 5 t (ix2 0 ⟨j.val, by omega⟩) = (m ((c : Thread nD τ).loc main_arg5)) (ix1 j) :=
  (igain m c t ⟨j.val, by omega⟩).trans ((gidx_at m c ⟨j.val, by omega⟩).trans (dif_pos j.isLt))

theorem igain_hi (c : Dev nD) (t : Fin cfg0.N) (j : Fin 8) : iblk m c 5 t (ix2 0 ⟨32 + j.val, by omega⟩) = Ideal.ofBits .f32 0x3EB504F3#32 := by
  refine (igain m c t ⟨32 + j.val, by omega⟩).trans ((gidx_at m c ⟨32 + j.val, by omega⟩).trans ?_)
  rw [dif_neg (by show ¬ 32 + j.val < 32; omega), dif_pos (by show 32 + j.val - 32 < 8; omega)]

theorem point10 (c : Dev nD) (t : Fin cfg0.N) (r : Fin 512) (b : Fin 16) (p : Fin 2048) (hb : b.val = t.val / 4) (hp : p.val = 512 * (t.val % 4) + r.val) (j : Fin 512) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 j r) = turn64 (headNorm (fun e => ProjReference.S (m ((c : Thread nD τ).loc main_arg0)) (m ((c : Thread nD τ).loc main_arg1)) (m ((c : Thread nD τ).loc main_arg2)) b p ⟨j.val / 64 * 64 + e.val, by omega⟩) (fun e => (m ((c : Thread nD τ).loc main_arg3)) (ix1 e))) (cos64 p) (sin64 p) ⟨j.val % 64, by omega⟩ * Ideal.ofBits .f32 0x3E000000#32 :=
  (ProjBlocks.out10_at _ _ _ _ _ _ _ _ _ _ (fun e => (m ((c : Thread nD τ).loc main_arg3)) (ix1 e)) (cos64 p) (sin64 p) r (fun k j => avg m c t k j) (fun j => gain0 m c t j)
    (fun j => co m c t r p hp j) (fun j => si m c t r p hp j) j).trans
    (congrArg (fun f => turn64 (headNorm f (fun e => (m ((c : Thread nD τ).loc main_arg3)) (ix1 e))) (cos64 p) (sin64 p) ⟨j.val % 64, by omega⟩ * Ideal.ofBits .f32 0x3E000000#32) (funext fun e => T_tile m c t r b p hb hp _ _ (by dsimp only; omega)))

theorem point11 (c : Dev nD) (t : Fin cfg0.N) (r : Fin 512) (b : Fin 16) (p : Fin 2048) (hb : b.val = t.val / 4) (hp : p.val = 512 * (t.val % 4) + r.val) (j : Fin 512) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = turn64 (headNorm (fun e => ProjReference.S (m ((c : Thread nD τ).loc main_arg0)) (m ((c : Thread nD τ).loc main_arg1)) (m ((c : Thread nD τ).loc main_arg2)) b p ⟨512 + (j.val / 64 * 64 + e.val), by omega⟩) (fun e => (m ((c : Thread nD τ).loc main_arg4)) (ix1 e))) (cos64 p) (sin64 p) ⟨j.val % 64, by omega⟩ :=
  (ProjBlocks.out11_at _ _ _ _ _ _ _ _ _ _ (fun e => (m ((c : Thread nD τ).loc main_arg4)) (ix1 e)) (cos64 p) (sin64 p) r (fun k j => avg m c t k j) (fun j => gain1 m c t j)
    (fun j => co m c t r p hp j) (fun j => si m c t r p hp j) j).trans
    (congrArg (fun f => turn64 (headNorm f (fun e => (m ((c : Thread nD τ).loc main_arg4)) (ix1 e))) (cos64 p) (sin64 p) ⟨j.val % 64, by omega⟩) (funext fun e => T_tile m c t r b p hb hp _ _ (by dsimp only; omega)))

theorem point12 (c : Dev nD) (t : Fin cfg0.N) (r : Fin 512) (b : Fin 16) (p : Fin 2048) (hb : b.val = t.val / 4) (hp : p.val = 512 * (t.val % 4) + r.val) (j : Fin 512) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = turn64 (headNorm (fun e => ProjReference.S (m ((c : Thread nD τ).loc main_arg0)) (m ((c : Thread nD τ).loc main_arg1)) (m ((c : Thread nD τ).loc main_arg2)) b p ⟨512 + (j.val / 64 * 64 + e.val), by omega⟩) (fun e => (m ((c : Thread nD τ).loc main_arg4)) (ix1 e))) (cos64 p) (sin64 p) ⟨j.val % 64, by omega⟩ :=
  (ProjBlocks.out12_at _ _ _ _ _ _ _ _ _ _ (fun e => (m ((c : Thread nD τ).loc main_arg4)) (ix1 e)) (cos64 p) (sin64 p) r (fun k j => avg m c t k j) (fun j => gain1 m c t j)
    (fun j => co m c t r p hp j) (fun j => si m c t r p hp j) j).trans
    (congrArg (fun f => turn64 (headNorm f (fun e => (m ((c : Thread nD τ).loc main_arg4)) (ix1 e))) (cos64 p) (sin64 p) ⟨j.val % 64, by omega⟩) (funext fun e => T_tile m c t r b p hb hp _ _ (by dsimp only; omega)))

theorem point19 (c : Dev nD) (t : Fin cfg0.N) (r : Fin 512) (b : Fin 16) (p : Fin 2048) (hb : b.val = t.val / 4) (hp : p.val = 512 * (t.val % 4) + r.val) (j : Fin 512) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = headNorm (fun e => ProjReference.S (m ((c : Thread nD τ).loc main_arg0)) (m ((c : Thread nD τ).loc main_arg1)) (m ((c : Thread nD τ).loc main_arg2)) b p ⟨1832 + (j.val / 64 * 64 + e.val), by omega⟩) (fun e => (m ((c : Thread nD τ).loc main_arg6)) (ix1 e)) ⟨j.val % 64, by omega⟩ * Ideal.ofBits .f32 0x3E000000#32 :=
  (ProjBlocks.out19_at _ _ _ _ _ _ _ _ _ _ (fun e => (m ((c : Thread nD τ).loc main_arg6)) (ix1 e)) r (fun k j => avg m c t k j) (fun j => gain2 m c t j) j).trans
    (congrArg (fun f => headNorm f (fun e => (m ((c : Thread nD τ).loc main_arg6)) (ix1 e)) ⟨j.val % 64, by omega⟩ * Ideal.ofBits .f32 0x3E000000#32) (funext fun e => T_tile m c t r b p hb hp _ _ (by dsimp only; omega)))

theorem point20 (c : Dev nD) (t : Fin cfg0.N) (r : Fin 512) (b : Fin 16) (p : Fin 2048) (hb : b.val = t.val / 4) (hp : p.val = 512 * (t.val % 4) + r.val) (j : Fin 512) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = headNorm (fun e => ProjReference.S (m ((c : Thread nD τ).loc main_arg0)) (m ((c : Thread nD τ).loc main_arg1)) (m ((c : Thread nD τ).loc main_arg2)) b p ⟨2344 + (j.val / 64 * 64 + e.val), by omega⟩) (fun e => (m ((c : Thread nD τ).loc main_arg7)) (ix1 e)) ⟨j.val % 64, by omega⟩ :=
  (ProjBlocks.out20_at _ _ _ _ _ _ _ _ _ _ (fun e => (m ((c : Thread nD τ).loc main_arg7)) (ix1 e)) r (fun k j => avg m c t k j) (fun j => gain3 m c t j) j).trans
    (congrArg (fun f => headNorm f (fun e => (m ((c : Thread nD τ).loc main_arg7)) (ix1 e)) ⟨j.val % 64, by omega⟩) (funext fun e => T_tile m c t r b p hb hp _ _ (by dsimp only; omega)))

theorem point21 (c : Dev nD) (t : Fin cfg0.N) (r : Fin 512) (b : Fin 16) (p : Fin 2048) (hb : b.val = t.val / 4) (hp : p.val = 512 * (t.val % 4) + r.val) (j : Fin 512) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = headNorm (fun e => ProjReference.S (m ((c : Thread nD τ).loc main_arg0)) (m ((c : Thread nD τ).loc main_arg1)) (m ((c : Thread nD τ).loc main_arg2)) b p ⟨2344 + (j.val / 64 * 64 + e.val), by omega⟩) (fun e => (m ((c : Thread nD τ).loc main_arg7)) (ix1 e)) ⟨j.val % 64, by omega⟩ :=
  (ProjBlocks.out21_at _ _ _ _ _ _ _ _ _ _ (fun e => (m ((c : Thread nD τ).loc main_arg7)) (ix1 e)) r (fun k j => avg m c t k j) (fun j => gain3 m c t j) j).trans
    (congrArg (fun f => headNorm f (fun e => (m ((c : Thread nD τ).loc main_arg7)) (ix1 e)) ⟨j.val % 64, by omega⟩) (funext fun e => T_tile m c t r b p hb hp _ _ (by dsimp only; omega)))

theorem point13 (c : Dev nD) (t : Fin cfg0.N) (r : Fin 512) (b : Fin 16) (p : Fin 2048) (hb : b.val = t.val / 4) (hp : p.val = 512 * (t.val % 4) + r.val) (j : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = ProjReference.S (m ((c : Thread nD τ).loc main_arg0)) (m ((c : Thread nD τ).loc main_arg1)) (m ((c : Thread nD τ).loc main_arg2)) b p ⟨1024 + j.val, by omega⟩ :=
  (ProjBlocks.out13_at _ _ _ _ _ _ _ _ _ _ r j).trans (T_tile m c t r b p hb hp _ _ (by dsimp only; omega))

theorem point22 (c : Dev nD) (t : Fin cfg0.N) (r : Fin 512) (b : Fin 16) (p : Fin 2048) (hb : b.val = t.val / 4) (hp : p.val = 512 * (t.val % 4) + r.val) (j : Fin 512) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = ProjReference.S (m ((c : Thread nD τ).loc main_arg0)) (m ((c : Thread nD τ).loc main_arg1)) (m ((c : Thread nD τ).loc main_arg2)) b p ⟨2856 + j.val, by omega⟩ :=
  (ProjBlocks.out22_at _ _ _ _ _ _ _ _ _ _ r j).trans (T_tile m c t r b p hb hp _ _ (by dsimp only; omega))

theorem point23 (c : Dev nD) (t : Fin cfg0.N) (r : Fin 512) (b : Fin 16) (p : Fin 2048) (hb : b.val = t.val / 4) (hp : p.val = 512 * (t.val % 4) + r.val) (j : Fin 512) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = ProjReference.S (m ((c : Thread nD τ).loc main_arg0)) (m ((c : Thread nD τ).loc main_arg1)) (m ((c : Thread nD τ).loc main_arg2)) b p ⟨2856 + j.val, by omega⟩ :=
  (ProjBlocks.out23_at _ _ _ _ _ _ _ _ _ _ r j).trans (T_tile m c t r b p hb hp _ _ (by dsimp only; omega))

theorem point14 (c : Dev nD) (t : Fin cfg0.N) (y : S1x2x512x256.Idx) (r : Fin 512) (hr : r.val = 256 * (y 1 : ℕ) + (y 3 : ℕ)) (b : Fin 16) (p : Fin 2048) (hb : b.val = t.val / 4) (hp : p.val = 512 * (t.val % 4) + r.val) (j : Fin 512) (hj : j.val = (y 2 : ℕ)) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) y = ProjReference.S (m ((c : Thread nD τ).loc main_arg0)) (m ((c : Thread nD τ).loc main_arg1)) (m ((c : Thread nD τ).loc main_arg2)) b p ⟨1024 + j.val, by omega⟩ := by
  refine (ProjBlocks.out14_at _ _ _ _ _ _ _ _ _ _ y).trans ((congrArg₂ (fun a d => ProjBlocks.T (iblk m c 0 t) (iblk m c 1 t) (iblk m c 2 t) a d) (Fin.ext hr.symm) (show _ = (⟨1024 + j.val, by omega⟩ : Fin 3456) from Fin.ext ?_)).trans
    (T_tile m c t r b p hb hp _ _ (by dsimp only; omega)))
  show 1024 + (y 2 : ℕ) = 1024 + j.val
  omega

theorem point15 (c : Dev nD) (t : Fin cfg0.N) (r : Fin 512) (b : Fin 16) (p : Fin 2048) (hb : b.val = t.val / 4) (hp : p.val = 512 * (t.val % 4) + r.val) (j : Fin 256) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 j r) = turn32 (fun e => ProjReference.S (m ((c : Thread nD τ).loc main_arg0)) (m ((c : Thread nD τ).loc main_arg1)) (m ((c : Thread nD τ).loc main_arg2)) b p ⟨1536 + (j.val / 32 * 32 + e.val), by omega⟩) (cos32 p) (sin32 p) ⟨j.val % 32, by omega⟩ :=
  (ProjBlocks.out15_at _ _ _ _ _ _ _ _ _ _ r j).trans ((ProjKernel.idxOut_query _ _ _ _ (cos32 p) (sin32 p) (fun j => ico m c t r p hp j) (fun j => isi m c t r p hp j) j).trans
    (congrArg (fun f => turn32 f (cos32 p) (sin32 p) ⟨j.val % 32, by omega⟩) (funext fun e => T_tile m c t r b p hb hp _ _ (by dsimp only; omega))))

/-- The indexer's key of a token. -/
theorem key_tile (c : Dev nD) (t : Fin cfg0.N) (r : Fin 512) (b : Fin 16) (p : Fin 2048) (hb : b.val = t.val / 4) (hp : p.val = 512 * (t.val % 4) + r.val) (j : Fin 32) :
    ProjKernel.idxOut (fun j => ProjBlocks.T (iblk m c 0 t) (iblk m c 1 t) (iblk m c 2 t) r ⟨3072 + j.val, by omega⟩) (fun e => iblk m c 5 t (ix2 0 e)) (fun j => iblk m c 8 t (ix2 r j)) (fun j => iblk m c 9 t (ix2 r j)) ⟨256 + j.val, by omega⟩
      = turn32 (keyNorm (fun e => ProjReference.S (m ((c : Thread nD τ).loc main_arg0)) (m ((c : Thread nD τ).loc main_arg1)) (m ((c : Thread nD τ).loc main_arg2)) b p ⟨1792 + e.val, by omega⟩) (fun e => (m ((c : Thread nD τ).loc main_arg5)) (ix1 e))) (cos32 p) (sin32 p) j :=
  (ProjKernel.idxOut_key _ _ _ _ (cos32 p) (sin32 p) (fun j => ico m c t r p hp j) (fun j => isi m c t r p hp j) j).trans
    (congrArg₂ (fun f g => turn32 (keyNorm f g) (cos32 p) (sin32 p) j) (funext fun e => T_tile m c t r b p hb hp _ _ (by dsimp only; omega)) (funext fun e => igain_lo m c t e))

theorem point16 (c : Dev nD) (t : Fin cfg0.N) (r : Fin 512) (b : Fin 16) (p : Fin 2048) (hb : b.val = t.val / 4) (hp : p.val = 512 * (t.val % 4) + r.val) (j : Fin 32) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = turn32 (keyNorm (fun e => ProjReference.S (m ((c : Thread nD τ).loc main_arg0)) (m ((c : Thread nD τ).loc main_arg1)) (m ((c : Thread nD τ).loc main_arg2)) b p ⟨1792 + e.val, by omega⟩) (fun e => (m ((c : Thread nD τ).loc main_arg5)) (ix1 e))) (cos32 p) (sin32 p) j :=
  (ProjBlocks.out16_at _ _ _ _ _ _ _ _ _ _ r j).trans (key_tile m c t r b p hb hp j)

theorem point17 (c : Dev nD) (t : Fin cfg0.N) (r : Fin 512) (b : Fin 16) (p : Fin 2048) (hb : b.val = t.val / 4) (hp : p.val = 512 * (t.val % 4) + r.val) (j : Fin 128) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = if h : j.val < 32 then turn32 (keyNorm (fun e => ProjReference.S (m ((c : Thread nD τ).loc main_arg0)) (m ((c : Thread nD τ).loc main_arg1)) (m ((c : Thread nD τ).loc main_arg2)) b p ⟨1792 + e.val, by omega⟩) (fun e => (m ((c : Thread nD τ).loc main_arg5)) (ix1 e))) (cos32 p) (sin32 p) ⟨j.val, by omega⟩ else 0 := by
  refine (ProjBlocks.out17_at _ _ _ _ _ _ _ _ _ _ r j).trans ?_
  by_cases h : j.val < 32
  · rw [if_pos h, dif_pos h]
    exact key_tile m c t r b p hb hp ⟨j.val, h⟩
  · rw [if_neg h, dif_neg h]

theorem point18 (c : Dev nD) (t : Fin cfg0.N) (r : Fin 512) (b : Fin 16) (p : Fin 2048) (hb : b.val = t.val / 4) (hp : p.val = 512 * (t.val % 4) + r.val) (j : Fin 8) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 j r) = ProjReference.S (m ((c : Thread nD τ).loc main_arg0)) (m ((c : Thread nD τ).loc main_arg1)) (m ((c : Thread nD τ).loc main_arg2)) b p ⟨1824 + j.val, by omega⟩ * Ideal.ofBits .f32 0x3EB504F3#32 :=
  (ProjBlocks.out18_at _ _ _ _ _ _ _ _ _ _ r j).trans ((ProjKernel.idxOut_weight _ _ _ _ (cos32 p) (sin32 p) (fun j => ico m c t r p hp j) (fun j => isi m c t r p hp j) j).trans
    (congrArg₂ (· * ·) (T_tile m c t r b p hb hp _ _ (by dsimp only; omega)) (igain_hi m c t j)))

end Cert.ProjPoints
-- ==== Proof.Proof.ProjValue.lean ====
module

public import proofs.«01_k».proof.Proof.Proof.ProjPoints

/-! The projection kernel's fourteen result arrays after the run are the reference's, over the same arguments. -/

@[expose] public section

set_option maxRecDepth 16384

noncomputable section

namespace Cert.ProjValue

open Idealize.ShloMosaic Idealize.ShloMosaic.TcCoe Idealize.SL.Sem Cert.ProjIdeal Cert.ProjIdeal.Gen Cert.ProjIdeal.Body Cert.ProjSpec Cert.ProjHost Cert.ProjTiles Cert.ProjPoints
open Idealize.ShloMosaic.Pipeline (Dat)

variable (m : (ℓ : Loc nD τ sig) → Buf (Elt Ideal) ℓ)

/-- Result 0 of the call. -/
theorem final10 (c : Dev nD) : (dats m 0 c).arrAt 10 cfg0.N = Cert.ProjRefIdeal.Read.val_main_v241 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  have ht := pt_lt t
  have h2 : (y 2 : ℕ) < 512 := (y 2).isLt
  refine Eq.trans (congrArg _ (show y = ix3 0 (y 1) (y 2) from by blk_ext))
    ((point10 m c t (y 2) ⟨t.val / 4, by omega⟩ ⟨512 * (t.val % 4) + (y 2 : ℕ), by omega⟩ rfl rfl (y 1)).trans
      ((ProjReference.v241_at (m ((c : Thread nD τ).loc main_arg0)) (m ((c : Thread nD τ).loc main_arg1)) (m ((c : Thread nD τ).loc main_arg2)) (m ((c : Thread nD τ).loc main_arg3)) ⟨t.val / 4, by omega⟩ (y 1) ⟨512 * (t.val % 4) + (y 2 : ℕ), by omega⟩).symm.trans (congrArg _ ?_)))
  blk_ext [idx t]

/-- Result 1 of the call. -/
theorem final11 (c : Dev nD) : (dats m 0 c).arrAt 11 cfg0.N = Cert.ProjRefIdeal.Read.val_main_v242 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  have ht := pt_lt t
  have h0 : (y 0 : ℕ) < 512 := (y 0).isLt
  refine Eq.trans (congrArg _ (show y = ix2 (y 0) (y 1) from by blk_ext))
    ((point11 m c t (y 0) ⟨(512 * t.val + (y 0 : ℕ)) / 2048, by omega⟩ ⟨(512 * t.val + (y 0 : ℕ)) % 2048, by omega⟩ (by dsimp only; omega) (by dsimp only; omega) (y 1)).trans
      ((ProjReference.v242_at (m ((c : Thread nD τ).loc main_arg0)) (m ((c : Thread nD τ).loc main_arg1)) (m ((c : Thread nD τ).loc main_arg2)) (m ((c : Thread nD τ).loc main_arg4)) ⟨512 * t.val + (y 0 : ℕ), by omega⟩ (y 1)).symm.trans (congrArg _ ?_)))
  blk_ext [idx t]

/-- Result 2 of the call. -/
theorem final12 (c : Dev nD) : (dats m 0 c).arrAt 12 cfg0.N = Cert.ProjRefIdeal.Read.val_main_v244 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 12 _ (by decide +kernel) fun t _ y => ?_
  blk_simp
  rw [after0_12]
  have ht := pt_lt t
  have h0 : (y 0 : ℕ) < 512 := (y 0).isLt
  refine Eq.trans (congrArg _ (show y = ix2 (y 0) (y 1) from by blk_ext))
    ((point12 m c t (y 0) ⟨(512 * t.val + (y 0 : ℕ)) / 2048, by omega⟩ ⟨(512 * t.val + (y 0 : ℕ)) % 2048, by omega⟩ (by dsimp only; omega) (by dsimp only; omega) (y 1)).trans
      ((ProjReference.v244_at (m ((c : Thread nD τ).loc main_arg0)) (m ((c : Thread nD τ).loc main_arg1)) (m ((c : Thread nD τ).loc main_arg2)) (m ((c : Thread nD τ).loc main_arg4)) ⟨512 * t.val + (y 0 : ℕ), by omega⟩ (y 1)).symm.trans (congrArg _ ?_)))
  blk_ext [idx t]

/-- Result 3 of the call. -/
theorem final13 (c : Dev nD) : (dats m 0 c).arrAt 13 cfg0.N = Cert.ProjRefIdeal.Read.val_main_v245 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  have ht := pt_lt t
  have h0 : (y 0 : ℕ) < 512 := (y 0).isLt
  refine Eq.trans (congrArg _ (show y = ix2 (y 0) (y 1) from by blk_ext))
    ((point13 m c t (y 0) ⟨(512 * t.val + (y 0 : ℕ)) / 2048, by omega⟩ ⟨(512 * t.val + (y 0 : ℕ)) % 2048, by omega⟩ (by dsimp only; omega) (by dsimp only; omega) (y 1)).trans
      ((ProjReference.v245_at (m ((c : Thread nD τ).loc main_arg0)) (m ((c : Thread nD τ).loc main_arg1)) (m ((c : Thread nD τ).loc main_arg2)) ⟨512 * t.val + (y 0 : ℕ), by omega⟩ (y 1)).symm.trans (congrArg _ ?_)))
  blk_ext [idx t]

/-- Result 4 of the call. -/
theorem final14 (c : Dev nD) : (dats m 0 c).arrAt 14 cfg0.N = Cert.ProjRefIdeal.Read.val_main_v246 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  have ht := pt_lt t
  have h1 : (y 1 : ℕ) < 2 := (y 1).isLt
  have h3 : (y 3 : ℕ) < 256 := (y 3).isLt
  refine (point14 m c t y ⟨256 * (y 1 : ℕ) + (y 3 : ℕ), by omega⟩ rfl ⟨t.val / 4, by omega⟩ ⟨(2 * (t.val % 4) + (y 1 : ℕ)) * 256 + (y 3 : ℕ), by omega⟩ rfl (by dsimp only; omega) (y 2) rfl).trans
    ((ProjReference.v246_at (m ((c : Thread nD τ).loc main_arg0)) (m ((c : Thread nD τ).loc main_arg1)) (m ((c : Thread nD τ).loc main_arg2)) ⟨t.val / 4, by omega⟩ ⟨2 * (t.val % 4) + (y 1 : ℕ), by omega⟩ (y 2) ⟨(y 3 : ℕ), by omega⟩).symm.trans (congrArg _ ?_))
  blk_ext [idx t]

/-- Result 5 of the call. -/
theorem final15 (c : Dev nD) : (dats m 0 c).arrAt 15 cfg0.N = Cert.ProjRefIdeal.Read.val_main_v249 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  have ht := pt_lt t
  have h2 : (y 2 : ℕ) < 512 := (y 2).isLt
  refine Eq.trans (congrArg _ (show y = ix3 0 (y 1) (y 2) from by blk_ext))
    ((point15 m c t (y 2) ⟨t.val / 4, by omega⟩ ⟨512 * (t.val % 4) + (y 2 : ℕ), by omega⟩ rfl rfl (y 1)).trans
      ((ProjReference.v249_at (m ((c : Thread nD τ).loc main_arg0)) (m ((c : Thread nD τ).loc main_arg1)) (m ((c : Thread nD τ).loc main_arg2)) ⟨t.val / 4, by omega⟩ (y 1) ⟨512 * (t.val % 4) + (y 2 : ℕ), by omega⟩).symm.trans (congrArg _ ?_)))
  blk_ext [idx t]

/-- Result 6 of the call. -/
theorem final16 (c : Dev nD) : (dats m 0 c).arrAt 16 cfg0.N = Cert.ProjRefIdeal.Read.val_main_v250 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 16 _ (by decide +kernel) fun t _ y => ?_
  blk_simp
  rw [after0_16]
  have ht := pt_lt t
  have h0 : (y 0 : ℕ) < 512 := (y 0).isLt
  refine Eq.trans (congrArg _ (show y = ix2 (y 0) (y 1) from by blk_ext))
    ((point16 m c t (y 0) ⟨(512 * t.val + (y 0 : ℕ)) / 2048, by omega⟩ ⟨(512 * t.val + (y 0 : ℕ)) % 2048, by omega⟩ (by dsimp only; omega) (by dsimp only; omega) (y 1)).trans
      ((ProjReference.v250_at (m ((c : Thread nD τ).loc main_arg0)) (m ((c : Thread nD τ).loc main_arg1)) (m ((c : Thread nD τ).loc main_arg2)) (m ((c : Thread nD τ).loc main_arg5)) ⟨512 * t.val + (y 0 : ℕ), by omega⟩ (y 1)).symm.trans (congrArg _ ?_)))
  blk_ext [idx t]

/-- Result 7 of the call. -/
theorem final17 (c : Dev nD) : (dats m 0 c).arrAt 17 cfg0.N = Cert.ProjRefIdeal.Read.val_main_v251 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 17 _ (by decide +kernel) fun t _ y => ?_
  blk_simp
  rw [after0_17]
  have ht := pt_lt t
  have h0 : (y 0 : ℕ) < 512 := (y 0).isLt
  refine Eq.trans (congrArg _ (show y = ix2 (y 0) (y 1) from by blk_ext))
    ((point17 m c t (y 0) ⟨(512 * t.val + (y 0 : ℕ)) / 2048, by omega⟩ ⟨(512 * t.val + (y 0 : ℕ)) % 2048, by omega⟩ (by dsimp only; omega) (by dsimp only; omega) (y 1)).trans
      ((ProjReference.v251_at (m ((c : Thread nD τ).loc main_arg0)) (m ((c : Thread nD τ).loc main_arg1)) (m ((c : Thread nD τ).loc main_arg2)) (m ((c : Thread nD τ).loc main_arg5)) ⟨512 * t.val + (y 0 : ℕ), by omega⟩ (y 1)).symm.trans (congrArg _ ?_)))
  blk_ext [idx t]

/-- Result 8 of the call. -/
theorem final18 (c : Dev nD) : (dats m 0 c).arrAt 18 cfg0.N = Cert.ProjRefIdeal.Read.val_main_v252 (F := Ideal) (m ((c : Thread nD τ).loc main_arg0)) (m ((c : Thread nD τ).loc main_arg1)) (m ((c : Thread nD τ).loc main_arg2)) := by
  refine (dats m 0 c).arrAt_eq_of_covers 18 _ (by decide +kernel) fun t _ y => ?_
  blk_simp
  rw [after0_18]
  have ht := pt_lt t
  have h2 : (y 2 : ℕ) < 512 := (y 2).isLt
  refine Eq.trans (congrArg _ (show y = ix3 0 (y 1) (y 2) from by blk_ext))
    ((point18 m c t (y 2) ⟨t.val / 4, by omega⟩ ⟨512 * (t.val % 4) + (y 2 : ℕ), by omega⟩ rfl rfl (y 1)).trans
      ((ProjReference.v252_at (m ((c : Thread nD τ).loc main_arg0)) (m ((c : Thread nD τ).loc main_arg1)) (m ((c : Thread nD τ).loc main_arg2)) ⟨t.val / 4, by omega⟩ (y 1) ⟨512 * (t.val % 4) + (y 2 : ℕ), by omega⟩).symm.trans (congrArg _ ?_)))
  blk_ext [idx t]

/-- Result 9 of the call. -/
theorem final19 (c : Dev nD) : (dats m 0 c).arrAt 19 cfg0.N = Cert.ProjRefIdeal.Read.val_main_v256 (F := Ideal) (m ((c : Thread nD τ).loc main_arg0)) (m ((c : Thread nD τ).loc main_arg1)) (m ((c : Thread nD τ).loc main_arg2)) (m ((c : Thread nD τ).loc main_arg6)) := by
  refine (dats m 0 c).arrAt_eq_of_covers 19 _ (by decide +kernel) fun t _ y => ?_
  blk_simp
  rw [after0_19]
  have ht := pt_lt t
  have h0 : (y 0 : ℕ) < 512 := (y 0).isLt
  refine Eq.trans (congrArg _ (show y = ix2 (y 0) (y 1) from by blk_ext))
    ((point19 m c t (y 0) ⟨(512 * t.val + (y 0 : ℕ)) / 2048, by omega⟩ ⟨(512 * t.val + (y 0 : ℕ)) % 2048, by omega⟩ (by dsimp only; omega) (by dsimp only; omega) (y 1)).trans
      ((ProjReference.v256_at (m ((c : Thread nD τ).loc main_arg0)) (m ((c : Thread nD τ).loc main_arg1)) (m ((c : Thread nD τ).loc main_arg2)) (m ((c : Thread nD τ).loc main_arg6)) ⟨512 * t.val + (y 0 : ℕ), by omega⟩ (y 1)).symm.trans (congrArg _ ?_)))
  blk_ext [idx t]

/-- Result 10 of the call. -/
theorem final20 (c : Dev nD) : (dats m 0 c).arrAt 20 cfg0.N = Cert.ProjRefIdeal.Read.val_main_v257 (F := Ideal) (m ((c : Thread nD τ).loc main_arg0)) (m ((c : Thread nD τ).loc main_arg1)) (m ((c : Thread nD τ).loc main_arg2)) (m ((c : Thread nD τ).loc main_arg7)) := by
  refine (dats m 0 c).arrAt_eq_of_covers 20 _ (by decide +kernel) fun t _ y => ?_
  blk_simp
  rw [after0_20]
  have ht := pt_lt t
  have h0 : (y 0 : ℕ) < 512 := (y 0).isLt
  refine Eq.trans (congrArg _ (show y = ix2 (y 0) (y 1) from by blk_ext))
    ((point20 m c t (y 0) ⟨(512 * t.val + (y 0 : ℕ)) / 2048, by omega⟩ ⟨(512 * t.val + (y 0 : ℕ)) % 2048, by omega⟩ (by dsimp only; omega) (by dsimp only; omega) (y 1)).trans
      ((ProjReference.v257_at (m ((c : Thread nD τ).loc main_arg0)) (m ((c : Thread nD τ).loc main_arg1)) (m ((c : Thread nD τ).loc main_arg2)) (m ((c : Thread nD τ).loc main_arg7)) ⟨512 * t.val + (y 0 : ℕ), by omega⟩ (y 1)).symm.trans (congrArg _ ?_)))
  blk_ext [idx t]

/-- Result 11 of the call. -/
theorem final21 (c : Dev nD) : (dats m 0 c).arrAt 21 cfg0.N = Cert.ProjRefIdeal.Read.val_main_v259 (F := Ideal) (m ((c : Thread nD τ).loc main_arg0)) (m ((c : Thread nD τ).loc main_arg1)) (m ((c : Thread nD τ).loc main_arg2)) (m ((c : Thread nD τ).loc main_arg7)) := by
  refine (dats m 0 c).arrAt_eq_of_covers 21 _ (by decide +kernel) fun t _ y => ?_
  blk_simp
  rw [after0_21]
  have ht := pt_lt t
  have h0 : (y 0 : ℕ) < 512 := (y 0).isLt
  refine Eq.trans (congrArg _ (show y = ix2 (y 0) (y 1) from by blk_ext))
    ((point21 m c t (y 0) ⟨(512 * t.val + (y 0 : ℕ)) / 2048, by omega⟩ ⟨(512 * t.val + (y 0 : ℕ)) % 2048, by omega⟩ (by dsimp only; omega) (by dsimp only; omega) (y 1)).trans
      ((ProjReference.v259_at (m ((c : Thread nD τ).loc main_arg0)) (m ((c : Thread nD τ).loc main_arg1)) (m ((c : Thread nD τ).loc main_arg2)) (m ((c : Thread nD τ).loc main_arg7)) ⟨512 * t.val + (y 0 : ℕ), by omega⟩ (y 1)).symm.trans (congrArg _ ?_)))
  blk_ext [idx t]

/-- Result 12 of the call. -/
theorem final22 (c : Dev nD) : (dats m 0 c).arrAt 22 cfg0.N = Cert.ProjRefIdeal.Read.val_main_v260 (F := Ideal) (m ((c : Thread nD τ).loc main_arg0)) (m ((c : Thread nD τ).loc main_arg1)) (m ((c : Thread nD τ).loc main_arg2)) := by
  refine (dats m 0 c).arrAt_eq_of_covers 22 _ (by decide +kernel) fun t _ y => ?_
  blk_simp
  rw [after0_22]
  have ht := pt_lt t
  have h0 : (y 0 : ℕ) < 512 := (y 0).isLt
  refine Eq.trans (congrArg _ (show y = ix2 (y 0) (y 1) from by blk_ext))
    ((point22 m c t (y 0) ⟨(512 * t.val + (y 0 : ℕ)) / 2048, by omega⟩ ⟨(512 * t.val + (y 0 : ℕ)) % 2048, by omega⟩ (by dsimp only; omega) (by dsimp only; omega) (y 1)).trans
      ((ProjReference.v260_at (m ((c : Thread nD τ).loc main_arg0)) (m ((c : Thread nD τ).loc main_arg1)) (m ((c : Thread nD τ).loc main_arg2)) ⟨512 * t.val + (y 0 : ℕ), by omega⟩ (y 1)).symm.trans (congrArg _ ?_)))
  blk_ext [idx t]

/-- Result 13 of the call. -/
theorem final23 (c : Dev nD) : (dats m 0 c).arrAt 23 cfg0.N = Cert.ProjRefIdeal.Read.val_main_v262 (F := Ideal) (m ((c : Thread nD τ).loc main_arg0)) (m ((c : Thread nD τ).loc main_arg1)) (m ((c : Thread nD τ).loc main_arg2)) := by
  refine (dats m 0 c).arrAt_eq_of_covers 23 _ (by decide +kernel) fun t _ y => ?_
  blk_simp
  rw [after0_23]
  have ht := pt_lt t
  have h0 : (y 0 : ℕ) < 512 := (y 0).isLt
  refine Eq.trans (congrArg _ (show y = ix2 (y 0) (y 1) from by blk_ext))
    ((point23 m c t (y 0) ⟨(512 * t.val + (y 0 : ℕ)) / 2048, by omega⟩ ⟨(512 * t.val + (y 0 : ℕ)) % 2048, by omega⟩ (by dsimp only; omega) (by dsimp only; omega) (y 1)).trans
      ((ProjReference.v262_at (m ((c : Thread nD τ).loc main_arg0)) (m ((c : Thread nD τ).loc main_arg1)) (m ((c : Thread nD τ).loc main_arg2)) ⟨512 * t.val + (y 0 : ℕ), by omega⟩ (y 1)).symm.trans (congrArg _ ?_)))
  blk_ext [idx t]

end Cert.ProjValue
-- ==== Proof.Proof.ProjRun.lean ====
module

public import proofs.«01_k».proof.Proof.Proof.ProjIdealBody

/-! The run of the projection kernel with each of its fourteen result arrays named, and its arguments unchanged. -/

@[expose] public section

set_option maxRecDepth 16384

noncomputable section

namespace Cert.ProjRun

open Idealize.ShloMosaic Idealize.ShloMosaic.TcCoe Idealize.SL Idealize.SL.RA Idealize.SL.Sem
open Idealize.ShloMosaic.Pipeline (Dat Cfg)
open Cert.ProjIdeal Cert.ProjIdeal.Gen Cert.ProjIdeal.Body

variable {F : FTy → Type} [FloatOps F]
variable (m : (ℓ : Loc nD τ sig) → Buf (Elt F) ℓ) (ρ : Dev nD → PrngReg)

/-- What the run leaves in the result `main_v89_0`. -/
def fin10 (c : Dev nD) : Buf (Elt F) ((c.tc : Thread nD τ).loc main_v89_0) :=
  (dats m 0 c).arrAt 10 cfg0.N

/-- After the run, the result `main_v89_0` is the final array of window 10. -/
theorem post10 (r : PUnit × MemSt nD τ sig (Elt F)) (h : Pipeline.FramePost cfgs (dats m) 0 (V m) r) (c : Dev nD) :
    r.2.mem ((c.tc : Thread nD τ).loc main_v89_0) = fin10 m c :=
  (h c).1 10

/-- What the run leaves in the result `main_v89_1`. -/
def fin11 (c : Dev nD) : Buf (Elt F) ((c.tc : Thread nD τ).loc main_v89_1) :=
  (dats m 0 c).arrAt 11 cfg0.N

/-- After the run, the result `main_v89_1` is the final array of window 11. -/
theorem post11 (r : PUnit × MemSt nD τ sig (Elt F)) (h : Pipeline.FramePost cfgs (dats m) 0 (V m) r) (c : Dev nD) :
    r.2.mem ((c.tc : Thread nD τ).loc main_v89_1) = fin11 m c :=
  (h c).1 11

/-- What the run leaves in the result `main_v89_2`. -/
def fin12 (c : Dev nD) : Buf (Elt F) ((c.tc : Thread nD τ).loc main_v89_2) :=
  (dats m 0 c).arrAt 12 cfg0.N

/-- After the run, the result `main_v89_2` is the final array of window 12. -/
theorem post12 (r : PUnit × MemSt nD τ sig (Elt F)) (h : Pipeline.FramePost cfgs (dats m) 0 (V m) r) (c : Dev nD) :
    r.2.mem ((c.tc : Thread nD τ).loc main_v89_2) = fin12 m c :=
  (h c).1 12

/-- What the run leaves in the result `main_v89_3`. -/
def fin13 (c : Dev nD) : Buf (Elt F) ((c.tc : Thread nD τ).loc main_v89_3) :=
  (dats m 0 c).arrAt 13 cfg0.N

/-- After the run, the result `main_v89_3` is the final array of window 13. -/
theorem post13 (r : PUnit × MemSt nD τ sig (Elt F)) (h : Pipeline.FramePost cfgs (dats m) 0 (V m) r) (c : Dev nD) :
    r.2.mem ((c.tc : Thread nD τ).loc main_v89_3) = fin13 m c :=
  (h c).1 13

/-- What the run leaves in the result `main_v89_4`. -/
def fin14 (c : Dev nD) : Buf (Elt F) ((c.tc : Thread nD τ).loc main_v89_4) :=
  (dats m 0 c).arrAt 14 cfg0.N

/-- After the run, the result `main_v89_4` is the final array of window 14. -/
theorem post14 (r : PUnit × MemSt nD τ sig (Elt F)) (h : Pipeline.FramePost cfgs (dats m) 0 (V m) r) (c : Dev nD) :
    r.2.mem ((c.tc : Thread nD τ).loc main_v89_4) = fin14 m c :=
  (h c).1 14

/-- What the run leaves in the result `main_v89_5`. -/
def fin15 (c : Dev nD) : Buf (Elt F) ((c.tc : Thread nD τ).loc main_v89_5) :=
  (dats m 0 c).arrAt 15 cfg0.N

/-- After the run, the result `main_v89_5` is the final array of window 15. -/
theorem post15 (r : PUnit × MemSt nD τ sig (Elt F)) (h : Pipeline.FramePost cfgs (dats m) 0 (V m) r) (c : Dev nD) :
    r.2.mem ((c.tc : Thread nD τ).loc main_v89_5) = fin15 m c :=
  (h c).1 15

/-- What the run leaves in the result `main_v89_6`. -/
def fin16 (c : Dev nD) : Buf (Elt F) ((c.tc : Thread nD τ).loc main_v89_6) :=
  (dats m 0 c).arrAt 16 cfg0.N

/-- After the run, the result `main_v89_6` is the final array of window 16. -/
theorem post16 (r : PUnit × MemSt nD τ sig (Elt F)) (h : Pipeline.FramePost cfgs (dats m) 0 (V m) r) (c : Dev nD) :
    r.2.mem ((c.tc : Thread nD τ).loc main_v89_6) = fin16 m c :=
  (h c).1 16

/-- What the run leaves in the result `main_v89_7`. -/
def fin17 (c : Dev nD) : Buf (Elt F) ((c.tc : Thread nD τ).loc main_v89_7) :=
  (dats m 0 c).arrAt 17 cfg0.N

/-- After the run, the result `main_v89_7` is the final array of window 17. -/
theorem post17 (r : PUnit × MemSt nD τ sig (Elt F)) (h : Pipeline.FramePost cfgs (dats m) 0 (V m) r) (c : Dev nD) :
    r.2.mem ((c.tc : Thread nD τ).loc main_v89_7) = fin17 m c :=
  (h c).1 17

/-- What the run leaves in the result `main_v89_8`. -/
def fin18 (c : Dev nD) : Buf (Elt F) ((c.tc : Thread nD τ).loc main_v89_8) :=
  (dats m 0 c).arrAt 18 cfg0.N

/-- After the run, the result `main_v89_8` is the final array of window 18. -/
theorem post18 (r : PUnit × MemSt nD τ sig (Elt F)) (h : Pipeline.FramePost cfgs (dats m) 0 (V m) r) (c : Dev nD) :
    r.2.mem ((c.tc : Thread nD τ).loc main_v89_8) = fin18 m c :=
  (h c).1 18

/-- What the run leaves in the result `main_v89_9`. -/
def fin19 (c : Dev nD) : Buf (Elt F) ((c.tc : Thread nD τ).loc main_v89_9) :=
  (dats m 0 c).arrAt 19 cfg0.N

/-- After the run, the result `main_v89_9` is the final array of window 19. -/
theorem post19 (r : PUnit × MemSt nD τ sig (Elt F)) (h : Pipeline.FramePost cfgs (dats m) 0 (V m) r) (c : Dev nD) :
    r.2.mem ((c.tc : Thread nD τ).loc main_v89_9) = fin19 m c :=
  (h c).1 19

/-- What the run leaves in the result `main_v89_10`. -/
def fin20 (c : Dev nD) : Buf (Elt F) ((c.tc : Thread nD τ).loc main_v89_10) :=
  (dats m 0 c).arrAt 20 cfg0.N

/-- After the run, the result `main_v89_10` is the final array of window 20. -/
theorem post20 (r : PUnit × MemSt nD τ sig (Elt F)) (h : Pipeline.FramePost cfgs (dats m) 0 (V m) r) (c : Dev nD) :
    r.2.mem ((c.tc : Thread nD τ).loc main_v89_10) = fin20 m c :=
  (h c).1 20

/-- What the run leaves in the result `main_v89_11`. -/
def fin21 (c : Dev nD) : Buf (Elt F) ((c.tc : Thread nD τ).loc main_v89_11) :=
  (dats m 0 c).arrAt 21 cfg0.N

/-- After the run, the result `main_v89_11` is the final array of window 21. -/
theorem post21 (r : PUnit × MemSt nD τ sig (Elt F)) (h : Pipeline.FramePost cfgs (dats m) 0 (V m) r) (c : Dev nD) :
    r.2.mem ((c.tc : Thread nD τ).loc main_v89_11) = fin21 m c :=
  (h c).1 21

/-- What the run leaves in the result `main_v89_12`. -/
def fin22 (c : Dev nD) : Buf (Elt F) ((c.tc : Thread nD τ).loc main_v89_12) :=
  (dats m 0 c).arrAt 22 cfg0.N

/-- After the run, the result `main_v89_12` is the final array of window 22. -/
theorem post22 (r : PUnit × MemSt nD τ sig (Elt F)) (h : Pipeline.FramePost cfgs (dats m) 0 (V m) r) (c : Dev nD) :
    r.2.mem ((c.tc : Thread nD τ).loc main_v89_12) = fin22 m c :=
  (h c).1 22

/-- What the run leaves in the result `main_v89_13`. -/
def fin23 (c : Dev nD) : Buf (Elt F) ((c.tc : Thread nD τ).loc main_v89_13) :=
  (dats m 0 c).arrAt 23 cfg0.N

/-- After the run, the result `main_v89_13` is the final array of window 23. -/
theorem post23 (r : PUnit × MemSt nD τ sig (Elt F)) (h : Pipeline.FramePost cfgs (dats m) 0 (V m) r) (c : Dev nD) :
    r.2.mem ((c.tc : Thread nD τ).loc main_v89_13) = fin23 m c :=
  (h c).1 23

/-- After the run, the argument `main_arg0` is as launched. -/
theorem kept0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)

/-- After the run, the argument `main_arg1` is as launched. -/
theorem kept1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

/-- After the run, the argument `main_arg2` is as launched. -/
theorem kept2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

/-- After the run, the argument `main_arg3` is as launched. -/
theorem kept3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

/-- After the run, the argument `main_arg4` is as launched. -/
theorem kept4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- After the run, the argument `main_arg5` is as launched. -/
theorem kept5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- After the run, the argument `main_arg6` is as launched. -/
theorem kept6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- After the run, the argument `main_arg7` is as launched. -/
theorem kept7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

set_option maxHeartbeats 3200000 in
/-- The kernel's run: every result array named, every argument unchanged. -/
theorem run_blocks : θ_run defs (onTc (τ := τ) (main (F := F))) ⟨m, fun _ => 0, ρ⟩ (fun r => ∀ c : Dev nD,
      r.2.mem ((c.tc : Thread nD τ).loc main_v89_0) = fin10 m c
      ∧ r.2.mem ((c.tc : Thread nD τ).loc main_v89_1) = fin11 m c
      ∧ r.2.mem ((c.tc : Thread nD τ).loc main_v89_2) = fin12 m c
      ∧ r.2.mem ((c.tc : Thread nD τ).loc main_v89_3) = fin13 m c
      ∧ r.2.mem ((c.tc : Thread nD τ).loc main_v89_4) = fin14 m c
      ∧ r.2.mem ((c.tc : Thread nD τ).loc main_v89_5) = fin15 m c
      ∧ r.2.mem ((c.tc : Thread nD τ).loc main_v89_6) = fin16 m c
      ∧ r.2.mem ((c.tc : Thread nD τ).loc main_v89_7) = fin17 m c
      ∧ r.2.mem ((c.tc : Thread nD τ).loc main_v89_8) = fin18 m c
      ∧ r.2.mem ((c.tc : Thread nD τ).loc main_v89_9) = fin19 m c
      ∧ r.2.mem ((c.tc : Thread nD τ).loc main_v89_10) = fin20 m c
      ∧ r.2.mem ((c.tc : Thread nD τ).loc main_v89_11) = fin21 m c
      ∧ r.2.mem ((c.tc : Thread nD τ).loc main_v89_12) = fin22 m c
      ∧ r.2.mem ((c.tc : Thread nD τ).loc main_v89_13) = fin23 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨post10 m r h c,
      post11 m r h c,
      post12 m r h c,
      post13 m r h c,
      post14 m r h c,
      post15 m r h c,
      post16 m r h c,
      post17 m r h c,
      post18 m r h c,
      post19 m r h c,
      post20 m r h c,
      post21 m r h c,
      post22 m r h c,
      post23 m r h c,
      kept0 m r h c,
      kept1 m r h c,
      kept2 m r h c,
      kept3 m r h c,
      kept4 m r h c,
      kept5 m r h c,
      kept6 m r h c,
      kept7 m r h c⟩)
    (run_main m ρ)

end Cert.ProjRun

end
-- ==== Proof.Proof.ProjClaim.lean ====
module

public import proofs.«01_k».proof.Defs
public import proofs.«01_k».proof.Proof.Proof.ProjValue
public import proofs.«01_k».proof.Proof.Proof.ProjRun
public import proofs.«01_k».proof.Proof.Gen.ProjRefIdeal.Run

/-! The value claim of the projection call: the kernel and the reference end with the same fourteen arrays. -/

@[expose] public section

set_option maxRecDepth 16384

noncomputable section

namespace Cert.ProjClaim

open Idealize.ShloMosaic Idealize.SL.Sem

section

variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ)

/-- The reference's stage `main_v241` over its own arguments is what the kernel leaves in window 10. -/
theorem meet10 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h3 : m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) :
    Cert.ProjRefIdeal.Read.val_main_v241 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))
      = Cert.ProjRun.fin10 m c := by
  refine Eq.trans ?_ (Cert.ProjValue.final10 m c).symm
  rw [h0, h1, h2, h3]

/-- The reference's stage `main_v242` over its own arguments is what the kernel leaves in window 11. -/
theorem meet11 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h4 : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v242 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg4))
      = Cert.ProjRun.fin11 m c := by
  refine Eq.trans ?_ (Cert.ProjValue.final11 m c).symm
  rw [h0, h1, h2, h4]

/-- The reference's stage `main_v244` over its own arguments is what the kernel leaves in window 12. -/
theorem meet12 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h4 : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v244 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg4))
      = Cert.ProjRun.fin12 m c := by
  refine Eq.trans ?_ (Cert.ProjValue.final12 m c).symm
  rw [h0, h1, h2, h4]

/-- The reference's stage `main_v245` over its own arguments is what the kernel leaves in window 13. -/
theorem meet13 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Read.val_main_v245 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
      = Cert.ProjRun.fin13 m c := by
  refine Eq.trans ?_ (Cert.ProjValue.final13 m c).symm
  rw [h0, h1, h2]

/-- The reference's stage `main_v246` over its own arguments is what the kernel leaves in window 14. -/
theorem meet14 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Read.val_main_v246 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
      = Cert.ProjRun.fin14 m c := by
  refine Eq.trans ?_ (Cert.ProjValue.final14 m c).symm
  rw [h0, h1, h2]

/-- The reference's stage `main_v249` over its own arguments is what the kernel leaves in window 15. -/
theorem meet15 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Read.val_main_v249 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
      = Cert.ProjRun.fin15 m c := by
  refine Eq.trans ?_ (Cert.ProjValue.final15 m c).symm
  rw [h0, h1, h2]

/-- The reference's stage `main_v250` over its own arguments is what the kernel leaves in window 16. -/
theorem meet16 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h5 : m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) :
    Cert.ProjRefIdeal.Read.val_main_v250 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5))
      = Cert.ProjRun.fin16 m c := by
  refine Eq.trans ?_ (Cert.ProjValue.final16 m c).symm
  rw [h0, h1, h2, h5]

/-- The reference's stage `main_v251` over its own arguments is what the kernel leaves in window 17. -/
theorem meet17 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h5 : m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) :
    Cert.ProjRefIdeal.Read.val_main_v251 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5))
      = Cert.ProjRun.fin17 m c := by
  refine Eq.trans ?_ (Cert.ProjValue.final17 m c).symm
  rw [h0, h1, h2, h5]

/-- The reference's stage `main_v252` over its own arguments is what the kernel leaves in window 18. -/
theorem meet18 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Read.val_main_v252 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
      = Cert.ProjRun.fin18 m c := by
  refine Eq.trans ?_ (Cert.ProjValue.final18 m c).symm
  rw [h0, h1, h2]

/-- The reference's stage `main_v256` over its own arguments is what the kernel leaves in window 19. -/
theorem meet19 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h6 : m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) :
    Cert.ProjRefIdeal.Read.val_main_v256 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg6))
      = Cert.ProjRun.fin19 m c := by
  refine Eq.trans ?_ (Cert.ProjValue.final19 m c).symm
  rw [h0, h1, h2, h6]

/-- The reference's stage `main_v257` over its own arguments is what the kernel leaves in window 20. -/
theorem meet20 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h7 : m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) :
    Cert.ProjRefIdeal.Read.val_main_v257 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg7))
      = Cert.ProjRun.fin20 m c := by
  refine Eq.trans ?_ (Cert.ProjValue.final20 m c).symm
  rw [h0, h1, h2, h7]

/-- The reference's stage `main_v259` over its own arguments is what the kernel leaves in window 21. -/
theorem meet21 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h7 : m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) :
    Cert.ProjRefIdeal.Read.val_main_v259 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg7))
      = Cert.ProjRun.fin21 m c := by
  refine Eq.trans ?_ (Cert.ProjValue.final21 m c).symm
  rw [h0, h1, h2, h7]

/-- The reference's stage `main_v260` over its own arguments is what the kernel leaves in window 22. -/
theorem meet22 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Read.val_main_v260 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
      = Cert.ProjRun.fin22 m c := by
  refine Eq.trans ?_ (Cert.ProjValue.final22 m c).symm
  rw [h0, h1, h2]

/-- The reference's stage `main_v262` over its own arguments is what the kernel leaves in window 23. -/
theorem meet23 (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Read.val_main_v262 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
      = Cert.ProjRun.fin23 m c := by
  refine Eq.trans ?_ (Cert.ProjValue.final23 m c).symm
  rw [h0, h1, h2]

end

set_option maxHeartbeats 6400000 in
/-- The kernel and the reference, on the same arguments, end with the same fourteen arrays. -/
theorem algebraic : Cert.algebraic_ProjIdeal_ProjRefIdeal (hProjIdeal := Cert.ProjIdeal.Gen.facts)
    (hProjRefIdeal := Cert.ProjRefIdeal.Gen.facts) := by
  intro m g m' g' hpre hagree
  refine ⟨fun c => Cert.ProjRun.fin10 m c, fun c => Cert.ProjRun.fin11 m c, fun c => Cert.ProjRun.fin12 m c, fun c => Cert.ProjRun.fin13 m c, fun c => Cert.ProjRun.fin14 m c, fun c => Cert.ProjRun.fin15 m c, fun c => Cert.ProjRun.fin16 m c, fun c => Cert.ProjRun.fin17 m c, fun c => Cert.ProjRun.fin18 m c, fun c => Cert.ProjRun.fin19 m c, fun c => Cert.ProjRun.fin20 m c, fun c => Cert.ProjRun.fin21 m c, fun c => Cert.ProjRun.fin22 m c, fun c => Cert.ProjRun.fin23 m c,
    Cert.ProjRun.run_blocks m g, ?_⟩
  refine θ_run_mono (Cert.ProjRefIdeal.Value.run m' g') ?_
  intro r hr c
  obtain ⟨h0, h1, h2, h3, h4, h5, h6, h7⟩ := hagree c
  obtain ⟨r10, r11, r12, r13, r14, r15, r16, r17, r18, r19, r20, r21, r22, r23, kept⟩ := hr c
  exact ⟨(r10.trans (Cert.ProjRefIdeal.Read.val_main_v241_eq (F := Ideal) (StableHlo.launchContents m' c))).trans
      (meet10 m m' c h0 h1 h2 h3),
    (r11.trans (Cert.ProjRefIdeal.Read.val_main_v242_eq (F := Ideal) (StableHlo.launchContents m' c))).trans
      (meet11 m m' c h0 h1 h2 h4),
    (r12.trans (Cert.ProjRefIdeal.Read.val_main_v244_eq (F := Ideal) (StableHlo.launchContents m' c))).trans
      (meet12 m m' c h0 h1 h2 h4),
    (r13.trans (Cert.ProjRefIdeal.Read.val_main_v245_eq (F := Ideal) (StableHlo.launchContents m' c))).trans
      (meet13 m m' c h0 h1 h2),
    (r14.trans (Cert.ProjRefIdeal.Read.val_main_v246_eq (F := Ideal) (StableHlo.launchContents m' c))).trans
      (meet14 m m' c h0 h1 h2),
    (r15.trans (Cert.ProjRefIdeal.Read.val_main_v249_eq (F := Ideal) (StableHlo.launchContents m' c))).trans
      (meet15 m m' c h0 h1 h2),
    (r16.trans (Cert.ProjRefIdeal.Read.val_main_v250_eq (F := Ideal) (StableHlo.launchContents m' c))).trans
      (meet16 m m' c h0 h1 h2 h5),
    (r17.trans (Cert.ProjRefIdeal.Read.val_main_v251_eq (F := Ideal) (StableHlo.launchContents m' c))).trans
      (meet17 m m' c h0 h1 h2 h5),
    (r18.trans (Cert.ProjRefIdeal.Read.val_main_v252_eq (F := Ideal) (StableHlo.launchContents m' c))).trans
      (meet18 m m' c h0 h1 h2),
    (r19.trans (Cert.ProjRefIdeal.Read.val_main_v256_eq (F := Ideal) (StableHlo.launchContents m' c))).trans
      (meet19 m m' c h0 h1 h2 h6),
    (r20.trans (Cert.ProjRefIdeal.Read.val_main_v257_eq (F := Ideal) (StableHlo.launchContents m' c))).trans
      (meet20 m m' c h0 h1 h2 h7),
    (r21.trans (Cert.ProjRefIdeal.Read.val_main_v259_eq (F := Ideal) (StableHlo.launchContents m' c))).trans
      (meet21 m m' c h0 h1 h2 h7),
    (r22.trans (Cert.ProjRefIdeal.Read.val_main_v260_eq (F := Ideal) (StableHlo.launchContents m' c))).trans
      (meet22 m m' c h0 h1 h2),
    (r23.trans (Cert.ProjRefIdeal.Read.val_main_v262_eq (F := Ideal) (StableHlo.launchContents m' c))).trans
      (meet23 m m' c h0 h1 h2),
    kept⟩

end Cert.ProjClaim

end
-- ==== Proof.Proof.MergeSpec.lean ====
module

public import Idealize.ShloMosaic.Lib.Pointwise
public import Idealize.ShloMosaic.PureOps.Ideal.Laws

/-! The merge call's mathematics, one token at a time, over the extended reals: the row functions that both the
kernel's blocks and the reference's arrays are shown equal to. -/

@[expose] public section

set_option maxRecDepth 16384

noncomputable section

namespace Cert.MergeSpec

open Idealize.ShloMosaic

/-- RMS normalisation of one row of 1024 features: `x · rsqrt(mean x² + ε) · g`. -/
def rms (x g : Fin 1024 → EReal) : Fin 1024 → EReal := fun d =>
  x d * Ideal.rsqrt (Ideal.div (∑ k, x k * x k) (Ideal.ofBits .f32 0x44800000#32) + Ideal.ofBits .f32 0x358637BD#32) * g d

/-- A row times a matrix. -/
def rowMul {n m : ℕ} (h : Fin n → EReal) (w : Fin n → Fin m → EReal) : Fin m → EReal := fun j => ∑ k, h k * w k j

/-- The gated sum of the two attention branches, one row. -/
def gated (h : Fin 1024 → EReal) (oa ob : Fin 512 → EReal) (ga gb : Fin 1024 → Fin 1024 → EReal)
    (wa wb : Fin 512 → Fin 1024 → EReal) : Fin 1024 → EReal := fun d =>
  Ideal.logistic (rowMul h ga d) * rowMul oa wa d + Ideal.logistic (rowMul h gb d) * rowMul ob wb d

/-- The residual stream after the attention branches, one row. -/
def resid (x : Fin 1024 → EReal) (oa ob : Fin 512 → EReal) (g : Fin 1024 → EReal) (ga gb : Fin 1024 → Fin 1024 → EReal)
    (wa wb : Fin 512 → Fin 1024 → EReal) (wo : Fin 1024 → Fin 1024 → EReal) : Fin 1024 → EReal := fun d =>
  x d + rowMul (gated (rms x g) oa ob ga gb wa wb) wo d

/-- One half of one head's query against the 128 sub-keys: `h` is the normalised row, `w` the query columns. -/
def score (h : Fin 1024 → EReal) (w : Fin 1024 → Fin 128 → EReal) (c : Fin 128 → Fin 128 → EReal) : Fin 128 → EReal :=
  fun k => ∑ e, rowMul h w e * c k e

end Cert.MergeSpec
-- ==== Proof.Proof.MergeKernel.lean ====
module

public import proofs.«01_k».proof.Proof.Proof.MergeSpec
public import proofs.«01_k».proof.Proof.Gen.MergeIdeal.Skeleton

/-! What the merge kernel's body computes on one row tile, read at an index: the row functions of `MergeSpec`. -/

@[expose] public section

set_option maxRecDepth 16384

noncomputable section

namespace Cert.MergeKernel

open Idealize.ShloMosaic Cert.MergeIdeal Cert.MergeIdeal.Gen Cert.MergeSpec

/-- The normalised tile. -/
theorem norm_at (x0 : FVec Ideal S512x1024 .f32) (x3 : FVec Ideal S1x1024 .f32) (r : Fin 512) (d : Fin 1024) :
    k0_pay4 (F := Ideal) x0 x3 (ix2 r d) = rms (fun k => x0 (ix2 r k)) (fun k => x3 (ix2 0 k)) d := by
  pointwise [k0_pay4, k0_pay3, rms]

/-- The residual stream after the branches. -/
theorem resid_at (x0 : FVec Ideal S512x1024 .f32) (x1 x2 : FVec Ideal S512x512 .bf16) (x3 : FVec Ideal S1x1024 .f32)
    (wa wb : FVec Ideal S1024x1024 .bf16) (x5 x6 : FVec Ideal S512x1024 .bf16) (x7 : FVec Ideal S1024x1024 .bf16)
    (r : Fin 512) (d : Fin 1024) :
    k0_pay8 (F := Ideal) (k0_pay3 x0) (k0_pay5 x0 x3 wb) (k0_pay6 x2 x6) (k0_pay7 x0 x3 wa x1 x5) x7 (ix2 r d)
      = resid (fun k => x0 (ix2 r k)) (fun k => x1 (ix2 r k)) (fun k => x2 (ix2 r k)) (fun k => x3 (ix2 0 k))
          (fun k j => wa (ix2 k j)) (fun k j => wb (ix2 k j)) (fun k j => x5 (ix2 k j)) (fun k j => x6 (ix2 k j))
          (fun k j => x7 (ix2 k j)) d := by
  pointwise [k0_pay8, k0_pay3, k0_pay5, k0_pay6, k0_pay7, norm_at, resid, gated, rowMul]

/-- The second normalisation, written features by tokens: the block the last output windows are computed from. -/
theorem norm2_at (x v24 v34 v35 : FVec Ideal S512x1024 .f32) (x7 : FVec Ideal S1024x1024 .bf16) (x8 : FVec Ideal S1x1024 .f32)
    (d : Fin 1024) (r : Fin 512) :
    k0_pay9 (F := Ideal) x v24 v34 v35 x7 x8 (ix2 d r)
      = rms (fun k => k0_pay8 (F := Ideal) x v24 v34 v35 x7 (ix2 r k)) (fun k => x8 (ix2 0 k)) d := by
  pointwise [k0_pay9, rms]

end Cert.MergeKernel
-- ==== Proof.Proof.MergeBlocks.lean ====
module

public import proofs.«01_k».proof.Proof.Proof.MergeKernel
public import proofs.«01_k».proof.Proof.Gen.MergeIdeal.Frame
public import Idealize.ShloMosaic.Lib.Pipeline.ValueKit

/-! What one grid point of the merge kernel leaves in its four output blocks, over variable input blocks. -/

@[expose] public section

set_option maxRecDepth 16384

noncomputable section

namespace Cert.MergeBlocks

open Idealize.ShloMosaic Cert.MergeIdeal Cert.MergeIdeal.Gen Cert.MergeSpec

variable (x0 : FVec Ideal S512x1024 .f32) (x1 : FVec Ideal S512x512 .bf16) (x2 : FVec Ideal S512x512 .bf16) (x3 : FVec Ideal S1x1024 .f32)
  (x4 : FVec Ideal S1024x2048 .bf16) (x5 : FVec Ideal S512x1024 .bf16) (x6 : FVec Ideal S512x1024 .bf16) (x7 : FVec Ideal S1024x1024 .bf16)
  (x8 : FVec Ideal S1x1024 .f32) (x9 : FVec Ideal S2048x1024 .bf16) (x10 : FVec Ideal S128x128 .bf16) (x11 : FVec Ideal S128x128 .bf16)

/-- The residual row `r` of a tile, over the input blocks. -/
abbrev tileRow (r : Fin 512) : Fin 1024 → EReal :=
  resid (fun k => x0 (ix2 r k)) (fun k => x1 (ix2 r k)) (fun k => x2 (ix2 r k)) (fun k => x3 (ix2 0 k))
    (fun k j => x4 (ix2 k ⟨j.val, by omega⟩)) (fun k j => x4 (ix2 k ⟨1024 + j.val, by omega⟩))
    (fun k j => x5 (ix2 k j)) (fun k j => x6 (ix2 k j)) (fun k j => x7 (ix2 k j))

/-- The first output block: the residual stream. -/
theorem out12_at (r : Fin 512) (d : Fin 1024) :
    out0_12 (F := Ideal) x0 x1 x2 x3 x4 x5 x6 x7 x8 x9 x10 x11 (ix2 r d) = tileRow x0 x1 x2 x3 x4 x5 x6 x7 r d := by
  unfold out0_12 k0_pay36 k0_pay37 k0_pay38 k0_pay39
  frame_out
  refine (MergeKernel.resid_at _ _ _ _ _ _ _ _ _ r d).trans ?_
  blk_point []

/-- The normalised block, features by tokens. -/
theorem norm2_at (d : Fin 1024) (r : Fin 512) :
    k0_pay40 (F := Ideal) x0 x1 x2 x3 x4 x5 x6 x7 x8 x9 x10 x11 (ix2 d r) = rms (tileRow x0 x1 x2 x3 x4 x5 x6 x7 r) (fun k => x8 (ix2 0 k)) d := by
  unfold k0_pay40 k0_pay36 k0_pay37 k0_pay38 k0_pay39
  refine (MergeKernel.norm2_at _ _ _ _ _ _ d r).trans ?_
  simp only [MergeKernel.resid_at]
  blk_point []
  pointwise []

/-- The first half of the scores: each head is one tile. -/
theorem out14_at (y : S8x128x512.Idx) :
    out0_14 (F := Ideal) x0 x1 x2 x3 x4 x5 x6 x7 x8 x9 x10 x11 y
      = ∑ e : Fin 128, x10 (ix2 (y 1) e) * ∑ d : Fin 1024, x9 (ix2 ⟨256 * (y 0 : ℕ) + e.val, by have := (y 0).isLt; simp at this; omega⟩ d)
          * k0_pay40 (F := Ideal) x0 x1 x2 x3 x4 x5 x6 x7 x8 x9 x10 x11 (ix2 d (y 2)) := by
  unfold out0_14
  canon_tiles x h
  case piece7 =>
    simp only [k0_pay11, k0_pay10]
    unfold k0_pay40
    generalize k0_pay9 (F := Ideal) (k0_pay36 x0 x1 x2 x3 x4 x5 x6 x7 x8 x9 x10 x11) (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (View.ld x7 r0_5) (View.ld x8 r0_1) = H
    pointwise []
    blk_point []
  all_goals
    try unfold k0_pay41
    generalize k0_pay40 (F := Ideal) x0 x1 x2 x3 x4 x5 x6 x7 x8 x9 x10 x11 = H
    open_payloads
    pointwise []
    blk_point []

/-- The second half of the scores. -/
theorem out15_at (y : S8x128x512.Idx) :
    out0_15 (F := Ideal) x0 x1 x2 x3 x4 x5 x6 x7 x8 x9 x10 x11 y
      = ∑ e : Fin 128, x11 (ix2 (y 1) e) * ∑ d : Fin 1024, x9 (ix2 ⟨256 * (y 0 : ℕ) + (128 + e.val), by have := (y 0).isLt; simp at this; omega⟩ d)
          * k0_pay40 (F := Ideal) x0 x1 x2 x3 x4 x5 x6 x7 x8 x9 x10 x11 (ix2 d (y 2)) := by
  unfold out0_15
  canon_tiles x h
  case piece7 =>
    simp only [k0_pay12, k0_pay10]
    unfold k0_pay40
    generalize k0_pay9 (F := Ideal) (k0_pay36 x0 x1 x2 x3 x4 x5 x6 x7 x8 x9 x10 x11) (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (View.ld x7 r0_5) (View.ld x8 r0_1) = H
    pointwise []
    blk_point []
  all_goals
    try unfold k0_pay41
    generalize k0_pay40 (F := Ideal) x0 x1 x2 x3 x4 x5 x6 x7 x8 x9 x10 x11 = H
    open_payloads
    pointwise []
    blk_point []

end Cert.MergeBlocks
-- ==== Proof.Proof.MergeReference.lean ====
module

public import proofs.«01_k».proof.Proof.Proof.MergeSpec
public import proofs.«01_k».proof.Proof.Gen.MergeRefIdeal.Read

/-! What the merge reference computes, read at an index: the row functions of `MergeSpec` of one token's rows. -/

@[expose] public section

set_option maxRecDepth 16384

noncomputable section

namespace Cert.MergeReference

open Idealize.ShloMosaic Cert.MergeRefIdeal Cert.MergeRefIdeal.Read Cert.MergeSpec

variable (X : FVec Ideal S16x2048x1024 .f32) (A B : FVec Ideal S16x2048x8x64 .f32) (G : FVec Ideal S1024 .f32)
  (W : FVec Ideal S1024x5416 .f32) (WA WB : FVec Ideal S512x1024 .f32) (WO : FVec Ideal S1024x1024 .f32)
  (G2 : FVec Ideal S1024 .f32) (WQ : FVec Ideal S1024x2048 .f32) (C : FVec Ideal S128x128 .f32)

/-- The attention output of token `(b, t)` as one row of 512. -/
abbrev attRow (A : FVec Ideal S16x2048x8x64 .f32) (b : Fin 16) (t : Fin 2048) : Fin 512 → EReal :=
  fun k => A (ix4 b t ⟨k.val / 64, by omega⟩ ⟨k.val % 64, by omega⟩)

/-- The residual stream of token `(b, t)` over the argument arrays. -/
abbrev residRow (b : Fin 16) (t : Fin 2048) : Fin 1024 → EReal :=
  resid (fun k => X (ix3 b t k)) (attRow A b t) (attRow B b t) (fun k => G (ix1 k))
    (fun k j => W (ix2 k ⟨3368 + j.val, by omega⟩)) (fun k j => W (ix2 k ⟨3368 + (1024 + j.val), by omega⟩))
    (fun k j => WA (ix2 k j)) (fun k j => WB (ix2 k j)) (fun k j => WO (ix2 k j))

/-- The second normalised row of token `(b, t)`. -/
abbrev normRow (b : Fin 16) (t : Fin 2048) : Fin 1024 → EReal :=
  rms (residRow X A B G W WA WB WO b t) (fun k => G2 (ix1 k))

theorem norm_at (b : Fin 16) (t : Fin 2048) (d : Fin 1024) :
    val_main_v12 (F := Ideal) X G (ix3 b t d) = rms (fun k => X (ix3 b t k)) (fun k => G (ix1 k)) d := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, rms]

theorem resid_at (b : Fin 16) (t : Fin 2048) (d : Fin 1024) :
    val_main_v31 (F := Ideal) X A B G W WA WB WO (ix3 b t d) = residRow X A B G W WA WB WO b t d := by
  pointwise [val_main_v31, val_main_v30, val_main_v29, val_main_v28, val_main_v27, val_main_v26, val_main_v25,
    val_main_v24, val_main_v23, val_main_v22, val_main_v21, val_main_v20, val_main_v19, val_main_cst_3, val_main_v18,
    val_main_v17, val_main_cst_2, val_main_v16, val_main_v15, val_main_v14, val_main_v13, norm_at,
    residRow, attRow, resid, gated, rowMul, Ideal.logistic]

theorem norm2_at (b : Fin 16) (t : Fin 2048) (d : Fin 1024) :
    val_main_v44 (F := Ideal) X A B G W WA WB WO G2 (ix3 b t d) = normRow X A B G W WA WB WO G2 b t d := by
  pointwise [val_main_v44, val_main_v43, val_main_v42, val_main_v41, val_main_v40, val_main_v39, val_main_v38,
    val_main_v37, val_main_cst_6, val_main_v36, val_main_v35, val_main_cst_5, val_main_v34, val_main_v33, val_main_cst_4,
    val_main_v32, resid_at, normRow, rms]

theorem out0_at (n : Fin 32768) (d : Fin 1024) :
    val_main_v52 (F := Ideal) X A B G W WA WB WO (ix2 n d)
      = residRow X A B G W WA WB WO ⟨n.val / 2048, by omega⟩ ⟨n.val % 2048, by omega⟩ d := by
  pointwise [val_main_v52, resid_at]

theorem out1_at (n : Fin 32768) (d : Fin 1024) :
    val_main_v54 (F := Ideal) X A B G W WA WB WO G2 (ix2 d n)
      = normRow X A B G W WA WB WO G2 ⟨n.val / 2048, by omega⟩ ⟨n.val % 2048, by omega⟩ d := by
  pointwise [val_main_v54, val_main_v53, val_main_v45, norm2_at]

theorem out2_at (h : Fin 8) (k : Fin 128) (n : Fin 32768) :
    val_main_v55 (F := Ideal) X A B G W WA WB WO G2 WQ C (ix3 h k n)
      = score (normRow X A B G W WA WB WO G2 ⟨n.val / 2048, by omega⟩ ⟨n.val % 2048, by omega⟩)
          (fun d e => WQ (ix2 d ⟨h.val * 256 + e.val, by omega⟩)) (fun k e => C (ix2 k e)) k := by
  pointwise [val_main_v55, val_main_v49, val_main_v48, val_main_v47, val_main_v46, val_main_v45, norm2_at, score, rowMul]

theorem out3_at (h : Fin 8) (k : Fin 128) (n : Fin 32768) :
    val_main_v56 (F := Ideal) X A B G W WA WB WO G2 WQ C (ix3 h k n)
      = score (normRow X A B G W WA WB WO G2 ⟨n.val / 2048, by omega⟩ ⟨n.val % 2048, by omega⟩)
          (fun d e => WQ (ix2 d ⟨h.val * 256 + (128 + e.val), by omega⟩)) (fun k e => C (ix2 k e)) k := by
  pointwise [val_main_v56, val_main_v51, val_main_v50, val_main_v47, val_main_v46, val_main_v45, norm2_at, score, rowMul]

end Cert.MergeReference
-- ==== Proof.Proof.MergeTiles.lean ====
module

public import proofs.«01_k».proof.Proof.Proof.MergeBlocks
public import proofs.«01_k».proof.Proof.Proof.MergeReference

/-! One row tile of the merge kernel, read over the arguments: the blocks a grid point stages are slices of the argument
arrays, so the tile's rows are the reference's rows. -/

@[expose] public section

set_option maxRecDepth 16384

noncomputable section

namespace Cert.MergeTiles

open Idealize.ShloMosaic Idealize.ShloMosaic.TcCoe Idealize.SL.Sem Cert.MergeIdeal Cert.MergeIdeal.Gen Cert.MergeSpec
open Idealize.ShloMosaic.Pipeline (Dat)

variable (m : (ℓ : Loc nD τ sig) → Buf (Elt Ideal) ℓ)

/-- Every window's block at grid point `t`: the token tiles move with `t`, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![0, t.val]
    ∧ win0_14.index t = ![0, 0, t.val] ∧ win0_15.index t = ![0, 0, t.val] :=
  (by decide +kernel : ∀ t : Fin grid0.N, _)

theorem pt_lt (t : Fin cfg0.N) : t.val < 64 := lt_of_lt_of_eq t.isLt N_0

/-- The residual row of a tile, over the arguments: row `r` of tile `t` is token `512·t + r`. -/
theorem tileRow_eq (c : Dev nD) (t : Fin cfg0.N) (r : Fin 512) (n : Fin 32768) (hn : n.val = 512 * t.val + r.val) :
    MergeBlocks.tileRow (iblk m c 0 t) (iblk m c 1 t) (iblk m c 2 t) (iblk m c 3 t) (iblk m c 4 t) (iblk m c 5 t)
        (iblk m c 6 t) (iblk m c 7 t) r
      = MergeReference.residRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          ⟨n.val / 2048, by omega⟩ ⟨n.val % 2048, by omega⟩ := by
  have ht := pt_lt t
  unfold MergeBlocks.tileRow MergeReference.residRow MergeReference.attRow
  congr 1
  · funext k; blk_point [iblk, V, idx t]
  · funext k; blk_point [iblk, V, idx t]
  · funext k; blk_point [iblk, V, idx t]
  · funext k; blk_point [iblk, V, idx t]
  · funext k j; blk_point [iblk, V, idx t]
  · funext k j; blk_point [iblk, V, idx t]
  · funext k j; blk_point [iblk, V, idx t]
  · funext k j; blk_point [iblk, V, idx t]
  · funext k j; blk_point [iblk, V, idx t]

/-- The normalised block of a tile, over the arguments. -/
theorem norm2_eq (c : Dev nD) (t : Fin cfg0.N) (d : Fin 1024) (r : Fin 512) (n : Fin 32768) (hn : n.val = 512 * t.val + r.val) :
    k0_pay40 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 d r)
      = MergeReference.normRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          ⟨n.val / 2048, by omega⟩ ⟨n.val % 2048, by omega⟩ d := by
  refine (MergeBlocks.norm2_at _ _ _ _ _ _ _ _ _ _ _ _ d r).trans ?_
  unfold MergeReference.normRow
  rw [tileRow_eq m c t r n hn]
  congr 1
  funext k; blk_point [iblk, V, idx t]

end Cert.MergeTiles
-- ==== Proof.Proof.MergeValue.lean ====
module

public import proofs.«01_k».proof.Proof.Proof.MergeTiles

/-! The merge kernel's four result arrays after the run are the reference's, over the same arguments. -/

@[expose] public section

set_option maxRecDepth 16384

noncomputable section

namespace Cert.MergeValue

open Idealize.ShloMosaic Idealize.ShloMosaic.TcCoe Idealize.SL.Sem Cert.MergeIdeal Cert.MergeIdeal.Gen Cert.MergeSpec Cert.MergeTiles
open Idealize.ShloMosaic.Pipeline (Dat)

variable (m : (ℓ : Loc nD τ sig) → Buf (Elt Ideal) ℓ)

/-- A tile of the first result at its place in the array. -/
theorem point12 (c : Dev nD) (t : Fin cfg0.N) (r : Fin 512) (d : Fin 1024) (n : Fin 32768) (hn : n.val = 512 * t.val + r.val) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = Cert.MergeRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 n d) :=
  (MergeBlocks.out12_at _ _ _ _ _ _ _ _ _ _ _ _ r d).trans
    ((congrFun (tileRow_eq m c t r n hn) d).trans (MergeReference.out0_at _ _ _ _ _ _ _ _ n d).symm)

/-- The first result: the residual stream. -/
theorem final12 (c : Dev nD) : (dats m 0 c).arrAt 12 cfg0.N
    = Cert.MergeRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]
  have ht := pt_lt t
  have h0 : (y 0 : ℕ) < 512 := (y 0).isLt
  refine Eq.trans (congrArg _ (show y = ix2 (y 0) (y 1) from by blk_ext))
    ((point12 m c t (y 0) (y 1) ⟨512 * t.val + (y 0 : ℕ), by omega⟩ rfl).trans (congrArg _ ?_))
  blk_ext [idx t]

/-- A tile of the second result at its place in the array. -/
theorem point13 (c : Dev nD) (t : Fin cfg0.N) (d : Fin 1024) (r : Fin 512) (n : Fin 32768) (hn : n.val = 512 * t.val + r.val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 d r)
      = Cert.MergeRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 d n) := by
  refine Eq.trans ?_ ((norm2_eq m c t d r n hn).trans (MergeReference.out1_at _ _ _ _ _ _ _ _ _ n d).symm)
  unfold out0_13 k0_pay40
  frame_out

/-- The second result: the normalised stream, features by tokens. -/
theorem final13 (c : Dev nD) : (dats m 0 c).arrAt 13 cfg0.N
    = Cert.MergeRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t _ y => ?_
  blk_simp
  rw [after0_13]
  have ht := pt_lt t
  have h0 : (y 1 : ℕ) < 512 := (y 1).isLt
  refine Eq.trans (congrArg _ (show y = ix2 (y 0) (y 1) from by blk_ext))
    ((point13 m c t (y 0) (y 1) ⟨512 * t.val + (y 1 : ℕ), by omega⟩ rfl).trans (congrArg _ ?_))
  blk_ext [idx t]

/-- A tile of the third result at its place in the array. -/
theorem point14 (c : Dev nD) (t : Fin cfg0.N) (h : Fin 8) (k : Fin 128) (r : Fin 512) (n : Fin 32768) (hn : n.val = 512 * t.val + r.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h k r)
      = Cert.MergeRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 h k n) := by
  refine (MergeBlocks.out14_at _ _ _ _ _ _ _ _ _ _ _ _ (ix3 h k r)).trans
    (Eq.trans ?_ (MergeReference.out2_at _ _ _ _ _ _ _ _ _ _ _ h k n).symm)
  unfold score rowMul
  refine Finset.sum_congr rfl fun e _ => ?_
  rw [mul_comm]
  congr 1
  · refine Finset.sum_congr rfl fun d _ => ?_
    rw [mul_comm]
    congr 1
    · exact norm2_eq m c t d r n hn
    · blk_point [iblk, V, idx t]
  · blk_point [iblk, V, idx t]

/-- The third result: half of every head's scores. -/
theorem final14 (c : Dev nD) : (dats m 0 c).arrAt 14 cfg0.N
    = Cert.MergeRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  have ht := pt_lt t
  have h0 : (y 2 : ℕ) < 512 := (y 2).isLt
  refine Eq.trans (congrArg _ (show y = ix3 (y 0) (y 1) (y 2) from by blk_ext))
    ((point14 m c t (y 0) (y 1) (y 2) ⟨512 * t.val + (y 2 : ℕ), by omega⟩ rfl).trans (congrArg _ ?_))
  blk_ext [idx t]

/-- A tile of the fourth result at its place in the array. -/
theorem point15 (c : Dev nD) (t : Fin cfg0.N) (h : Fin 8) (k : Fin 128) (r : Fin 512) (n : Fin 32768) (hn : n.val = 512 * t.val + r.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h k r)
      = Cert.MergeRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (ix3 h k n) := by
  refine (MergeBlocks.out15_at _ _ _ _ _ _ _ _ _ _ _ _ (ix3 h k r)).trans
    (Eq.trans ?_ (MergeReference.out3_at _ _ _ _ _ _ _ _ _ _ _ h k n).symm)
  unfold score rowMul
  refine Finset.sum_congr rfl fun e _ => ?_
  rw [mul_comm]
  congr 1
  · refine Finset.sum_congr rfl fun d _ => ?_
    rw [mul_comm]
    congr 1
    · exact norm2_eq m c t d r n hn
    · blk_point [iblk, V, idx t]
  · blk_point [iblk, V, idx t]

/-- The fourth result: half of every head's scores. -/
theorem final15 (c : Dev nD) : (dats m 0 c).arrAt 15 cfg0.N
    = Cert.MergeRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) := by
  refine (dats m 0 c).arrAt_eq_of_covers 15 _ (by decide +kernel) fun t _ y => ?_
  blk_simp
  rw [after0_15]
  have ht := pt_lt t
  have h0 : (y 2 : ℕ) < 512 := (y 2).isLt
  refine Eq.trans (congrArg _ (show y = ix3 (y 0) (y 1) (y 2) from by blk_ext))
    ((point15 m c t (y 0) (y 1) (y 2) ⟨512 * t.val + (y 2 : ℕ), by omega⟩ rfl).trans (congrArg _ ?_))
  blk_ext [idx t]

end Cert.MergeValue
-- ==== Proof.Proof.MergeClaim.lean ====
module

public import proofs.«01_k».proof.Defs
public import proofs.«01_k».proof.Proof.Proof.MergeValue
public import proofs.«01_k».proof.Proof.Gen.MergeIdeal.Value

/-! The value claim of the merge call: the kernel and the reference end with the same four arrays. -/

@[expose] public section

set_option maxRecDepth 16384

noncomputable section

namespace Cert.MergeClaim

open Idealize.ShloMosaic Idealize.SL.Sem

theorem algebraic : Cert.algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    · obtain ⟨h0, h1, h2, h3, h4, h5, h6, h7, h8, h9, h10, h11⟩ := hagree c
      rw [Cert.MergeValue.final12 m c]
      exact Cert.MergeRefIdeal.Read.val_main_v52_eq (F := Ideal) _ _ _ _ _ _ _ _
    · obtain ⟨h0, h1, h2, h3, h4, h5, h6, h7, h8, h9, h10, h11⟩ := hagree c
      rw [Cert.MergeValue.final13 m c, Cert.MergeRefIdeal.Read.val_main_v54_eq, h0, h1, h2, h3, h4, h5, h6, h7, h8]
    · obtain ⟨h0, h1, h2, h3, h4, h5, h6, h7, h8, h9, h10, h11⟩ := hagree c
      rw [Cert.MergeValue.final14 m c, Cert.MergeRefIdeal.Read.val_main_v55_eq, h0, h1, h2, h3, h4, h5, h6, h7, h8, h9, h10]
    · obtain ⟨h0, h1, h2, h3, h4, h5, h6, h7, h8, h9, h10, h11⟩ := hagree c
      rw [Cert.MergeValue.final15 m c, Cert.MergeRefIdeal.Read.val_main_v56_eq, h0, h1, h2, h3, h4, h5, h6, h7, h8, h9, h11]

end Cert.MergeClaim
-- ==== Proof.lean ====
/- The proof of the certificate's claim: the frames of the three kernel programs and of their references, the
   step from each kernel to its ideal reading, and the value claims, which are proved in the modules imported here. -/
module

public import proofs.«01_k».proof.Defs
public import proofs.«01_k».proof.Proof.Gen.Band
public import proofs.«01_k».proof.Proof.Gen.BandIdeal
public import proofs.«01_k».proof.Proof.Gen.BandRefIdeal
public import proofs.«01_k».proof.Proof.Gen.Proj
public import proofs.«01_k».proof.Proof.Gen.ProjIdeal
public import proofs.«01_k».proof.Proof.Gen.ProjRefIdeal
public import proofs.«01_k».proof.Proof.Gen.Merge
public import proofs.«01_k».proof.Proof.Gen.MergeIdeal
public import proofs.«01_k».proof.Proof.Gen.MergeRefIdeal
public import proofs.«01_k».proof.Proof.Gen.Band.Frame
public import proofs.«01_k».proof.Proof.Gen.BandIdeal.Frame
public import proofs.«01_k».proof.Proof.Gen.Merge.Frame
public import proofs.«01_k».proof.Proof.Gen.MergeIdeal.Frame
public import proofs.«01_k».proof.Proof.Proof.ProjBody
public import proofs.«01_k».proof.Proof.Proof.ProjIdealBody
public import proofs.«01_k».proof.Proof.Proof.BandClaim
public import proofs.«01_k».proof.Proof.Gen.BandRefIdeal.Run
public import proofs.«01_k».proof.Proof.Proof.ProjClaim
public import proofs.«01_k».proof.Proof.Gen.ProjRefIdeal.Run
public import proofs.«01_k».proof.Proof.Proof.MergeClaim
public import proofs.«01_k».proof.Proof.Gen.MergeRefIdeal.Run
public import Idealize.ShloMosaic.Adequacy
public import Idealize.ShloMosaic.Init

@[expose] public section

set_option maxRecDepth 16384

noncomputable section

namespace Cert.Proof

open Idealize.ShloMosaic Idealize.SL.Sem

set_option maxHeartbeats 1600000 in
theorem ref_Band : Cert.quiescent_BandRefIdeal (hBandRefIdeal := Cert.BandRefIdeal.Gen.facts) := by
  intro m g _
  exact (θ_run Cert.BandRefIdeal.defs _ _).mono (fun r h => ⟨fun c => (h c).2,
    Idealize.ShloMosaic.sem_eq_zero_of_no_sems (by decide) r.2⟩) (Cert.BandRefIdeal.Value.run (F := Ideal) m g)

set_option maxHeartbeats 1600000 in
theorem ref_Proj : Cert.quiescent_ProjRefIdeal (hProjRefIdeal := Cert.ProjRefIdeal.Gen.facts) := by
  intro m g _
  exact (θ_run Cert.ProjRefIdeal.defs _ _).mono (fun r h => ⟨fun c => (h c).2.2.2.2.2.2.2.2.2.2.2.2.2.2,
    Idealize.ShloMosaic.sem_eq_zero_of_no_sems (by decide) r.2⟩) (Cert.ProjRefIdeal.Value.run (F := Ideal) m g)

set_option maxHeartbeats 1600000 in
theorem ref_Merge : Cert.quiescent_MergeRefIdeal (hMergeRefIdeal := Cert.MergeRefIdeal.Gen.facts) := by
  intro m g _
  exact (θ_run Cert.MergeRefIdeal.defs _ _).mono (fun r h => ⟨fun c => (h c).2.2.2.2,
    Idealize.ShloMosaic.sem_eq_zero_of_no_sems (by decide) r.2⟩) (Cert.MergeRefIdeal.Value.run (F := Ideal) m g)

theorem ref_Band_pre : Cert.quiescent_BandRefIdeal_pre_finite (hBandRefIdeal := Cert.BandRefIdeal.Gen.facts) (hPre_finite := Cert.BandFinite.facts) :=
  fun m g _ => ref_Band m g trivial

theorem claim : Cert.Claim :=
  ⟨Cert.Band.Gen.facts, Cert.BandIdeal.Gen.facts, Cert.BandRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.BandFinite.facts,
    fun m ρ _ => Cert.Band.Gen.frame m ρ,
    fun m ρ _ => Cert.BandIdeal.Gen.frame m ρ,
    fun m ρ _ => Cert.BandIdeal.Gen.frame m ρ,
    ref_Band,
    ref_Band_pre,
    fun m ρ _ => Cert.Proj.Body.frame m ρ,
    fun m ρ _ => Cert.ProjIdeal.Body.frame m ρ,
    ref_Proj,
    fun m ρ _ => Cert.Merge.Gen.frame m ρ,
    fun m ρ _ => Cert.MergeIdeal.Gen.frame m ρ,
    ref_Merge,
    IdealRules.named_const.statement Cert.BandIdeal.κ "mask" .f32 0xF149F2CA#32 ⊥ rfl,
    Cert.BandClaim.algebraic,
    trivial,
    Cert.ProjClaim.algebraic,
    trivial,
    Cert.MergeClaim.algebraic⟩

end Cert.Proof

end
